-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)) (v5 : (c : Dev Cert.Kernel7Ideal.nD) → Buf (Elt Ideal) ((c.tc : Thread Cert.Kernel7Ideal.nD Cert.Kernel7Ideal.τ).loc Cert.Kernel7Ideal.main_v2_5)) (v6 : (c : Dev Cert.Kernel7Ideal.nD) → Buf (Elt Ideal) ((c.tc : Thread Cert.Kernel7Ideal.nD Cert.Kernel7Ideal.τ).loc Cert.Kernel7Ideal.main_v2_6)) (v7 : (c : Dev Cert.Kernel7Ideal.nD) → Buf (Elt Ideal) ((c.tc : Thread Cert.Kernel7Ideal.nD Cert.Kernel7Ideal.τ).loc Cert.Kernel7Ideal.main_v2_7)) (v8 : (c : Dev Cert.Kernel7Ideal.nD) → Buf (Elt Ideal) ((c.tc : Thread Cert.Kernel7Ideal.nD Cert.Kernel7Ideal.τ).loc Cert.Kernel7Ideal.main_v2_8)) (v9 : (c : Dev Cert.Kernel7Ideal.nD) → Buf (Elt Ideal) ((c.tc : Thread Cert.Kernel7Ideal.nD Cert.Kernel7Ideal.τ).loc Cert.Kernel7Ideal.main_v2_9)) (v10 : (c : Dev Cert.Kernel7Ideal.nD) → Buf (Elt Ideal) ((c.tc : Thread Cert.Kernel7Ideal.nD Cert.Kernel7Ideal.τ).loc Cert.Kernel7Ideal.main_v2_10)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_v2_5) = v5 c
          ∧ r.2.mem ((c.tc : Thread Cert.Kernel7Ideal.nD Cert.Kernel7Ideal.τ).loc Cert.Kernel7Ideal.main_v2_6) = v6 c
          ∧ r.2.mem ((c.tc : Thread Cert.Kernel7Ideal.nD Cert.Kernel7Ideal.τ).loc Cert.Kernel7Ideal.main_v2_7) = v7 c
          ∧ r.2.mem ((c.tc : Thread Cert.Kernel7Ideal.nD Cert.Kernel7Ideal.τ).loc Cert.Kernel7Ideal.main_v2_8) = v8 c
          ∧ r.2.mem ((c.tc : Thread Cert.Kernel7Ideal.nD Cert.Kernel7Ideal.τ).loc Cert.Kernel7Ideal.main_v2_9) = v9 c
          ∧ r.2.mem ((c.tc : Thread Cert.Kernel7Ideal.nD Cert.Kernel7Ideal.τ).loc Cert.Kernel7Ideal.main_v2_10) = v10 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v82) = v0 c
          ∧ r.2.mem ((c.tc : Thread Cert.Reference7Ideal.nD Cert.Reference7Ideal.τ).loc Cert.Reference7Ideal.main_v83) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_v47) = v3 c
          ∧ r.2.mem ((c.tc : Thread Cert.Reference7Ideal.nD Cert.Reference7Ideal.τ).loc Cert.Reference7Ideal.main_v85) = v4 c
          ∧ r.2.mem ((c.tc : Thread Cert.Reference7Ideal.nD Cert.Reference7Ideal.τ).loc Cert.Reference7Ideal.main_v86) = v5 c
          ∧ r.2.mem ((c.tc : Thread Cert.Reference7Ideal.nD Cert.Reference7Ideal.τ).loc Cert.Reference7Ideal.main_v87) = v6 c
          ∧ r.2.mem ((c.tc : Thread Cert.Reference7Ideal.nD Cert.Reference7Ideal.τ).loc Cert.Reference7Ideal.main_v88) = v7 c
          ∧ r.2.mem ((c.tc : Thread Cert.Reference7Ideal.nD Cert.Reference7Ideal.τ).loc Cert.Reference7Ideal.main_v52) = v8 c
          ∧ r.2.mem ((c.tc : Thread Cert.Reference7Ideal.nD Cert.Reference7Ideal.τ).loc Cert.Reference7Ideal.main_v89) = v9 c
          ∧ r.2.mem ((c.tc : Thread Cert.Reference7Ideal.nD Cert.Reference7Ideal.τ).loc Cert.Reference7Ideal.main_v90) = v10 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
-- ==== Pre_finite.lean ====
abbrev S6x8192x512 : Shape := ⟨3, ![6, 8192, 512]⟩
abbrev S6x8192x128 : Shape := ⟨3, ![6, 8192, 128]⟩
abbrev S1x128 : Shape := ⟨2, ![1, 128]⟩
abbrev S_ : Shape := ⟨0, ![]⟩

class Facts : Prop where
  bitsLt_bf16_f32 : FTy.bits .bf16 < FTy.bits .f32
  bcast_S_S6x8192x512 : S_.BroadcastsInDim S6x8192x512 (![] : Fin 0 → Fin S6x8192x512.rank)
  reducesTo_S6x8192x512_S_d0_1_2 : S6x8192x512.ReducesTo [0, 1, 2] S_
  h_S_ : 0 < S_.numel
  bcast_S_S6x8192x128 : S_.BroadcastsInDim S6x8192x128 (![] : Fin 0 → Fin S6x8192x128.rank)
  reducesTo_S6x8192x128_S_d0_1_2 : S6x8192x128.ReducesTo [0, 1, 2] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v14 : IVec S_ 1) (main_v15 : FVec F S1x128 .f32) (main_v16 : FVec F S1x128 .f32) : IVec S_ 1 :=
  let main_v17 : IVec S1x128 1 := cmpf .olt main_v15 main_v16
  let main_c_5 : IVec S_ 1 := constantI S_ 1 1#1
  let main_v18 : IVec S_ 1 := (fun x v => Host.reduce IntOp.andi x v reducesTo_S1x128_S_d0_1 h_S_) main_v17 main_c_5
  let main_v19 : IVec S_ 1 := andi main_v14 main_v18
  main_v19

def fn {F : FTy → Type} [FloatOps F] (main_arg0 : FVec F S6x8192x512 .bf16) (main_arg1 : FVec F S6x8192x128 .f32) (main_arg2 : FVec F S1x128 .f32) (main_arg3 : FVec F S1x128 .f32) : IVec S_ 1 :=
  let main_v0 : FVec F S6x8192x512 .f32 := (extf .f32 · bitsLt_bf16_f32) main_arg0
  let main_v1 : FVec F S6x8192x512 .f32 := Host.absf main_v0
  let main_cst : FVec F S_ .f32 := constant S_ .f32 0x7F800000#32
  let main_v2 : FVec F S6x8192x512 .f32 := broadcastInDim S6x8192x512 ![] bcast_S_S6x8192x512 main_cst
  let main_v3 : IVec S6x8192x512 1 := cmpf .olt main_v1 main_v2
  let main_c : IVec S_ 1 := constantI S_ 1 1#1
  let main_v4 : IVec S_ 1 := (fun x v => Host.reduce IntOp.andi x v reducesTo_S6x8192x512_S_d0_1_2 h_S_) main_v3 main_c
  let main_v5 : FVec F S6x8192x128 .f32 := Host.absf main_arg1
  let main_cst_0 : FVec F S_ .f32 := constant S_ .f32 0x7F800000#32
  let main_v6 : FVec F S6x8192x128 .f32 := broadcastInDim S6x8192x128 ![] bcast_S_S6x8192x128 main_cst_0
  let main_v7 : IVec S6x8192x128 1 := cmpf .olt main_v5 main_v6
  let main_c_1 : IVec S_ 1 := constantI S_ 1 1#1
  let main_v8 : IVec S_ 1 := (fun x v => Host.reduce IntOp.andi x v reducesTo_S6x8192x128_S_d0_1_2 h_S_) main_v7 main_c_1
  let main_v9 : IVec S_ 1 := andi main_v4 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  let main_v15 : FVec F S1x128 .f32 := Host.absf main_arg3
  let main_cst_4 : FVec F S_ .f32 := constant S_ .f32 0x7F800000#32
  let main_v16 : FVec F S1x128 .f32 := broadcastInDim S1x128 ![] bcast_S_S1x128 main_cst_4
  fn_part1 (F := F) main_v14 main_v15 main_v16
-- ==== Kernel.lean ====
abbrev S6x8192x512 : Shape := ⟨3, ![6, 8192, 512]⟩
abbrev S6x8192x128 : Shape := ⟨3, ![6, 8192, 128]⟩
abbrev S1x128 : Shape := ⟨2, ![1, 128]⟩
abbrev S6x8192x256 : Shape := ⟨3, ![6, 8192, 256]⟩
abbrev S6x128x512 : Shape := ⟨3, ![6, 128, 512]⟩
abbrev S6x128x128 : Shape := ⟨3, ![6, 128, 128]⟩
abbrev S6x128x256 : Shape := ⟨3, ![6, 128, 256]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S1x256 : Shape := ⟨2, ![1, 256]⟩
abbrev S128x1 : Shape := ⟨2, ![128, 1]⟩

abbrev nBuf : Space → Nat
  | .hbm => 5
  | .vmem => 9
  | .smem => 0
  | _ => 0

abbrev bufTy : (tb : Table) → Fin (tcTables nBuf tb) → BufTy
  | .hbm, ⟨0, _⟩ => ⟨S6x8192x512, .bf16⟩
  | .hbm, ⟨1, _⟩ => ⟨S6x8192x128, .f32⟩
  | .hbm, ⟨2, _⟩ => ⟨S1x128, .f32⟩
  | .hbm, ⟨3, _⟩ => ⟨S1x128, .f32⟩
  | .hbm, ⟨4, _⟩ => ⟨S6x8192x256, .f32⟩
  | .local _ .vmem, ⟨0, _⟩ => ⟨S6x128x512, .bf16⟩
  | .local _ .vmem, ⟨1, _⟩ => ⟨S6x128x512, .bf16⟩
  | .local _ .vmem, ⟨2, _⟩ => ⟨S6x128x128, .f32⟩
  | .local _ .vmem, ⟨3, _⟩ => ⟨S6x128x128, .f32⟩
  | .local _ .vmem, ⟨4, _⟩ => ⟨S1x128, .f32⟩
  | .local _ .vmem, ⟨5, _⟩ => ⟨S1x128, .f32⟩
  | .local _ .vmem, ⟨6, _⟩ => ⟨S6x128x256, .f32⟩
  | .local _ .vmem, ⟨7, _⟩ => ⟨S6x128x256, .f32⟩
  | .local _ .vmem, ⟨8, _⟩ => ⟨S6x128x256, .f32⟩
  | _, _ => ⟨S6x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S6x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S6x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S6x8192x512 : Shape := ⟨3, ![6, 8192, 512]⟩
abbrev S6x8192x128 : Shape := ⟨3, ![6, 8192, 128]⟩
abbrev S1x128 : Shape := ⟨2, ![1, 128]⟩
abbrev S6x8192x256 : Shape := ⟨3, ![6, 8192, 256]⟩
abbrev S6x8192x4x64 : Shape := ⟨4, ![6, 8192, 4, 64]⟩
abbrev S6x8192x2x64 : Shape := ⟨4, ![6, 8192, 2, 64]⟩
abbrev S6x8192x2x2x64 : Shape := ⟨5, ![6, 8192, 2, 2, 64]⟩
abbrev S6x8192x4 : Shape := ⟨3, ![6, 8192, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S64x64 : Shape := ⟨2, ![64, 64]⟩
abbrev S6x4x64x64 : Shape := ⟨4, ![6, 4, 64, 64]⟩
abbrev S6x128x64x4x64 : Shape := ⟨5, ![6, 128, 64, 4, 64]⟩
abbrev S128x6x4x64x64 : Shape := ⟨5, ![128, 6, 4, 64, 64]⟩
abbrev S6x8192x4x1 : Shape := ⟨4, ![6, 8192, 4, 1]⟩
abbrev S6x128x64x4x1 : Shape := ⟨5, ![6, 128, 64, 4, 1]⟩
abbrev S128x6x4x64x1 : Shape := ⟨5, ![128, 6, 4, 64, 1]⟩
abbrev S1x6x4x64x64 : Shape := ⟨5, ![1, 6, 4, 64, 64]⟩
abbrev S1x6x4x64x1 : Shape := ⟨5, ![1, 6, 4, 64, 1]⟩
abbrev S6x4x64x1 : Shape := ⟨4, ![6, 4, 64, 1]⟩
abbrev S6x4x64 : Shape := ⟨3, ![6, 4, 64]⟩
abbrev S4x1 : Shape := ⟨2, ![4, 1]⟩
abbrev S1x4x1 : Shape := ⟨3, ![1, 4, 1]⟩
abbrev S6x4x1x64 : Shape := ⟨4, ![6, 4, 1, 64]⟩
abbrev S6x4x1 : Shape := ⟨3, ![6, 4, 1]⟩
abbrev S6x4 : Shape := ⟨2, ![6, 4]⟩
abbrev S6x4x1x1 : Shape := ⟨4, ![6, 4, 1, 1]⟩

abbrev nBuf : Space → Nat
  | .hbm => 159
  | .vmem => 0
  | .smem => 0
  | _ => 0

abbrev hbmTy0_0 (i : Nat) : BufTy := match i % 128 with
  | 0 => ⟨S6x8192x512, .bf16⟩
  | 1 => ⟨S6x8192x128, .f32⟩
  | 2 => ⟨S1x128, .f32⟩
  | 3 => ⟨S1x128, .f32⟩
  | 4 => ⟨S6x8192x512, .f32⟩
  | 5 => ⟨S6x8192x256, .f32⟩
  | 6 => ⟨S6x8192x128, .f32⟩
  | 7 => ⟨S6x8192x128, .f32⟩
  | 8 => ⟨S6x8192x4x64, .f32⟩
  | 9 => ⟨S6x8192x2x64, .f32⟩
  | 10 => ⟨S6x8192x2x2x64, .f32⟩
  | 11 => ⟨S6x8192x4x64, .f32⟩
  | 12 => ⟨S6x8192x2x64, .f32⟩
  | 13 => ⟨S6x8192x2x2x64, .f32⟩
  | 14 => ⟨S6x8192x4x64, .f32⟩
  | 15 => ⟨S6x8192x4, .f32⟩
  | 16 => ⟨S1x4, .f32⟩
  | 17 => ⟨S4, .f32⟩
  | 18 => ⟨S1x1x4, .f32⟩
  | 19 => ⟨S6x8192x4, .f32⟩
  | 20 => ⟨S6x8192x4, .f32⟩
  | 21 => ⟨S_, .f32⟩
  | 22 => ⟨S6x8192x4, .f32⟩
  | 23 => ⟨S6x8192x4, .f32⟩
  | 24 => ⟨S6x8192x4, .f32⟩
  | 25 => ⟨S6x8192x4, .f32⟩
  | 26 => ⟨S6x8192x4, .i1⟩
  | 27 => ⟨S6x8192x4, .f32⟩
  | 28 => ⟨S6x8192x4, .f32⟩
  | 29 => ⟨S6x8192x4, .f32⟩
  | 30 => ⟨S6x8192x4, .f32⟩
  | 31 => ⟨S6x8192x4, .f32⟩
  | 32 => ⟨S6x8192x4, .f32⟩
  | 33 => ⟨S6x8192x4, .f32⟩
  | 34 => ⟨S6x8192x4, .f32⟩
  | 35 => ⟨S1x4, .f32⟩
  | 36 => ⟨S4, .f32⟩
  | 37 => ⟨S_, .i1⟩
  | 38 => ⟨S64x64, .i1⟩
  | 39 => ⟨S64x64, .i32⟩
  | 40 => ⟨S_, .i32⟩
  | 41 => ⟨S64x64, .i32⟩
  | 42 => ⟨S64x64, .i32⟩
  | 43 => ⟨S64x64, .i32⟩
  | 44 => ⟨S64x64, .i1⟩
  | 45 => ⟨S_, .i1⟩
  | 46 => ⟨S64x64, .i1⟩
  | 47 => ⟨S64x64, .i1⟩
  | 48 => ⟨S_, .f32⟩
  | 49 => ⟨S6x4x64x64, .f32⟩
  | 50 => ⟨S6x128x64x4x64, .f32⟩
  | 51 => ⟨S128x6x4x64x64, .f32⟩
  | 52 => ⟨S6x8192x4x1, .f32⟩
  | 53 => ⟨S6x128x64x4x1, .f32⟩
  | 54 => ⟨S128x6x4x64x1, .f32⟩
  | 55 => ⟨S6x128x64x4x64, .f32⟩
  | 56 => ⟨S128x6x4x64x64, .f32⟩
  | 57 => ⟨S6x128x64x4x64, .f32⟩
  | 58 => ⟨S128x6x4x64x64, .f32⟩
  | 59 => ⟨S_, .f32⟩
  | 60 => ⟨S128x6x4x64x64, .f32⟩
  | 61 => ⟨S_, .i32⟩
  | 62 => ⟨S128x6x4x64x64, .f32⟩
  | 63 => ⟨S128x6x4x64x1, .f32⟩
  | 64 => ⟨S128x6x4x64x64, .f32⟩
  | 65 => ⟨S128x6x4x64x64, .f32⟩
  | 66 => ⟨S4, .f32⟩
  | 67 => ⟨S64x64, .i1⟩
  | 68 => ⟨S_, .i32⟩
  | 69 => ⟨S6x4x64x64, .f32⟩
  | 70 => ⟨S128x6x4x64x64, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x6x4x64x64, .f32⟩
  | 78 => ⟨S6x4x64x64, .f32⟩
  | 79 => ⟨S_, .i32⟩
  | 80 => ⟨S_, .i32⟩
  | 81 => ⟨S_, .i32⟩
  | 82 => ⟨S_, .i32⟩
  | 83 => ⟨S1x6x4x64x1, .f32⟩
  | 84 => ⟨S6x4x64x1, .f32⟩
  | 85 => ⟨S_, .i32⟩
  | 86 => ⟨S_, .i32⟩
  | 87 => ⟨S_, .i32⟩
  | 88 => ⟨S_, .i32⟩
  | 89 => ⟨S1x6x4x64x64, .f32⟩
  | 90 => ⟨S6x4x64x64, .f32⟩
  | 91 => ⟨S_, .i32⟩
  | 92 => ⟨S_, .i32⟩
  | 93 => ⟨S_, .i32⟩
  | 94 => ⟨S_, .i32⟩
  | 95 => ⟨S1x6x4x64x64, .f32⟩
  | 96 => ⟨S6x4x64x64, .f32⟩
  | 97 => ⟨S6x4x64, .f32⟩
  | 98 => ⟨S4x1, .f32⟩
  | 99 => ⟨S1x4x1, .f32⟩
  | 100 => ⟨S6x4x64, .f32⟩
  | 101 => ⟨S6x4x64, .f32⟩
  | 102 => ⟨S_, .f32⟩
  | 103 => ⟨S_, .f32⟩
  | 104 => ⟨S6x4x64, .f32⟩
  | 105 => ⟨S6x4x64x1, .f32⟩
  | 106 => ⟨S6x4x1x64, .f32⟩
  | 107 => ⟨S6x4x64x64, .f32⟩
  | 108 => ⟨S6x4x64x64, .f32⟩
  | 109 => ⟨S6x4x64x64, .f32⟩
  | 110 => ⟨S_, .f32⟩
  | 111 => ⟨S_, .f32⟩
  | 112 => ⟨S6x4x64x64, .i1⟩
  | 113 => ⟨S6x4x64x64, .f32⟩
  | 114 => ⟨S6x4x64x64, .f32⟩
  | 115 => ⟨S6x4x64x64, .f32⟩
  | 116 => ⟨S_, .f32⟩
  | 117 => ⟨S_, .f32⟩
  | 118 => ⟨S6x4x64x64, .i1⟩
  | 119 => ⟨S6x4x64x64, .f32⟩
  | 120 => ⟨S6x4x64x64, .f32⟩
  | 121 => ⟨S6x4x64x1, .f32⟩
  | 122 => ⟨S6x4x64x64, .f32⟩
  | 123 => ⟨S6x4x64x64, .f32⟩
  | 124 => ⟨S6x4x64x64, .f32⟩
  | 125 => ⟨S6x4x64x64, .f32⟩
  | 126 => ⟨S6x4x64x64, .f32⟩
  | 127 => ⟨S6x4x64, .f32⟩
  | _ => ⟨S6x8192x512, .bf16⟩

abbrev hbmTy0_1 (i : Nat) : BufTy := match i % 128 with
  | 0 => ⟨S6x4x64x1, .f32⟩
  | 1 => ⟨S6x4x64x64, .f32⟩
  | 2 => ⟨S6x4x64x64, .f32⟩
  | 3 => ⟨S6x4x64x64, .f32⟩
  | 4 => ⟨S6x4x64x64, .f32⟩
  | 5 => ⟨S6x4x1, .f32⟩
  | 6 => ⟨S6x4, .f32⟩
  | 7 => ⟨S6x4, .f32⟩
  | 8 => ⟨S6x4x1x1, .f32⟩
  | 9 => ⟨S6x4x64x64, .f32⟩
  | 10 => ⟨S6x4x64x64, .f32⟩
  | 11 => ⟨S6x4x1, .f32⟩
  | 12 => ⟨S6x4x64, .f32⟩
  | 13 => ⟨S6x4x64, .f32⟩
  | 14 => ⟨S6x4x64, .f32⟩
  | 15 => ⟨S6x4x64x1, .f32⟩
  | 16 => ⟨S6x4x64x64, .f32⟩
  | 17 => ⟨S6x4x64x64, .f32⟩
  | 18 => ⟨S6x4x64x64, .f32⟩
  | 19 => ⟨S6x4x64x64, .f32⟩
  | 20 => ⟨S1x6x4x64x64, .f32⟩
  | 21 => ⟨S_, .i32⟩
  | 22 => ⟨S_, .i32⟩
  | 23 => ⟨S_, .i32⟩
  | 24 => ⟨S_, .i32⟩
  | 25 => ⟨S128x6x4x64x64, .f32⟩
  | 26 => ⟨S_, .i32⟩
  | 27 => ⟨S_, .i32⟩
  | 28 => ⟨S6x128x64x4x64, .f32⟩
  | 29 => ⟨S6x8192x4x64, .f32⟩
  | 30 => ⟨S6x8192x256, .f32⟩
  | _ => ⟨S6x8192x512, .bf16⟩

abbrev hbmTy (i : Nat) : BufTy := match i / 128 with
  | 0 => hbmTy0_0 i
  | 1 => hbmTy0_1 i
  | _ => ⟨S6x8192x512, .bf16⟩

abbrev bufTy : (tb : Table) → Fin (tcTables nBuf tb) → BufTy
  | .hbm, ⟨i, _⟩ => hbmTy i
  | _, _ => ⟨S6x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_0 : Ref sig .tc := ⟨.hbm, 45, rfl⟩
abbrev main_call1_v5 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_0 : Ref sig .tc := ⟨.hbm, 59, rfl⟩
abbrev main_v32 : Ref sig .tc := ⟨.hbm, 60, rfl⟩
abbrev main_c_1 : Ref sig .tc := ⟨.hbm, 61, rfl⟩
abbrev main_v33_0 : Ref sig .tc := ⟨.hbm, 62, rfl⟩
abbrev main_v33_1 : Ref sig .tc := ⟨.hbm, 63, rfl⟩
abbrev main_v33_2 : Ref sig .tc := ⟨.hbm, 64, rfl⟩
abbrev main_v33_3 : Ref sig .tc := ⟨.hbm, 65, rfl⟩
abbrev main_v33_4 : Ref sig .tc := ⟨.hbm, 66, rfl⟩
abbrev main_v33_5 : Ref sig .tc := ⟨.hbm, 67, rfl⟩
abbrev main_v33_6 : Ref sig .tc := ⟨.hbm, 68, rfl⟩
abbrev main_v33_7 : Ref sig .tc := ⟨.hbm, 69, rfl⟩
abbrev main_v33_8 : Ref sig .tc := ⟨.hbm, 70, rfl⟩
abbrev main_while0c_c_10 : Ref sig .tc := ⟨.hbm, 71, rfl⟩
abbrev main_while0c_v37 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_c_2 : Ref sig .tc := ⟨.hbm, 76, rfl⟩
abbrev main_while0b_call2_v0 : Ref sig .tc := ⟨.hbm, 77, rfl⟩
abbrev main_while0b_v37 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v38 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v39 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v40 : Ref sig .tc := ⟨.hbm, 96, rfl⟩
abbrev main_while0b_v41 : Ref sig .tc := ⟨.hbm, 97, rfl⟩
abbrev main_while0b_v42 : Ref sig .tc := ⟨.hbm, 98, rfl⟩
abbrev main_while0b_v43 : Ref sig .tc := ⟨.hbm, 99, rfl⟩
abbrev main_while0b_v44 : Ref sig .tc := ⟨.hbm, 100, rfl⟩
abbrev main_while0b_v45 : Ref sig .tc := ⟨.hbm, 101, rfl⟩
abbrev main_while0b_call6_call0_cst : Ref sig .tc := ⟨.hbm, 102, rfl⟩
abbrev main_while0b_call6_call0_v0 : Ref sig .tc := ⟨.hbm, 103, rfl⟩
abbrev main_while0b_v46 : Ref sig .tc := ⟨.hbm, 104, rfl⟩
abbrev main_while0b_v47 : Ref sig .tc := ⟨.hbm, 105, rfl⟩
abbrev main_while0b_v48 : Ref sig .tc := ⟨.hbm, 106, rfl⟩
abbrev main_while0b_v49 : Ref sig .tc := ⟨.hbm, 107, rfl⟩
abbrev main_while0b_v50 : Ref sig .tc := ⟨.hbm, 108, rfl⟩
abbrev main_while0b_v51 : Ref sig .tc := ⟨.hbm, 109, rfl⟩
abbrev main_while0b_cst_10 : Ref sig .tc := ⟨.hbm, 110, rfl⟩
abbrev main_while0b_call7_v0 : Ref sig .tc := ⟨.hbm, 111, rfl⟩
abbrev main_while0b_call7_v1 : Ref sig .tc := ⟨.hbm, 112, rfl⟩
abbrev main_while0b_call7_v2 : Ref sig .tc := ⟨.hbm, 113, rfl⟩
abbrev main_while0b_v52 : Ref sig .tc := ⟨.hbm, 114, rfl⟩
abbrev main_while0b_v53 : Ref sig .tc := ⟨.hbm, 115, rfl⟩
abbrev main_while0b_cst_11 : Ref sig .tc := ⟨.hbm, 116, rfl⟩
abbrev main_while0b_call8_v0 : Ref sig .tc := ⟨.hbm, 117, rfl⟩
abbrev main_while0b_call8_v1 : Ref sig .tc := ⟨.hbm, 118, rfl⟩
abbrev main_while0b_call8_v2 : Ref sig .tc := ⟨.hbm, 119, rfl⟩
abbrev main_while0b_v54 : Ref sig .tc := ⟨.hbm, 120, rfl⟩
abbrev main_while0b_v55 : Ref sig .tc := ⟨.hbm, 121, rfl⟩
abbrev main_while0b_v56 : Ref sig .tc := ⟨.hbm, 122, rfl⟩
abbrev main_while0b_v57 : Ref sig .tc := ⟨.hbm, 123, rfl⟩
abbrev main_while0b_v58 : Ref sig .tc := ⟨.hbm, 124, rfl⟩
abbrev main_while0b_v59 : Ref sig .tc := ⟨.hbm, 125, rfl⟩
abbrev main_while0b_v60 : Ref sig .tc := ⟨.hbm, 126, rfl⟩
abbrev main_while0b_v61 : Ref sig .tc := ⟨.hbm, 127, rfl⟩
abbrev main_while0b_v62 : Ref sig .tc := ⟨.hbm, 128, rfl⟩
abbrev main_while0b_v63 : Ref sig .tc := ⟨.hbm, 129, rfl⟩
abbrev main_while0b_v64 : Ref sig .tc := ⟨.hbm, 130, rfl⟩
abbrev main_while0b_v65 : Ref sig .tc := ⟨.hbm, 131, rfl⟩
abbrev main_while0b_v66 : Ref sig .tc := ⟨.hbm, 132, rfl⟩
abbrev main_while0b_v67 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_v79 : Ref sig .tc := ⟨.hbm, 145, rfl⟩
abbrev main_while0b_v80 : Ref sig .tc := ⟨.hbm, 146, rfl⟩
abbrev main_while0b_v81 : Ref sig .tc := ⟨.hbm, 147, rfl⟩
abbrev main_while0b_call9_v0 : Ref sig .tc := ⟨.hbm, 148, rfl⟩
abbrev main_while0b_call9_c : Ref sig .tc := ⟨.hbm, 149, rfl⟩
abbrev main_while0b_call9_c_0 : Ref sig .tc := ⟨.hbm, 150, rfl⟩
abbrev main_while0b_call9_c_1 : Ref sig .tc := ⟨.hbm, 151, rfl⟩
abbrev main_while0b_call9_c_2 : Ref sig .tc := ⟨.hbm, 152, rfl⟩
abbrev main_while0b_v82 : Ref sig .tc := ⟨.hbm, 153, rfl⟩
abbrev main_while0b_c_12 : Ref sig .tc := ⟨.hbm, 154, rfl⟩
abbrev main_while0b_v83 : Ref sig .tc := ⟨.hbm, 155, rfl⟩
abbrev main_v34 : Ref sig .tc := ⟨.hbm, 156, rfl⟩
abbrev main_v35 : Ref sig .tc := ⟨.hbm, 157, rfl⟩
abbrev main_v36 : Ref sig .tc := ⟨.hbm, 158, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S6x8192x512 : Shape := ⟨3, ![6, 8192, 512]⟩
abbrev S6x8192x128 : Shape := ⟨3, ![6, 8192, 128]⟩
abbrev S1x128 : Shape := ⟨2, ![1, 128]⟩
abbrev S6x8192x256 : Shape := ⟨3, ![6, 8192, 256]⟩
abbrev S1x256 : Shape := ⟨2, ![1, 256]⟩
abbrev S6x128x512 : Shape := ⟨3, ![6, 128, 512]⟩
abbrev S6x128x128 : Shape := ⟨3, ![6, 128, 128]⟩
abbrev S6x128x256 : Shape := ⟨3, ![6, 128, 256]⟩
abbrev S1x128x512 : Shape := ⟨3, ![1, 128, 512]⟩
abbrev S128x512 : Shape := ⟨2, ![128, 512]⟩
abbrev S1x128x128 : Shape := ⟨3, ![1, 128, 128]⟩
abbrev S128x128 : Shape := ⟨2, ![128, 128]⟩
abbrev S1x128x256 : Shape := ⟨3, ![1, 128, 256]⟩
abbrev S128x256 : Shape := ⟨2, ![128, 256]⟩
abbrev S128x1 : Shape := ⟨2, ![128, 1]⟩
abbrev S128 : Shape := ⟨1, ![128]⟩

abbrev nBuf : Space → Nat
  | .hbm => 9
  | .vmem => 15
  | .smem => 0
  | _ => 0

abbrev bufTy : (tb : Table) → Fin (tcTables nBuf tb) → BufTy
  | .hbm, ⟨0, _⟩ => ⟨S6x8192x512, .bf16⟩
  | .hbm, ⟨1, _⟩ => ⟨S6x8192x128, .f32⟩
  | .hbm, ⟨2, _⟩ => ⟨S1x128, .f32⟩
  | .hbm, ⟨3, _⟩ => ⟨S1x128, .f32⟩
  | .hbm, ⟨4, _⟩ => ⟨S6x8192x256, .f32⟩
  | .hbm, ⟨5, _⟩ => ⟨S6x8192x256, .bf16⟩
  | .hbm, ⟨6, _⟩ => ⟨S1x256, .f32⟩
  | .hbm, ⟨7, _⟩ => ⟨S1x256, .f32⟩
  | .hbm, ⟨8, _⟩ => ⟨S6x8192x256, .bf16⟩
  | .local _ .vmem, ⟨0, _⟩ => ⟨S6x128x512, .bf16⟩
  | .local _ .vmem, ⟨1, _⟩ => ⟨S6x128x512, .bf16⟩
  | .local _ .vmem, ⟨2, _⟩ => ⟨S6x128x128, .f32⟩
  | .local _ .vmem, ⟨3, _⟩ => ⟨S6x128x128, .f32⟩
  | .local _ .vmem, ⟨4, _⟩ => ⟨S1x128, .f32⟩
  | .local _ .vmem, ⟨5, _⟩ => ⟨S1x128, .f32⟩
  | .local _ .vmem, ⟨6, _⟩ => ⟨S6x128x256, .f32⟩
  | .local _ .vmem, ⟨7, _⟩ => ⟨S6x128x256, .f32⟩
  | .local _ .vmem, ⟨8, _⟩ => ⟨S6x128x256, .bf16⟩
  | .local _ .vmem, ⟨9, _⟩ => ⟨S6x128x256, .bf16⟩
  | .local _ .vmem, ⟨10, _⟩ => ⟨S1x256, .f32⟩
  | .local _ .vmem, ⟨11, _⟩ => ⟨S1x256, .f32⟩
  | .local _ .vmem, ⟨12, _⟩ => ⟨S6x128x256, .bf16⟩
  | .local _ .vmem, ⟨13, _⟩ => ⟨S6x128x256, .bf16⟩
  | .local _ .vmem, ⟨14, _⟩ => ⟨S6x128x256, .f32⟩
  | _, _ => ⟨S6x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

abbrev stage0_0 : Fin 2 → Memref sig .tc .vmem S6x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S6x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S6x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S6x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S6x8192x512 : Shape := ⟨3, ![6, 8192, 512]⟩
abbrev S6x8192x128 : Shape := ⟨3, ![6, 8192, 128]⟩
abbrev S1x128 : Shape := ⟨2, ![1, 128]⟩
abbrev S6x8192x256 : Shape := ⟨3, ![6, 8192, 256]⟩
abbrev S1x256 : Shape := ⟨2, ![1, 256]⟩
abbrev S6x8192x4x64 : Shape := ⟨4, ![6, 8192, 4, 64]⟩
abbrev S6x8192x2x64 : Shape := ⟨4, ![6, 8192, 2, 64]⟩
abbrev S6x8192x2x2x64 : Shape := ⟨5, ![6, 8192, 2, 2, 64]⟩
abbrev S6x8192x4 : Shape := ⟨3, ![6, 8192, 4]⟩
abbrev S1x4 : Shape := ⟨2, ![1, 4]⟩
abbrev S4 : Shape := ⟨1, ![4]⟩
abbrev S1x1x4 : Shape := ⟨3, ![1, 1, 4]⟩
abbrev S_ : Shape := ⟨0, ![]⟩
abbrev S64x64 : Shape := ⟨2, ![64, 64]⟩
abbrev S6x4x64x64 : Shape := ⟨4, ![6, 4, 64, 64]⟩
abbrev S6x128x64x4x64 : Shape := ⟨5, ![6, 128, 64, 4, 64]⟩
abbrev S128x6x4x64x64 : Shape := ⟨5, ![128, 6, 4, 64, 64]⟩
abbrev S6x8192x4x1 : Shape := ⟨4, ![6, 8192, 4, 1]⟩
abbrev S6x128x64x4x1 : Shape := ⟨5, ![6, 128, 64, 4, 1]⟩
abbrev S128x6x4x64x1 : Shape := ⟨5, ![128, 6, 4, 64, 1]⟩
abbrev S1x6x4x64x64 : Shape := ⟨5, ![1, 6, 4, 64, 64]⟩
abbrev S1x6x4x64x1 : Shape := ⟨5, ![1, 6, 4, 64, 1]⟩
abbrev S6x4x64x1 : Shape := ⟨4, ![6, 4, 64, 1]⟩
abbrev S6x4x64 : Shape := ⟨3, ![6, 4, 64]⟩
abbrev S4x1 : Shape := ⟨2, ![4, 1]⟩
abbrev S1x4x1 : Shape := ⟨3, ![1, 4, 1]⟩
abbrev S6x4x1x64 : Shape := ⟨4, ![6, 4, 1, 64]⟩
abbrev S6x4x1 : Shape := ⟨3, ![6, 4, 1]⟩
abbrev S6x4 : Shape := ⟨2, ![6, 4]⟩
abbrev S6x4x1x1 : Shape := ⟨4, ![6, 4, 1, 1]⟩
abbrev S256 : Shape := ⟨1, ![256]⟩
abbrev S1x1x256 : Shape := ⟨3, ![1, 1, 256]⟩
abbrev S6x8192 : Shape := ⟨2, ![6, 8192]⟩
abbrev S6x8192x1 : Shape := ⟨3, ![6, 8192, 1]⟩

abbrev nBuf : Space → Nat
  | .hbm => 205
  | .vmem => 0
  | .smem => 0
  | _ => 0

abbrev hbmTy0_0 (i : Nat) : BufTy := match i % 128 with
  | 0 => ⟨S6x8192x512, .bf16⟩
  | 1 => ⟨S6x8192x128, .f32⟩
  | 2 => ⟨S1x128, .f32⟩
  | 3 => ⟨S1x128, .f32⟩
  | 4 => ⟨S6x8192x256, .f32⟩
  | 5 => ⟨S6x8192x256, .bf16⟩
  | 6 => ⟨S1x256, .f32⟩
  | 7 => ⟨S1x256, .f32⟩
  | 8 => ⟨S6x8192x512, .f32⟩
  | 9 => ⟨S6x8192x256, .f32⟩
  | 10 => ⟨S6x8192x128, .f32⟩
  | 11 => ⟨S6x8192x128, .f32⟩
  | 12 => ⟨S6x8192x4x64, .f32⟩
  | 13 => ⟨S6x8192x2x64, .f32⟩
  | 14 => ⟨S6x8192x2x2x64, .f32⟩
  | 15 => ⟨S6x8192x4x64, .f32⟩
  | 16 => ⟨S6x8192x2x64, .f32⟩
  | 17 => ⟨S6x8192x2x2x64, .f32⟩
  | 18 => ⟨S6x8192x4x64, .f32⟩
  | 19 => ⟨S6x8192x4, .f32⟩
  | 20 => ⟨S1x4, .f32⟩
  | 21 => ⟨S4, .f32⟩
  | 22 => ⟨S1x1x4, .f32⟩
  | 23 => ⟨S6x8192x4, .f32⟩
  | 24 => ⟨S6x8192x4, .f32⟩
  | 25 => ⟨S_, .f32⟩
  | 26 => ⟨S6x8192x4, .f32⟩
  | 27 => ⟨S6x8192x4, .f32⟩
  | 28 => ⟨S6x8192x4, .f32⟩
  | 29 => ⟨S6x8192x4, .f32⟩
  | 30 => ⟨S6x8192x4, .i1⟩
  | 31 => ⟨S6x8192x4, .f32⟩
  | 32 => ⟨S6x8192x4, .f32⟩
  | 33 => ⟨S6x8192x4, .f32⟩
  | 34 => ⟨S6x8192x4, .f32⟩
  | 35 => ⟨S6x8192x4, .f32⟩
  | 36 => ⟨S6x8192x4, .f32⟩
  | 37 => ⟨S6x8192x4, .f32⟩
  | 38 => ⟨S6x8192x4, .f32⟩
  | 39 => ⟨S6x8192x4x64, .f32⟩
  | 40 => ⟨S6x8192x4, .f32⟩
  | 41 => ⟨S1x4, .f32⟩
  | 42 => ⟨S4, .f32⟩
  | 43 => ⟨S6x8192x4x64, .f32⟩
  | 44 => ⟨S6x8192x4x64, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S_, .f32⟩
  | 57 => ⟨S6x4x64x64, .f32⟩
  | 58 => ⟨S6x128x64x4x64, .f32⟩
  | 59 => ⟨S128x6x4x64x64, .f32⟩
  | 60 => ⟨S6x8192x4x1, .f32⟩
  | 61 => ⟨S6x128x64x4x1, .f32⟩
  | 62 => ⟨S128x6x4x64x1, .f32⟩
  | 63 => ⟨S6x128x64x4x64, .f32⟩
  | 64 => ⟨S128x6x4x64x64, .f32⟩
  | 65 => ⟨S6x128x64x4x64, .f32⟩
  | 66 => ⟨S128x6x4x64x64, .f32⟩
  | 67 => ⟨S_, .f32⟩
  | 68 => ⟨S128x6x4x64x64, .f32⟩
  | 69 => ⟨S_, .i32⟩
  | 70 => ⟨S128x6x4x64x64, .f32⟩
  | 71 => ⟨S128x6x4x64x1, .f32⟩
  | 72 => ⟨S128x6x4x64x64, .f32⟩
  | 73 => ⟨S128x6x4x64x64, .f32⟩
  | 74 => ⟨S4, .f32⟩
  | 75 => ⟨S64x64, .i1⟩
  | 76 => ⟨S_, .i32⟩
  | 77 => ⟨S6x4x64x64, .f32⟩
  | 78 => ⟨S128x6x4x64x64, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x6x4x64x64, .f32⟩
  | 86 => ⟨S6x4x64x64, .f32⟩
  | 87 => ⟨S_, .i32⟩
  | 88 => ⟨S_, .i32⟩
  | 89 => ⟨S_, .i32⟩
  | 90 => ⟨S_, .i32⟩
  | 91 => ⟨S1x6x4x64x1, .f32⟩
  | 92 => ⟨S6x4x64x1, .f32⟩
  | 93 => ⟨S_, .i32⟩
  | 94 => ⟨S_, .i32⟩
  | 95 => ⟨S_, .i32⟩
  | 96 => ⟨S_, .i32⟩
  | 97 => ⟨S1x6x4x64x64, .f32⟩
  | 98 => ⟨S6x4x64x64, .f32⟩
  | 99 => ⟨S_, .i32⟩
  | 100 => ⟨S_, .i32⟩
  | 101 => ⟨S_, .i32⟩
  | 102 => ⟨S_, .i32⟩
  | 103 => ⟨S1x6x4x64x64, .f32⟩
  | 104 => ⟨S6x4x64x64, .f32⟩
  | 105 => ⟨S6x4x64, .f32⟩
  | 106 => ⟨S4x1, .f32⟩
  | 107 => ⟨S1x4x1, .f32⟩
  | 108 => ⟨S6x4x64, .f32⟩
  | 109 => ⟨S6x4x64, .f32⟩
  | 110 => ⟨S_, .f32⟩
  | 111 => ⟨S_, .f32⟩
  | 112 => ⟨S6x4x64, .f32⟩
  | 113 => ⟨S6x4x64x1, .f32⟩
  | 114 => ⟨S6x4x1x64, .f32⟩
  | 115 => ⟨S6x4x64x64, .f32⟩
  | 116 => ⟨S6x4x64x64, .f32⟩
  | 117 => ⟨S6x4x64x64, .f32⟩
  | 118 => ⟨S_, .f32⟩
  | 119 => ⟨S_, .f32⟩
  | 120 => ⟨S6x4x64x64, .i1⟩
  | 121 => ⟨S6x4x64x64, .f32⟩
  | 122 => ⟨S6x4x64x64, .f32⟩
  | 123 => ⟨S6x4x64x64, .f32⟩
  | 124 => ⟨S_, .f32⟩
  | 125 => ⟨S_, .f32⟩
  | 126 => ⟨S6x4x64x64, .i1⟩
  | 127 => ⟨S6x4x64x64, .f32⟩
  | _ => ⟨S6x8192x512, .bf16⟩

abbrev hbmTy0_1 (i : Nat) : BufTy := match i % 128 with
  | 0 => ⟨S6x4x64x64, .f32⟩
  | 1 => ⟨S6x4x64x1, .f32⟩
  | 2 => ⟨S6x4x64x64, .f32⟩
  | 3 => ⟨S6x4x64x64, .f32⟩
  | 4 => ⟨S6x4x64x64, .f32⟩
  | 5 => ⟨S6x4x64x64, .f32⟩
  | 6 => ⟨S6x4x64x64, .f32⟩
  | 7 => ⟨S6x4x64, .f32⟩
  | 8 => ⟨S6x4x64x1, .f32⟩
  | 9 => ⟨S6x4x64x64, .f32⟩
  | 10 => ⟨S6x4x64x64, .f32⟩
  | 11 => ⟨S6x4x64x64, .f32⟩
  | 12 => ⟨S6x4x64x64, .f32⟩
  | 13 => ⟨S6x4x1, .f32⟩
  | 14 => ⟨S6x4, .f32⟩
  | 15 => ⟨S6x4, .f32⟩
  | 16 => ⟨S6x4x1x1, .f32⟩
  | 17 => ⟨S6x4x64x64, .f32⟩
  | 18 => ⟨S6x4x64x64, .f32⟩
  | 19 => ⟨S6x4x1, .f32⟩
  | 20 => ⟨S6x4x64, .f32⟩
  | 21 => ⟨S6x4x64, .f32⟩
  | 22 => ⟨S6x4x64, .f32⟩
  | 23 => ⟨S6x4x64x1, .f32⟩
  | 24 => ⟨S6x4x64x64, .f32⟩
  | 25 => ⟨S6x4x64x64, .f32⟩
  | 26 => ⟨S6x4x64x64, .f32⟩
  | 27 => ⟨S6x4x64x64, .f32⟩
  | 28 => ⟨S1x6x4x64x64, .f32⟩
  | 29 => ⟨S_, .i32⟩
  | 30 => ⟨S_, .i32⟩
  | 31 => ⟨S_, .i32⟩
  | 32 => ⟨S_, .i32⟩
  | 33 => ⟨S128x6x4x64x64, .f32⟩
  | 34 => ⟨S_, .i32⟩
  | 35 => ⟨S_, .i32⟩
  | 36 => ⟨S6x128x64x4x64, .f32⟩
  | 37 => ⟨S6x8192x4x64, .f32⟩
  | 38 => ⟨S6x8192x4x64, .f32⟩
  | 39 => ⟨S6x8192x256, .f32⟩
  | 40 => ⟨S6x8192x256, .f32⟩
  | 41 => ⟨S256, .f32⟩
  | 42 => ⟨S6x8192x256, .bf16⟩
  | 43 => ⟨S6x8192x256, .f32⟩
  | 44 => ⟨S1x1x256, .f32⟩
  | 45 => ⟨S6x8192x256, .f32⟩
  | 46 => ⟨S6x8192x256, .f32⟩
  | 47 => ⟨S6x8192x256, .f32⟩
  | 48 => ⟨S6x8192x256, .f32⟩
  | 49 => ⟨S6x8192x256, .f32⟩
  | 50 => ⟨S6x8192x256, .f32⟩
  | 51 => ⟨S_, .f32⟩
  | 52 => ⟨S6x8192x256, .f32⟩
  | 53 => ⟨S6x8192x256, .f32⟩
  | 54 => ⟨S_, .f32⟩
  | 55 => ⟨S6x8192x256, .f32⟩
  | 56 => ⟨S6x8192x256, .f32⟩
  | 57 => ⟨S6x8192x256, .f32⟩
  | 58 => ⟨S6x8192x256, .f32⟩
  | 59 => ⟨S256, .f32⟩
  | 60 => ⟨S6x8192x256, .f32⟩
  | 61 => ⟨S_, .f32⟩
  | 62 => ⟨S6x8192, .f32⟩
  | 63 => ⟨S6x8192x1, .f32⟩
  | 64 => ⟨S_, .f32⟩
  | 65 => ⟨S6x8192x1, .f32⟩
  | 66 => ⟨S6x8192x1, .f32⟩
  | 67 => ⟨S_, .f32⟩
  | 68 => ⟨S6x8192x1, .f32⟩
  | 69 => ⟨S6x8192x1, .f32⟩
  | 70 => ⟨S6x8192x1, .f32⟩
  | 71 => ⟨S6x8192x256, .f32⟩
  | 72 => ⟨S6x8192x256, .f32⟩
  | 73 => ⟨S1x1x256, .f32⟩
  | 74 => ⟨S6x8192x256, .f32⟩
  | 75 => ⟨S6x8192x256, .f32⟩
  | 76 => ⟨S6x8192x256, .bf16⟩
  | _ => ⟨S6x8192x512, .bf16⟩

abbrev hbmTy (i : Nat) : BufTy := match i / 128 with
  | 0 => hbmTy0_0 i
  | 1 => hbmTy0_1 i
  | _ => ⟨S6x8192x512, .bf16⟩

abbrev bufTy : (tb : Table) → Fin (tcTables nBuf tb) → BufTy
  | .hbm, ⟨i, _⟩ => hbmTy i
  | _, _ => ⟨S6x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_call5_v0 : Ref sig .tc := ⟨.hbm, 47, rfl⟩
abbrev main_call5_c : Ref sig .tc := ⟨.hbm, 48, rfl⟩
abbrev main_call5_v1 : Ref sig .tc := ⟨.hbm, 49, rfl⟩
abbrev main_call5_v2 : Ref sig .tc := ⟨.hbm, 50, rfl⟩
abbrev main_call5_v3 : Ref sig .tc := ⟨.hbm, 51, rfl⟩
abbrev main_call5_v4 : Ref sig .tc := ⟨.hbm, 52, rfl⟩
abbrev main_call5_c_0 : Ref sig .tc := ⟨.hbm, 53, rfl⟩
abbrev main_call5_v5 : Ref sig .tc := ⟨.hbm, 54, rfl⟩
abbrev main_v25 : Ref sig .tc := ⟨.hbm, 55, rfl⟩
abbrev main_cst : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_0 : Ref sig .tc := ⟨.hbm, 67, rfl⟩
abbrev main_v36 : Ref sig .tc := ⟨.hbm, 68, rfl⟩
abbrev main_c_1 : Ref sig .tc := ⟨.hbm, 69, rfl⟩
abbrev main_v37_0 : Ref sig .tc := ⟨.hbm, 70, rfl⟩
abbrev main_v37_1 : Ref sig .tc := ⟨.hbm, 71, rfl⟩
abbrev main_v37_2 : Ref sig .tc := ⟨.hbm, 72, rfl⟩
abbrev main_v37_3 : Ref sig .tc := ⟨.hbm, 73, rfl⟩
abbrev main_v37_4 : Ref sig .tc := ⟨.hbm, 74, rfl⟩
abbrev main_v37_5 : Ref sig .tc := ⟨.hbm, 75, rfl⟩
abbrev main_v37_6 : Ref sig .tc := ⟨.hbm, 76, rfl⟩
abbrev main_v37_7 : Ref sig .tc := ⟨.hbm, 77, rfl⟩
abbrev main_v37_8 : Ref sig .tc := ⟨.hbm, 78, rfl⟩
abbrev main_while0c_c_13 : Ref sig .tc := ⟨.hbm, 79, rfl⟩
abbrev main_while0c_v68 : Ref sig .tc := ⟨.hbm, 80, rfl⟩
abbrev main_while0b_call6_c : Ref sig .tc := ⟨.hbm, 81, rfl⟩
abbrev main_while0b_call6_c_0 : Ref sig .tc := ⟨.hbm, 82, rfl⟩
abbrev main_while0b_call6_c_1 : Ref sig .tc := ⟨.hbm, 83, rfl⟩
abbrev main_while0b_call6_c_2 : Ref sig .tc := ⟨.hbm, 84, rfl⟩
abbrev main_while0b_call6_v0 : Ref sig .tc := ⟨.hbm, 85, rfl⟩
abbrev main_while0b_v68 : Ref sig .tc := ⟨.hbm, 86, rfl⟩
abbrev main_while0b_call7_c : Ref sig .tc := ⟨.hbm, 87, rfl⟩
abbrev main_while0b_call7_c_0 : Ref sig .tc := ⟨.hbm, 88, rfl⟩
abbrev main_while0b_call7_c_1 : Ref sig .tc := ⟨.hbm, 89, rfl⟩
abbrev main_while0b_call7_c_2 : Ref sig .tc := ⟨.hbm, 90, rfl⟩
abbrev main_while0b_call7_v0 : Ref sig .tc := ⟨.hbm, 91, rfl⟩
abbrev main_while0b_v69 : Ref sig .tc := ⟨.hbm, 92, rfl⟩
abbrev main_while0b_call8_c : Ref sig .tc := ⟨.hbm, 93, rfl⟩
abbrev main_while0b_call8_c_0 : Ref sig .tc := ⟨.hbm, 94, rfl⟩
abbrev main_while0b_call8_c_1 : Ref sig .tc := ⟨.hbm, 95, rfl⟩
abbrev main_while0b_call8_c_2 : Ref sig .tc := ⟨.hbm, 96, rfl⟩
abbrev main_while0b_call8_v0 : Ref sig .tc := ⟨.hbm, 97, rfl⟩
abbrev main_while0b_v70 : Ref sig .tc := ⟨.hbm, 98, rfl⟩
abbrev main_while0b_call9_c : Ref sig .tc := ⟨.hbm, 99, rfl⟩
abbrev main_while0b_call9_c_0 : Ref sig .tc := ⟨.hbm, 100, rfl⟩
abbrev main_while0b_call9_c_1 : Ref sig .tc := ⟨.hbm, 101, rfl⟩
abbrev main_while0b_call9_c_2 : Ref sig .tc := ⟨.hbm, 102, rfl⟩
abbrev main_while0b_call9_v0 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_call10_call0_cst : Ref sig .tc := ⟨.hbm, 110, rfl⟩
abbrev main_while0b_call10_call0_v0 : Ref sig .tc := ⟨.hbm, 111, rfl⟩
abbrev main_while0b_v77 : Ref sig .tc := ⟨.hbm, 112, rfl⟩
abbrev main_while0b_v78 : Ref sig .tc := ⟨.hbm, 113, rfl⟩
abbrev main_while0b_v79 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_cst_13 : Ref sig .tc := ⟨.hbm, 118, rfl⟩
abbrev main_while0b_call11_v0 : Ref sig .tc := ⟨.hbm, 119, rfl⟩
abbrev main_while0b_call11_v1 : Ref sig .tc := ⟨.hbm, 120, rfl⟩
abbrev main_while0b_call11_v2 : Ref sig .tc := ⟨.hbm, 121, rfl⟩
abbrev main_while0b_v83 : Ref sig .tc := ⟨.hbm, 122, rfl⟩
abbrev main_while0b_v84 : Ref sig .tc := ⟨.hbm, 123, rfl⟩
abbrev main_while0b_cst_14 : Ref sig .tc := ⟨.hbm, 124, rfl⟩
abbrev main_while0b_call12_v0 : Ref sig .tc := ⟨.hbm, 125, rfl⟩
abbrev main_while0b_call12_v1 : Ref sig .tc := ⟨.hbm, 126, rfl⟩
abbrev main_while0b_call12_v2 : Ref sig .tc := ⟨.hbm, 127, rfl⟩
abbrev main_while0b_v85 : Ref sig .tc := ⟨.hbm, 128, rfl⟩
abbrev main_while0b_v86 : Ref sig .tc := ⟨.hbm, 129, rfl⟩
abbrev main_while0b_v87 : Ref sig .tc := ⟨.hbm, 130, rfl⟩
abbrev main_while0b_v88 : Ref sig .tc := ⟨.hbm, 131, rfl⟩
abbrev main_while0b_v89 : Ref sig .tc := ⟨.hbm, 132, rfl⟩
abbrev main_while0b_v90 : Ref sig .tc := ⟨.hbm, 133, rfl⟩
abbrev main_while0b_v91 : Ref sig .tc := ⟨.hbm, 134, rfl⟩
abbrev main_while0b_v92 : Ref sig .tc := ⟨.hbm, 135, rfl⟩
abbrev main_while0b_v93 : Ref sig .tc := ⟨.hbm, 136, rfl⟩
abbrev main_while0b_v94 : Ref sig .tc := ⟨.hbm, 137, rfl⟩
abbrev main_while0b_v95 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_v99 : Ref sig .tc := ⟨.hbm, 142, rfl⟩
abbrev main_while0b_v100 : Ref sig .tc := ⟨.hbm, 143, rfl⟩
abbrev main_while0b_v101 : Ref sig .tc := ⟨.hbm, 144, rfl⟩
abbrev main_while0b_v102 : Ref sig .tc := ⟨.hbm, 145, rfl⟩
abbrev main_while0b_v103 : Ref sig .tc := ⟨.hbm, 146, rfl⟩
abbrev main_while0b_v104 : Ref sig .tc := ⟨.hbm, 147, rfl⟩
abbrev main_while0b_v105 : Ref sig .tc := ⟨.hbm, 148, rfl⟩
abbrev main_while0b_v106 : Ref sig .tc := ⟨.hbm, 149, rfl⟩
abbrev main_while0b_v107 : Ref sig .tc := ⟨.hbm, 150, rfl⟩
abbrev main_while0b_v108 : Ref sig .tc := ⟨.hbm, 151, rfl⟩
abbrev main_while0b_v109 : Ref sig .tc := ⟨.hbm, 152, rfl⟩
abbrev main_while0b_v110 : Ref sig .tc := ⟨.hbm, 153, rfl⟩
abbrev main_while0b_v111 : Ref sig .tc := ⟨.hbm, 154, rfl⟩
abbrev main_while0b_v112 : Ref sig .tc := ⟨.hbm, 155, rfl⟩
abbrev main_while0b_call13_v0 : Ref sig .tc := ⟨.hbm, 156, rfl⟩
abbrev main_while0b_call13_c : Ref sig .tc := ⟨.hbm, 157, rfl⟩
abbrev main_while0b_call13_c_0 : Ref sig .tc := ⟨.hbm, 158, rfl⟩
abbrev main_while0b_call13_c_1 : Ref sig .tc := ⟨.hbm, 159, rfl⟩
abbrev main_while0b_call13_c_2 : Ref sig .tc := ⟨.hbm, 160, rfl⟩
abbrev main_while0b_v113 : Ref sig .tc := ⟨.hbm, 161, rfl⟩
abbrev main_while0b_c_15 : Ref sig .tc := ⟨.hbm, 162, rfl⟩
abbrev main_while0b_v114 : Ref sig .tc := ⟨.hbm, 163, rfl⟩
abbrev main_v38 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_v50 : Ref sig .tc := ⟨.hbm, 176, rfl⟩
abbrev main_call15_v0 : Ref sig .tc := ⟨.hbm, 177, rfl⟩
abbrev main_call15_v1 : Ref sig .tc := ⟨.hbm, 178, rfl⟩
abbrev main_call15_cst : Ref sig .tc := ⟨.hbm, 179, rfl⟩
abbrev main_call15_v2 : Ref sig .tc := ⟨.hbm, 180, rfl⟩
abbrev main_call15_v3 : Ref sig .tc := ⟨.hbm, 181, rfl⟩
abbrev main_call15_cst_0 : Ref sig .tc := ⟨.hbm, 182, rfl⟩
abbrev main_call15_v4 : Ref sig .tc := ⟨.hbm, 183, rfl⟩
abbrev main_call15_v5 : Ref sig .tc := ⟨.hbm, 184, rfl⟩
abbrev main_v51 : Ref sig .tc := ⟨.hbm, 185, rfl⟩
abbrev main_v52 : Ref sig .tc := ⟨.hbm, 186, rfl⟩
abbrev main_v53 : Ref sig .tc := ⟨.hbm, 187, rfl⟩
abbrev main_v54 : Ref sig .tc := ⟨.hbm, 188, rfl⟩
abbrev main_cst_2 : Ref sig .tc := ⟨.hbm, 189, rfl⟩
abbrev main_v55 : Ref sig .tc := ⟨.hbm, 190, rfl⟩
abbrev main_v56 : Ref sig .tc := ⟨.hbm, 191, rfl⟩
abbrev main_cst_3 : Ref sig .tc := ⟨.hbm, 192, rfl⟩
abbrev main_v57 : Ref sig .tc := ⟨.hbm, 193, rfl⟩
abbrev main_v58 : Ref sig .tc := ⟨.hbm, 194, rfl⟩
abbrev main_cst_4 : Ref sig .tc := ⟨.hbm, 195, rfl⟩
abbrev main_v59 : Ref sig .tc := ⟨.hbm, 196, rfl⟩
abbrev main_v60 : Ref sig .tc := ⟨.hbm, 197, rfl⟩
abbrev main_v61 : Ref sig .tc := ⟨.hbm, 198, rfl⟩
abbrev main_v62 : Ref sig .tc := ⟨.hbm, 199, rfl⟩
abbrev main_v63 : Ref sig .tc := ⟨.hbm, 200, rfl⟩
abbrev main_v64 : Ref sig .tc := ⟨.hbm, 201, rfl⟩
abbrev main_v65 : Ref sig .tc := ⟨.hbm, 202, rfl⟩
abbrev main_v66 : Ref sig .tc := ⟨.hbm, 203, rfl⟩
abbrev main_v67 : Ref sig .tc := ⟨.hbm, 204, rfl⟩

abbrev nD : Nat := 1
abbrev τ : Topo := Topo.v7x

variable {F : FTy → Type} [FloatOps F]

abbrev main_while0_count : Scf.Loop 32 := ⟨0#32, 128#32, 1#32⟩
-- ==== Kernel3.lean ====
abbrev S6x8192x1024 : Shape := ⟨3, ![6, 8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S6x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024x1024, .f32⟩
  | .local _ .vmem, ⟨7, _⟩ => ⟨S1x1024x1024, .f32⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S6x8192x1024 : Shape := ⟨3, ![6, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x8192x5632 : Shape := ⟨3, ![6, 8192, 5632]⟩
abbrev S6x8192x2816 : Shape := ⟨3, ![6, 8192, 2816]⟩

abbrev nBuf : Space → Nat
  | .hbm => 57
  | .vmem => 0
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S2816x1024, .f32⟩
  | .hbm, ⟨7, _⟩ => ⟨S6x8192x1024, .f32⟩
  | .hbm, ⟨8, _⟩ => ⟨S_, .f32⟩
  | .hbm, ⟨9, _⟩ => ⟨S6x8192, .f32⟩
  | .hbm, ⟨10, _⟩ => ⟨S6x8192x1, .f32⟩
  | .hbm, ⟨11, _⟩ => ⟨S_, .f32⟩
  | .hbm, ⟨12, _⟩ => ⟨S6x8192x1, .f32⟩
  | .hbm, ⟨13, _⟩ => ⟨S6x8192x1, .f32⟩
  | .hbm, ⟨14, _⟩ => ⟨S_, .f32⟩
  | .hbm, ⟨15, _⟩ => ⟨S6x8192x1, .f32⟩
  | .hbm, ⟨16, _⟩ => ⟨S6x8192x1, .f32⟩
  | .hbm, ⟨17, _⟩ => ⟨S6x8192x1, .f32⟩
  | .hbm, ⟨18, _⟩ => ⟨S6x8192x1024, .f32⟩
  | .hbm, ⟨19, _⟩ => ⟨S6x8192x1024, .f32⟩
  | .hbm, ⟨20, _⟩ => ⟨S1x1x1024, .f32⟩
  | .hbm, ⟨21, _⟩ => ⟨S6x8192x1024, .f32⟩
  | .hbm, ⟨22, _⟩ => ⟨S6x8192x1024, .f32⟩
  | .hbm, ⟨23, _⟩ => ⟨S6x8192x5632, .f32⟩
  | .hbm, ⟨24, _⟩ => ⟨S6x8192x2816, .f32⟩
  | .hbm, ⟨25, _⟩ => ⟨S6x8192x2816, .f32⟩
  | .hbm, ⟨26, _⟩ => ⟨S6x8192x2816, .f32⟩
  | .hbm, ⟨27, _⟩ => ⟨S6x8192x2816, .f32⟩
  | .hbm, ⟨28, _⟩ => ⟨S_, .f32⟩
  | .hbm, ⟨29, _⟩ => ⟨S6x8192x2816, .f32⟩
  | .hbm, ⟨30, _⟩ => ⟨S6x8192x2816, .f32⟩
  | .hbm, ⟨31, _⟩ => ⟨S_, .f32⟩
  | .hbm, ⟨32, _⟩ => ⟨S6x8192x2816, .f32⟩
  | .hbm, ⟨33, _⟩ => ⟨S6x8192x2816, .f32⟩
  | .hbm, ⟨34, _⟩ => ⟨S6x8192x2816, .f32⟩
  | .hbm, ⟨35, _⟩ => ⟨S6x8192x2816, .f32⟩
  | .hbm, ⟨36, _⟩ => ⟨S6x8192x1024, .f32⟩
  | .hbm, ⟨37, _⟩ => ⟨S6x8192x1024, .f32⟩
  | .hbm, ⟨38, _⟩ => ⟨S_, .f32⟩
  | .hbm, ⟨39, _⟩ => ⟨S6x8192, .f32⟩
  | .hbm, ⟨40, _⟩ => ⟨S6x8192x1, .f32⟩
  | .hbm, ⟨41, _⟩ => ⟨S_, .f32⟩
  | .hbm, ⟨42, _⟩ => ⟨S6x8192x1, .f32⟩
  | .hbm, ⟨43, _⟩ => ⟨S6x8192x1, .f32⟩
  | .hbm, ⟨44, _⟩ => ⟨S_, .f32⟩
  | .hbm, ⟨45, _⟩ => ⟨S6x8192x1, .f32⟩
  | .hbm, ⟨46, _⟩ => ⟨S6x8192x1, .f32⟩
  | .hbm, ⟨47, _⟩ => ⟨S6x8192x1, .f32⟩
  | .hbm, ⟨48, _⟩ => ⟨S6x8192x1024, .f32⟩
  | .hbm, ⟨49, _⟩ => ⟨S6x8192x1024, .f32⟩
  | .hbm, ⟨50, _⟩ => ⟨S1x1x1024, .f32⟩
  | .hbm, ⟨51, _⟩ => ⟨S6x8192x1024, .f32⟩
  | .hbm, ⟨52, _⟩ => ⟨S6x8192x1024, .f32⟩
  | .hbm, ⟨53, _⟩ => ⟨S_, .f32⟩
  | .hbm, ⟨54, _⟩ => ⟨S6x8192x1024, .f32⟩
  | .hbm, ⟨55, _⟩ => ⟨S6x8192x1024, .f32⟩
  | .hbm, ⟨56, _⟩ => ⟨S6x8192x1024, .f32⟩
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel4.lean ====
abbrev S6x8192x1024 : Shape := ⟨3, ![6, 8192, 1024]⟩
abbrev S6x256x8192 : Shape := ⟨3, ![6, 256, 8192]⟩
abbrev S6x8192x256 : Shape := ⟨3, ![6, 8192, 256]⟩
abbrev S1024 : Shape := ⟨1, ![1024]⟩
abbrev S1024x4096 : Shape := ⟨2, ![1024, 4096]⟩
abbrev S4x256x1024 : Shape := ⟨3, ![4, 256, 1024]⟩
abbrev S1024x1024 : Shape := ⟨2, ![1024, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1x1024x256 : Shape := ⟨3, ![1, 1024, 256]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x256x512 : Shape := ⟨3, ![1, 256, 512]⟩
abbrev S256x512 : Shape := ⟨2, ![256, 512]⟩
abbrev S256x1024 : Shape := ⟨2, ![256, 1024]⟩
abbrev S1x512x256 : Shape := ⟨3, ![1, 512, 256]⟩
abbrev S512x256 : Shape := ⟨2, ![512, 256]⟩

abbrev nBuf : Space → Nat
  | .hbm => 13
  | .vmem => 17
  | .smem => 0
  | _ => 0

abbrev bufTy : (tb : Table) → Fin (tcTables nBuf tb) → BufTy
  | .hbm, ⟨0, _⟩ => ⟨S6x8192x1024, .f32⟩
  | .hbm, ⟨1, _⟩ => ⟨S6x256x8192, .bf16⟩
  | .hbm, ⟨2, _⟩ => ⟨S6x8192x256, .bf16⟩
  | .hbm, ⟨3, _⟩ => ⟨S6x8192x256, .bf16⟩
  | .hbm, ⟨4, _⟩ => ⟨S6x8192x256, .bf16⟩
  | .hbm, ⟨5, _⟩ => ⟨S1024, .f32⟩
  | .hbm, ⟨6, _⟩ => ⟨S1024, .f32⟩
  | .hbm, ⟨7, _⟩ => ⟨S1024x4096, .bf16⟩
  | .hbm, ⟨8, _⟩ => ⟨S4x256x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S6x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024, .f32⟩
  | .local _ .vmem, ⟨11, _⟩ => ⟨S1x1024, .f32⟩
  | .local _ .vmem, ⟨12, _⟩ => ⟨S1024x4096, .bf16⟩
  | .local _ .vmem, ⟨13, _⟩ => ⟨S4x256x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S6x8192x1024 : Shape := ⟨3, ![6, 8192, 1024]⟩
abbrev S6x256x8192 : Shape := ⟨3, ![6, 256, 8192]⟩
abbrev S6x8192x256 : Shape := ⟨3, ![6, 8192, 256]⟩
abbrev S1024 : Shape := ⟨1, ![1024]⟩
abbrev S1024x4096 : Shape := ⟨2, ![1024, 4096]⟩
abbrev S4x256x1024 : Shape := ⟨3, ![4, 256, 1024]⟩
abbrev S1024x1024 : Shape := ⟨2, ![1024, 1024]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x8192x4096 : Shape := ⟨3, ![6, 8192, 4096]⟩
abbrev S6x8192x4x1024 : Shape := ⟨4, ![6, 8192, 4, 1024]⟩
abbrev S6x8192x1x1024 : Shape := ⟨4, ![6, 8192, 1, 1024]⟩
abbrev S1x256x1024 : Shape := ⟨3, ![1, 256, 1024]⟩
abbrev S256x1024 : Shape := ⟨2, ![256, 1024]⟩

abbrev nBuf : Space → Nat
  | .hbm => 95
  | .vmem => 0
  | .smem => 0
  | _ => 0

abbrev bufTy : (tb : Table) → Fin (tcTables nBuf tb) → BufTy
  | .hbm, ⟨0, _⟩ => ⟨S6x8192x1024, .f32⟩
  | .hbm, ⟨1, _⟩ => ⟨S6x256x8192, .bf16⟩
  | .hbm, ⟨2, _⟩ => ⟨S6x8192x256, .bf16⟩
  | .hbm, ⟨3, _⟩ => ⟨S6x8192x256, .bf16⟩
  | .hbm, ⟨4, _⟩ => ⟨S6x8192x256, .bf16⟩
  | .hbm, ⟨5, _⟩ => ⟨S1024, .f32⟩
  | .hbm, ⟨6, _⟩ => ⟨S1024, .f32⟩
  | .hbm, ⟨7, _⟩ => ⟨S1024x4096, .bf16⟩
  | .hbm, ⟨8, _⟩ => ⟨S4x256x1024, .bf16⟩
  | .hbm, ⟨9, _⟩ => ⟨S1024x1024, .bf16⟩
  | .hbm, ⟨10, _⟩ => ⟨S6x8192x1024, .f32⟩
  | .hbm, ⟨11, _⟩ => ⟨S_, .f32⟩
  | .hbm, ⟨12, _⟩ => ⟨S6x8192, .f32⟩
  | .hbm, ⟨13, _⟩ => ⟨S6x8192x1, .f32⟩
  | .hbm, ⟨14, _⟩ => ⟨S_, .f32⟩
  | .hbm, ⟨15, _⟩ => ⟨S6x8192x1, .f32⟩
  | .hbm, ⟨16, _⟩ => ⟨S6x8192x1, .f32⟩
  | .hbm, ⟨17, _⟩ => ⟨S_, .f32⟩
  | .hbm, ⟨18, _⟩ => ⟨S6x8192x1, .f32⟩
  | .hbm, ⟨19, _⟩ => ⟨S6x8192x1, .f32⟩
  | .hbm, ⟨20, _⟩ => ⟨S6x8192x1, .f32⟩
  | .hbm, ⟨21, _⟩ => ⟨S6x8192x1024, .f32⟩
  | .hbm, ⟨22, _⟩ => ⟨S6x8192x1024, .f32⟩
  | .hbm, ⟨23, _⟩ => ⟨S1x1x1024, .f32⟩
  | .hbm, ⟨24, _⟩ => ⟨S6x8192x1024, .f32⟩
  | .hbm, ⟨25, _⟩ => ⟨S6x8192x1024, .f32⟩
  | .hbm, ⟨26, _⟩ => ⟨S1024x4096, .f32⟩
  | .hbm, ⟨27, _⟩ => ⟨S6x8192x4096, .f32⟩
  | .hbm, ⟨28, _⟩ => ⟨S6x8192x4x1024, .f32⟩
  | .hbm, ⟨29, _⟩ => ⟨S6x8192x4x1024, .f32⟩
  | .hbm, ⟨30, _⟩ => ⟨S6x8192x4x1024, .f32⟩
  | .hbm, ⟨31, _⟩ => ⟨S_, .f32⟩
  | .hbm, ⟨32, _⟩ => ⟨S6x8192x4x1024, .f32⟩
  | .hbm, ⟨33, _⟩ => ⟨S6x8192x4x1024, .f32⟩
  | .hbm, ⟨34, _⟩ => ⟨S_, .f32⟩
  | .hbm, ⟨35, _⟩ => ⟨S6x8192x4x1024, .f32⟩
  | .hbm, ⟨36, _⟩ => ⟨S6x8192x4x1024, .f32⟩
  | .hbm, ⟨37, _⟩ => ⟨S6x256x8192, .f32⟩
  | .hbm, ⟨38, _⟩ => ⟨S6x8192x256, .f32⟩
  | .hbm, ⟨39, _⟩ => ⟨S6x8192x256, .f32⟩
  | .hbm, ⟨40, _⟩ => ⟨S6x8192x256, .f32⟩
  | .hbm, ⟨41, _⟩ => ⟨S6x8192x256, .f32⟩
  | .hbm, ⟨42, _⟩ => ⟨S6x8192x1x1024, .f32⟩
  | .hbm, ⟨43, _⟩ => ⟨S6x8192x1024, .f32⟩
  | .hbm, ⟨44, _⟩ => ⟨S4x256x1024, .f32⟩
  | .hbm, ⟨45, _⟩ => ⟨S1x256x1024, .f32⟩
  | .hbm, ⟨46, _⟩ => ⟨S256x1024, .f32⟩
  | .hbm, ⟨47, _⟩ => ⟨S6x8192x1024, .f32⟩
  | .hbm, ⟨48, _⟩ => ⟨S6x8192x1024, .f32⟩
  | .hbm, ⟨49, _⟩ => ⟨S_, .f32⟩
  | .hbm, ⟨50, _⟩ => ⟨S6x8192x1024, .f32⟩
  | .hbm, ⟨51, _⟩ => ⟨S6x8192x1024, .f32⟩
  | .hbm, ⟨52, _⟩ => ⟨S6x8192x1x1024, .f32⟩
  | .hbm, ⟨53, _⟩ => ⟨S6x8192x1024, .f32⟩
  | .hbm, ⟨54, _⟩ => ⟨S4x256x1024, .f32⟩
  | .hbm, ⟨55, _⟩ => ⟨S1x256x1024, .f32⟩
  | .hbm, ⟨56, _⟩ => ⟨S256x1024, .f32⟩
  | .hbm, ⟨57, _⟩ => ⟨S6x8192x1024, .f32⟩
  | .hbm, ⟨58, _⟩ => ⟨S6x8192x1024, .f32⟩
  | .hbm, ⟨59, _⟩ => ⟨S6x8192x1024, .f32⟩
  | .hbm, ⟨60, _⟩ => ⟨S6x8192x1x1024, .f32⟩
  | .hbm, ⟨61, _⟩ => ⟨S6x8192x1024, .f32⟩
  | .hbm, ⟨62, _⟩ => ⟨S4x256x1024, .f32⟩
  | .hbm, ⟨63, _⟩ => ⟨S1x256x1024, .f32⟩
  | .hbm, ⟨64, _⟩ => ⟨S256x1024, .f32⟩
  | .hbm, ⟨65, _⟩ => ⟨S6x8192x1024, .f32⟩
  | .hbm, ⟨66, _⟩ => ⟨S6x8192x1024, .f32⟩
  | .hbm, ⟨67, _⟩ => ⟨S6x8192x1024, .f32⟩
  | .hbm, ⟨68, _⟩ => ⟨S6x8192x1x1024, .f32⟩
  | .hbm, ⟨69, _⟩ => ⟨S6x8192x1024, .f32⟩
  | .hbm, ⟨70, _⟩ => ⟨S4x256x1024, .f32⟩
  | .hbm, ⟨71, _⟩ => ⟨S1x256x1024, .f32⟩
  | .hbm, ⟨72, _⟩ => ⟨S256x1024, .f32⟩
  | .hbm, ⟨73, _⟩ => ⟨S6x8192x1024, .f32⟩
  | .hbm, ⟨74, _⟩ => ⟨S6x8192x1024, .f32⟩
  | .hbm, ⟨75, _⟩ => ⟨S6x8192x1024, .f32⟩
  | .hbm, ⟨76, _⟩ => ⟨S1024x1024, .f32⟩
  | .hbm, ⟨77, _⟩ => ⟨S6x8192x1024, .f32⟩
  | .hbm, ⟨78, _⟩ => ⟨S6x8192x1024, .f32⟩
  | .hbm, ⟨79, _⟩ => ⟨S_, .f32⟩
  | .hbm, ⟨80, _⟩ => ⟨S6x8192, .f32⟩
  | .hbm, ⟨81, _⟩ => ⟨S6x8192x1, .f32⟩
  | .hbm, ⟨82, _⟩ => ⟨S_, .f32⟩
  | .hbm, ⟨83, _⟩ => ⟨S6x8192x1, .f32⟩
  | .hbm, ⟨84, _⟩ => ⟨S6x8192x1, .f32⟩
  | .hbm, ⟨85, _⟩ => ⟨S_, .f32⟩
  | .hbm, ⟨86, _⟩ => ⟨S6x8192x1, .f32⟩
  | .hbm, ⟨87, _⟩ => ⟨S6x8192x1, .f32⟩
  | .hbm, ⟨88, _⟩ => ⟨S6x8192x1, .f32⟩
  | .hbm, ⟨89, _⟩ => ⟨S6x8192x1024, .f32⟩
  | .hbm, ⟨90, _⟩ => ⟨S6x8192x1024, .f32⟩
  | .hbm, ⟨91, _⟩ => ⟨S1x1x1024, .f32⟩
  | .hbm, ⟨92, _⟩ => ⟨S6x8192x1024, .f32⟩
  | .hbm, ⟨93, _⟩ => ⟨S6x8192x1024, .f32⟩
  | .hbm, ⟨94, _⟩ => ⟨S6x8192x1024, .f32⟩
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_cst_7 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩

abbrev nD : Nat := 1
abbrev τ : Topo := Topo.v7x

variable {F : FTy → Type} [FloatOps F]
-- ==== Kernel6.lean ====
abbrev S4x8192x1024 : Shape := ⟨3, ![4, 8192, 1024]⟩
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S6x8192x1024 : Shape := ⟨3, ![6, 8192, 1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S2x8192x1024, .f32⟩
  | .hbm, ⟨2, _⟩ => ⟨S1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S6x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S1x1024x1024, .f32⟩
  | .local _ .vmem, ⟨9, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c7_i32 : BitVec 32 := 7#32
  let v2 : BitVec 32 := Scalar.select v1 arg1 c7_i32
  let c0_i32 : BitVec 32 := 0#32
  let c0_i32_0 : BitVec 32 := 0#32
  ![v0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 1 := Scalar.cmpi .slt arg0 c4_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x8192x1024 : Shape := ⟨3, ![4, 8192, 1024]⟩
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S6x8192x1024 : Shape := ⟨3, ![6, 8192, 1024]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x8192x5632 : Shape := ⟨3, ![6, 8192, 5632]⟩
abbrev S6x8192x2816 : Shape := ⟨3, ![6, 8192, 2816]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x8192x1024, .f32⟩
  | .hbm, ⟨2, _⟩ => ⟨S1024, .f32⟩
  | .hbm, ⟨3, _⟩ => ⟨S1024, .f32⟩
  | .hbm, ⟨4, _⟩ => ⟨S1024x5632, .bf16⟩
  | .hbm, ⟨5, _⟩ => ⟨S2816x1024, .bf16⟩
  | .hbm, ⟨6, _⟩ => ⟨S6x8192x1024, .f32⟩
  | .hbm, ⟨7, _⟩ => ⟨S1024x5632, .f32⟩
  | .hbm, ⟨8, _⟩ => ⟨S2816x1024, .f32⟩
  | .hbm, ⟨9, _⟩ => ⟨S6x8192x1024, .f32⟩
  | .hbm, ⟨10, _⟩ => ⟨S_, .f32⟩
  | .hbm, ⟨11, _⟩ => ⟨S6x8192, .f32⟩
  | .hbm, ⟨12, _⟩ => ⟨S6x8192x1, .f32⟩
  | .hbm, ⟨13, _⟩ => ⟨S_, .f32⟩
  | .hbm, ⟨14, _⟩ => ⟨S6x8192x1, .f32⟩
  | .hbm, ⟨15, _⟩ => ⟨S6x8192x1, .f32⟩
  | .hbm, ⟨16, _⟩ => ⟨S_, .f32⟩
  | .hbm, ⟨17, _⟩ => ⟨S6x8192x1, .f32⟩
  | .hbm, ⟨18, _⟩ => ⟨S6x8192x1, .f32⟩
  | .hbm, ⟨19, _⟩ => ⟨S6x8192x1, .f32⟩
  | .hbm, ⟨20, _⟩ => ⟨S6x8192x1024, .f32⟩
  | .hbm, ⟨21, _⟩ => ⟨S6x8192x1024, .f32⟩
  | .hbm, ⟨22, _⟩ => ⟨S1x1x1024, .f32⟩
  | .hbm, ⟨23, _⟩ => ⟨S6x8192x1024, .f32⟩
  | .hbm, ⟨24, _⟩ => ⟨S6x8192x1024, .f32⟩
  | .hbm, ⟨25, _⟩ => ⟨S6x8192x5632, .f32⟩
  | .hbm, ⟨26, _⟩ => ⟨S6x8192x2816, .f32⟩
  | .hbm, ⟨27, _⟩ => ⟨S6x8192x2816, .f32⟩
  | .hbm, ⟨28, _⟩ => ⟨S6x8192x2816, .f32⟩
  | .hbm, ⟨29, _⟩ => ⟨S6x8192x2816, .f32⟩
  | .hbm, ⟨30, _⟩ => ⟨S_, .f32⟩
  | .hbm, ⟨31, _⟩ => ⟨S6x8192x2816, .f32⟩
  | .hbm, ⟨32, _⟩ => ⟨S6x8192x2816, .f32⟩
  | .hbm, ⟨33, _⟩ => ⟨S_, .f32⟩
  | .hbm, ⟨34, _⟩ => ⟨S6x8192x2816, .f32⟩
  | .hbm, ⟨35, _⟩ => ⟨S6x8192x2816, .f32⟩
  | .hbm, ⟨36, _⟩ => ⟨S6x8192x2816, .f32⟩
  | .hbm, ⟨37, _⟩ => ⟨S6x8192x2816, .f32⟩
  | .hbm, ⟨38, _⟩ => ⟨S6x8192x1024, .f32⟩
  | .hbm, ⟨39, _⟩ => ⟨S6x8192x1024, .f32⟩
  | .hbm, ⟨40, _⟩ => ⟨S_, .f32⟩
  | .hbm, ⟨41, _⟩ => ⟨S6x8192, .f32⟩
  | .hbm, ⟨42, _⟩ => ⟨S6x8192x1, .f32⟩
  | .hbm, ⟨43, _⟩ => ⟨S_, .f32⟩
  | .hbm, ⟨44, _⟩ => ⟨S6x8192x1, .f32⟩
  | .hbm, ⟨45, _⟩ => ⟨S6x8192x1, .f32⟩
  | .hbm, ⟨46, _⟩ => ⟨S_, .f32⟩
  | .hbm, ⟨47, _⟩ => ⟨S6x8192x1, .f32⟩
  | .hbm, ⟨48, _⟩ => ⟨S6x8192x1, .f32⟩
  | .hbm, ⟨49, _⟩ => ⟨S6x8192x1, .f32⟩
  | .hbm, ⟨50, _⟩ => ⟨S6x8192x1024, .f32⟩
  | .hbm, ⟨51, _⟩ => ⟨S6x8192x1024, .f32⟩
  | .hbm, ⟨52, _⟩ => ⟨S1x1x1024, .f32⟩
  | .hbm, ⟨53, _⟩ => ⟨S6x8192x1024, .f32⟩
  | .hbm, ⟨54, _⟩ => ⟨S6x8192x1024, .f32⟩
  | .hbm, ⟨55, _⟩ => ⟨S_, .f32⟩
  | .hbm, ⟨56, _⟩ => ⟨S6x8192x1024, .f32⟩
  | .hbm, ⟨57, _⟩ => ⟨S6x8192x1024, .f32⟩
  | .hbm, ⟨58, _⟩ => ⟨S6x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel5.lean ====
abbrev S6x8192x1024 : Shape := ⟨3, ![6, 8192, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4x8192x1024 : Shape := ⟨3, ![4, 8192, 1024]⟩
abbrev S2x8192x1024 : Shape := ⟨3, ![2, 8192, 1024]⟩
abbrev S1x1024x1024 : Shape := ⟨3, ![1, 1024, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 9
  | .vmem => 10
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1x1024, .f32⟩
  | .hbm, ⟨6, _⟩ => ⟨S1x1024, .f32⟩
  | .hbm, ⟨7, _⟩ => ⟨S4x8192x1024, .f32⟩
  | .hbm, ⟨8, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![6, 8], ![false, false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v314 : BitVec 32 := Scalar.extui v0
  let c0_i32 : BitVec 32 := 0#32
  let v315 : BitVec 1 := Scalar.cmpi .ne v314 c0_i32
  v315

def k0_cond2 (i : grid0.Coords) : BitVec 1 :=
  let arg0 : BitVec 32 := BitVec.ofNat 32 (i 0).val
  let c4_i32 : BitVec 32 := 4#32
  let v0 : BitVec 1 := Scalar.cmpi .slt arg0 c4_i32
  let v_true : BitVec 1 := 1#1
  let v316 : BitVec 1 := Scalar.xori v0 v_true
  let v317 : BitVec 32 := Scalar.extui v316
  let c0_i32_202 : BitVec 32 := 0#32
  let v318 : BitVec 1 := Scalar.cmpi .ne v317 c0_i32_202
  v318

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c4_i32 : BitVec 32 := 4#32
  let v1 : BitVec 1 := Scalar.cmpi .slt arg0 c4_i32
  let c7_i32 : BitVec 32 := 7#32
  let v2 : BitVec 32 := Scalar.select v1 arg1 c7_i32
  let c0_i32 : BitVec 32 := 0#32
  let c0_i32_0 : BitVec 32 := 0#32
  ![v0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c4_i32_0 : BitVec 32 := 4#32
  let v2 : BitVec 1 := Scalar.cmpi .slt arg0 c4_i32_0
  let c0_i32_1 : BitVec 32 := 0#32
  let v3 : BitVec 32 := Scalar.select v2 c0_i32_1 arg1
  let c0_i32_2 : BitVec 32 := 0#32
  let c0_i32_3 : BitVec 32 := 0#32
  ![v1.toNat, v3.toNat, c0_i32_2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S6x8192x1024 : Shape := ⟨3, ![6, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x8192x5632 : Shape := ⟨3, ![6, 8192, 5632]⟩
abbrev S6x8192x2816 : Shape := ⟨3, ![6, 8192, 2816]⟩
abbrev S4x8192x1024 : Shape := ⟨3, ![4, 8192, 1024]⟩
abbrev S2x8192x1024 : Shape := ⟨3, ![2, 8192, 1024]⟩

abbrev nBuf : Space → Nat
  | .hbm => 59
  | .vmem => 0
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S1024x5632, .f32⟩
  | .hbm, ⟨6, _⟩ => ⟨S2816x1024, .f32⟩
  | .hbm, ⟨7, _⟩ => ⟨S6x8192x1024, .f32⟩
  | .hbm, ⟨8, _⟩ => ⟨S_, .f32⟩
  | .hbm, ⟨9, _⟩ => ⟨S6x8192, .f32⟩
  | .hbm, ⟨10, _⟩ => ⟨S6x8192x1, .f32⟩
  | .hbm, ⟨11, _⟩ => ⟨S_, .f32⟩
  | .hbm, ⟨12, _⟩ => ⟨S6x8192x1, .f32⟩
  | .hbm, ⟨13, _⟩ => ⟨S6x8192x1, .f32⟩
  | .hbm, ⟨14, _⟩ => ⟨S_, .f32⟩
  | .hbm, ⟨15, _⟩ => ⟨S6x8192x1, .f32⟩
  | .hbm, ⟨16, _⟩ => ⟨S6x8192x1, .f32⟩
  | .hbm, ⟨17, _⟩ => ⟨S6x8192x1, .f32⟩
  | .hbm, ⟨18, _⟩ => ⟨S6x8192x1024, .f32⟩
  | .hbm, ⟨19, _⟩ => ⟨S6x8192x1024, .f32⟩
  | .hbm, ⟨20, _⟩ => ⟨S1x1x1024, .f32⟩
  | .hbm, ⟨21, _⟩ => ⟨S6x8192x1024, .f32⟩
  | .hbm, ⟨22, _⟩ => ⟨S6x8192x1024, .f32⟩
  | .hbm, ⟨23, _⟩ => ⟨S6x8192x5632, .f32⟩
  | .hbm, ⟨24, _⟩ => ⟨S6x8192x2816, .f32⟩
  | .hbm, ⟨25, _⟩ => ⟨S6x8192x2816, .f32⟩
  | .hbm, ⟨26, _⟩ => ⟨S6x8192x2816, .f32⟩
  | .hbm, ⟨27, _⟩ => ⟨S6x8192x2816, .f32⟩
  | .hbm, ⟨28, _⟩ => ⟨S_, .f32⟩
  | .hbm, ⟨29, _⟩ => ⟨S6x8192x2816, .f32⟩
  | .hbm, ⟨30, _⟩ => ⟨S6x8192x2816, .f32⟩
  | .hbm, ⟨31, _⟩ => ⟨S_, .f32⟩
  | .hbm, ⟨32, _⟩ => ⟨S6x8192x2816, .f32⟩
  | .hbm, ⟨33, _⟩ => ⟨S6x8192x2816, .f32⟩
  | .hbm, ⟨34, _⟩ => ⟨S6x8192x2816, .f32⟩
  | .hbm, ⟨35, _⟩ => ⟨S6x8192x2816, .f32⟩
  | .hbm, ⟨36, _⟩ => ⟨S6x8192x1024, .f32⟩
  | .hbm, ⟨37, _⟩ => ⟨S6x8192x1024, .f32⟩
  | .hbm, ⟨38, _⟩ => ⟨S_, .f32⟩
  | .hbm, ⟨39, _⟩ => ⟨S6x8192, .f32⟩
  | .hbm, ⟨40, _⟩ => ⟨S6x8192x1, .f32⟩
  | .hbm, ⟨41, _⟩ => ⟨S_, .f32⟩
  | .hbm, ⟨42, _⟩ => ⟨S6x8192x1, .f32⟩
  | .hbm, ⟨43, _⟩ => ⟨S6x8192x1, .f32⟩
  | .hbm, ⟨44, _⟩ => ⟨S_, .f32⟩
  | .hbm, ⟨45, _⟩ => ⟨S6x8192x1, .f32⟩
  | .hbm, ⟨46, _⟩ => ⟨S6x8192x1, .f32⟩
  | .hbm, ⟨47, _⟩ => ⟨S6x8192x1, .f32⟩
  | .hbm, ⟨48, _⟩ => ⟨S6x8192x1024, .f32⟩
  | .hbm, ⟨49, _⟩ => ⟨S6x8192x1024, .f32⟩
  | .hbm, ⟨50, _⟩ => ⟨S1x1x1024, .f32⟩
  | .hbm, ⟨51, _⟩ => ⟨S6x8192x1024, .f32⟩
  | .hbm, ⟨52, _⟩ => ⟨S6x8192x1024, .f32⟩
  | .hbm, ⟨53, _⟩ => ⟨S_, .f32⟩
  | .hbm, ⟨54, _⟩ => ⟨S6x8192x1024, .f32⟩
  | .hbm, ⟨55, _⟩ => ⟨S6x8192x1024, .f32⟩
  | .hbm, ⟨56, _⟩ => ⟨S6x8192x1024, .f32⟩
  | .hbm, ⟨57, _⟩ => ⟨S4x8192x1024, .f32⟩
  | .hbm, ⟨58, _⟩ => ⟨S2x8192x1024, .f32⟩
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel7.lean ====
abbrev S6x8192x1024 : Shape := ⟨3, ![6, 8192, 1024]⟩
abbrev S1024 : Shape := ⟨1, ![1024]⟩
abbrev S1024x768 : Shape := ⟨2, ![1024, 768]⟩
abbrev S768x4 : Shape := ⟨2, ![768, 4]⟩
abbrev S1024x2944 : Shape := ⟨2, ![1024, 2944]⟩
abbrev S3x512 : Shape := ⟨2, ![3, 512]⟩
abbrev S1x512 : Shape := ⟨2, ![1, 512]⟩
abbrev S768x1024 : Shape := ⟨2, ![768, 1024]⟩
abbrev S1x1024 : Shape := ⟨2, ![1, 1024]⟩
abbrev S6x768x8192 : Shape := ⟨3, ![6, 768, 8192]⟩
abbrev S6x8192x512 : Shape := ⟨3, ![6, 8192, 512]⟩
abbrev S6x8192x256 : Shape := ⟨3, ![6, 8192, 256]⟩
abbrev S6x8192x128 : Shape := ⟨3, ![6, 8192, 128]⟩
abbrev S1x1024x1024 : Shape := ⟨3, ![1, 1024, 1024]⟩
abbrev S1x8x1024 : Shape := ⟨3, ![1, 8, 1024]⟩
abbrev S1x768x1024 : Shape := ⟨3, ![1, 768, 1024]⟩
abbrev S1x1024x512 : Shape := ⟨3, ![1, 1024, 512]⟩
abbrev S1x1024x256 : Shape := ⟨3, ![1, 1024, 256]⟩
abbrev S1x1024x128 : Shape := ⟨3, ![1, 1024, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S768x512 : Shape := ⟨2, ![768, 512]⟩
abbrev S16x768 : Shape := ⟨2, ![16, 768]⟩
abbrev S112x768 : Shape := ⟨2, ![112, 768]⟩
abbrev S128x768 : Shape := ⟨2, ![128, 768]⟩
abbrev S768x128 : Shape := ⟨2, ![768, 128]⟩
abbrev S768x1 : Shape := ⟨2, ![768, 1]⟩
abbrev S1024x512 : Shape := ⟨2, ![1024, 512]⟩
abbrev S512x512 : Shape := ⟨2, ![512, 512]⟩
abbrev S16x512 : Shape := ⟨2, ![16, 512]⟩
abbrev S1024x1 : Shape := ⟨2, ![1024, 1]⟩
abbrev S1024x256 : Shape := ⟨2, ![1024, 256]⟩
abbrev S512x256 : Shape := ⟨2, ![512, 256]⟩
abbrev S1x512x256 : Shape := ⟨3, ![1, 512, 256]⟩
abbrev S1024x128 : Shape := ⟨2, ![1024, 128]⟩
abbrev S512x128 : Shape := ⟨2, ![512, 128]⟩
abbrev S1x512x128 : Shape := ⟨3, ![1, 512, 128]⟩
abbrev S1x512x512 : Shape := ⟨3, ![1, 512, 512]⟩

abbrev nBuf : Space → Nat
  | .hbm => 20
  | .vmem => 35
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024x768, .bf16⟩
  | .hbm, ⟨3, _⟩ => ⟨S768x4, .f32⟩
  | .hbm, ⟨4, _⟩ => ⟨S1024x2944, .bf16⟩
  | .hbm, ⟨5, _⟩ => ⟨S3x512, .f32⟩
  | .hbm, ⟨6, _⟩ => ⟨S1x512, .f32⟩
  | .hbm, ⟨7, _⟩ => ⟨S768x1024, .bf16⟩
  | .hbm, ⟨8, _⟩ => ⟨S1x1024, .f32⟩
  | .hbm, ⟨9, _⟩ => ⟨S6x768x8192, .bf16⟩
  | .hbm, ⟨10, _⟩ => ⟨S6x8192x512, .bf16⟩
  | .hbm, ⟨11, _⟩ => ⟨S6x8192x256, .bf16⟩
  | .hbm, ⟨12, _⟩ => ⟨S6x8192x128, .f32⟩
  | .hbm, ⟨13, _⟩ => ⟨S6x8192x256, .bf16⟩
  | .hbm, ⟨14, _⟩ => ⟨S6x8192x256, .bf16⟩
  | .hbm, ⟨15, _⟩ => ⟨S6x8192x256, .bf16⟩
  | .hbm, ⟨16, _⟩ => ⟨S6x8192x256, .bf16⟩
  | .hbm, ⟨17, _⟩ => ⟨S6x8192x512, .f32⟩
  | .hbm, ⟨18, _⟩ => ⟨S6x8192x256, .bf16⟩
  | .hbm, ⟨19, _⟩ => ⟨S6x8192x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S768x1024, .bf16⟩
  | .local _ .vmem, ⟨8, _⟩ => ⟨S1024x768, .bf16⟩
  | .local _ .vmem, ⟨9, _⟩ => ⟨S768x4, .f32⟩
  | .local _ .vmem, ⟨10, _⟩ => ⟨S1024x2944, .bf16⟩
  | .local _ .vmem, ⟨11, _⟩ => ⟨S3x512, .f32⟩
  | .local _ .vmem, ⟨12, _⟩ => ⟨S1x512, .f32⟩
  | .local _ .vmem, ⟨13, _⟩ => ⟨S1x768x1024, .bf16⟩
  | .local _ .vmem, ⟨14, _⟩ => ⟨S1x768x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x128, .f32⟩
  | .local _ .vmem, ⟨20, _⟩ => ⟨S1x1024x128, .f32⟩
  | .local _ .vmem, ⟨21, _⟩ => ⟨S1x1024x256, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1x1024x256, .bf16⟩
  | .local _ .vmem, ⟨28, _⟩ => ⟨S1x1024x256, .bf16⟩
  | .local _ .vmem, ⟨29, _⟩ => ⟨S1x1024x512, .f32⟩
  | .local _ .vmem, ⟨30, _⟩ => ⟨S1x1024x512, .f32⟩
  | .local _ .vmem, ⟨31, _⟩ => ⟨S1x1024x256, .bf16⟩
  | .local _ .vmem, ⟨32, _⟩ => ⟨S1x1024x256, .bf16⟩
  | .local _ .vmem, ⟨33, _⟩ => ⟨S1x1024x256, .bf16⟩
  | .local _ .vmem, ⟨34, _⟩ => ⟨S1x1024x256, .bf16⟩
  | _, _ => ⟨S6x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v2_9 : Ref sig .tc := ⟨.hbm, 18, rfl⟩
abbrev main_v2_10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨2, ![6, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2944 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference7Ideal.lean ====
abbrev S6x8192x1024 : Shape := ⟨3, ![6, 8192, 1024]⟩
abbrev S1024 : Shape := ⟨1, ![1024]⟩
abbrev S1024x768 : Shape := ⟨2, ![1024, 768]⟩
abbrev S768x4 : Shape := ⟨2, ![768, 4]⟩
abbrev S1024x2944 : Shape := ⟨2, ![1024, 2944]⟩
abbrev S3x512 : Shape := ⟨2, ![3, 512]⟩
abbrev S1x512 : Shape := ⟨2, ![1, 512]⟩
abbrev S_ : Shape := ⟨0, ![]⟩
abbrev S6x8192 : Shape := ⟨2, ![6, 8192]⟩
abbrev S6x8192x1 : Shape := ⟨3, ![6, 8192, 1]⟩
abbrev S1x1x1024 : Shape := ⟨3, ![1, 1, 1024]⟩
abbrev S6x8192x768 : Shape := ⟨3, ![6, 8192, 768]⟩
abbrev S768x3 : Shape := ⟨2, ![768, 3]⟩
abbrev S3x768 : Shape := ⟨2, ![3, 768]⟩
abbrev S768x1 : Shape := ⟨2, ![768, 1]⟩
abbrev S768 : Shape := ⟨1, ![768]⟩
abbrev S6x8194x768 : Shape := ⟨3, ![6, 8194, 768]⟩
abbrev S1x768 : Shape := ⟨2, ![1, 768]⟩
abbrev S1x1x768 : Shape := ⟨3, ![1, 1, 768]⟩
abbrev S6x8192x2944 : Shape := ⟨3, ![6, 8192, 2944]⟩
abbrev S6x8192x512 : Shape := ⟨3, ![6, 8192, 512]⟩
abbrev S6x8192x256 : Shape := ⟨3, ![6, 8192, 256]⟩
abbrev S6x8192x128 : Shape := ⟨3, ![6, 8192, 128]⟩
abbrev S512 : Shape := ⟨1, ![512]⟩
abbrev S6x8194x512 : Shape := ⟨3, ![6, 8194, 512]⟩
abbrev S1x1x512 : Shape := ⟨3, ![1, 1, 512]⟩
abbrev S6x768x8192 : Shape := ⟨3, ![6, 768, 8192]⟩

abbrev nBuf : Space → Nat
  | .hbm => 113
  | .vmem => 0
  | .smem => 0
  | _ => 0

abbrev bufTy : (tb : Table) → Fin (tcTables nBuf tb) → BufTy
  | .hbm, ⟨0, _⟩ => ⟨S6x8192x1024, .f32⟩
  | .hbm, ⟨1, _⟩ => ⟨S1024, .f32⟩
  | .hbm, ⟨2, _⟩ => ⟨S1024x768, .bf16⟩
  | .hbm, ⟨3, _⟩ => ⟨S768x4, .f32⟩
  | .hbm, ⟨4, _⟩ => ⟨S1024x2944, .bf16⟩
  | .hbm, ⟨5, _⟩ => ⟨S3x512, .f32⟩
  | .hbm, ⟨6, _⟩ => ⟨S1x512, .f32⟩
  | .hbm, ⟨7, _⟩ => ⟨S6x8192x1024, .f32⟩
  | .hbm, ⟨8, _⟩ => ⟨S_, .f32⟩
  | .hbm, ⟨9, _⟩ => ⟨S6x8192, .f32⟩
  | .hbm, ⟨10, _⟩ => ⟨S6x8192x1, .f32⟩
  | .hbm, ⟨11, _⟩ => ⟨S_, .f32⟩
  | .hbm, ⟨12, _⟩ => ⟨S6x8192x1, .f32⟩
  | .hbm, ⟨13, _⟩ => ⟨S6x8192x1, .f32⟩
  | .hbm, ⟨14, _⟩ => ⟨S_, .f32⟩
  | .hbm, ⟨15, _⟩ => ⟨S6x8192x1, .f32⟩
  | .hbm, ⟨16, _⟩ => ⟨S6x8192x1, .f32⟩
  | .hbm, ⟨17, _⟩ => ⟨S6x8192x1, .f32⟩
  | .hbm, ⟨18, _⟩ => ⟨S6x8192x1024, .f32⟩
  | .hbm, ⟨19, _⟩ => ⟨S6x8192x1024, .f32⟩
  | .hbm, ⟨20, _⟩ => ⟨S1x1x1024, .f32⟩
  | .hbm, ⟨21, _⟩ => ⟨S6x8192x1024, .f32⟩
  | .hbm, ⟨22, _⟩ => ⟨S6x8192x1024, .f32⟩
  | .hbm, ⟨23, _⟩ => ⟨S1024x768, .f32⟩
  | .hbm, ⟨24, _⟩ => ⟨S6x8192x768, .f32⟩
  | .hbm, ⟨25, _⟩ => ⟨S768x3, .f32⟩
  | .hbm, ⟨26, _⟩ => ⟨S3x768, .f32⟩
  | .hbm, ⟨27, _⟩ => ⟨S768x1, .f32⟩
  | .hbm, ⟨28, _⟩ => ⟨S768, .f32⟩
  | .hbm, ⟨29, _⟩ => ⟨S_, .i32⟩
  | .hbm, ⟨30, _⟩ => ⟨S_, .f32⟩
  | .hbm, ⟨31, _⟩ => ⟨S6x8194x768, .f32⟩
  | .hbm, ⟨32, _⟩ => ⟨S6x8192x768, .f32⟩
  | .hbm, ⟨33, _⟩ => ⟨S1x768, .f32⟩
  | .hbm, ⟨34, _⟩ => ⟨S768, .f32⟩
  | .hbm, ⟨35, _⟩ => ⟨S1x1x768, .f32⟩
  | .hbm, ⟨36, _⟩ => ⟨S6x8192x768, .f32⟩
  | .hbm, ⟨37, _⟩ => ⟨S6x8192x768, .f32⟩
  | .hbm, ⟨38, _⟩ => ⟨S1x1x768, .f32⟩
  | .hbm, ⟨39, _⟩ => ⟨S6x8192x768, .f32⟩
  | .hbm, ⟨40, _⟩ => ⟨S6x8192x768, .f32⟩
  | .hbm, ⟨41, _⟩ => ⟨S6x8192x768, .f32⟩
  | .hbm, ⟨42, _⟩ => ⟨S1x768, .f32⟩
  | .hbm, ⟨43, _⟩ => ⟨S768, .f32⟩
  | .hbm, ⟨44, _⟩ => ⟨S1x1x768, .f32⟩
  | .hbm, ⟨45, _⟩ => ⟨S6x8192x768, .f32⟩
  | .hbm, ⟨46, _⟩ => ⟨S6x8192x768, .f32⟩
  | .hbm, ⟨47, _⟩ => ⟨S6x8192x768, .f32⟩
  | .hbm, ⟨48, _⟩ => ⟨S6x8192x768, .f32⟩
  | .hbm, ⟨49, _⟩ => ⟨S1x768, .f32⟩
  | .hbm, ⟨50, _⟩ => ⟨S768, .f32⟩
  | .hbm, ⟨51, _⟩ => ⟨S1x1x768, .f32⟩
  | .hbm, ⟨52, _⟩ => ⟨S6x8192x768, .f32⟩
  | .hbm, ⟨53, _⟩ => ⟨S6x8192x768, .f32⟩
  | .hbm, ⟨54, _⟩ => ⟨S6x8192x768, .f32⟩
  | .hbm, ⟨55, _⟩ => ⟨S1024x2944, .f32⟩
  | .hbm, ⟨56, _⟩ => ⟨S6x8192x2944, .f32⟩
  | .hbm, ⟨57, _⟩ => ⟨S6x8192x512, .f32⟩
  | .hbm, ⟨58, _⟩ => ⟨S6x8192x256, .f32⟩
  | .hbm, ⟨59, _⟩ => ⟨S6x8192x128, .f32⟩
  | .hbm, ⟨60, _⟩ => ⟨S6x8192x256, .f32⟩
  | .hbm, ⟨61, _⟩ => ⟨S6x8192x256, .f32⟩
  | .hbm, ⟨62, _⟩ => ⟨S6x8192x256, .f32⟩
  | .hbm, ⟨63, _⟩ => ⟨S6x8192x256, .f32⟩
  | .hbm, ⟨64, _⟩ => ⟨S6x8192x512, .f32⟩
  | .hbm, ⟨65, _⟩ => ⟨S6x8192x256, .f32⟩
  | .hbm, ⟨66, _⟩ => ⟨S6x8192x256, .f32⟩
  | .hbm, ⟨67, _⟩ => ⟨S512, .f32⟩
  | .hbm, ⟨68, _⟩ => ⟨S_, .i32⟩
  | .hbm, ⟨69, _⟩ => ⟨S_, .f32⟩
  | .hbm, ⟨70, _⟩ => ⟨S6x8194x512, .f32⟩
  | .hbm, ⟨71, _⟩ => ⟨S6x8192x512, .f32⟩
  | .hbm, ⟨72, _⟩ => ⟨S1x512, .f32⟩
  | .hbm, ⟨73, _⟩ => ⟨S512, .f32⟩
  | .hbm, ⟨74, _⟩ => ⟨S1x1x512, .f32⟩
  | .hbm, ⟨75, _⟩ => ⟨S6x8192x512, .f32⟩
  | .hbm, ⟨76, _⟩ => ⟨S6x8192x512, .f32⟩
  | .hbm, ⟨77, _⟩ => ⟨S1x1x512, .f32⟩
  | .hbm, ⟨78, _⟩ => ⟨S6x8192x512, .f32⟩
  | .hbm, ⟨79, _⟩ => ⟨S6x8192x512, .f32⟩
  | .hbm, ⟨80, _⟩ => ⟨S6x8192x512, .f32⟩
  | .hbm, ⟨81, _⟩ => ⟨S1x512, .f32⟩
  | .hbm, ⟨82, _⟩ => ⟨S512, .f32⟩
  | .hbm, ⟨83, _⟩ => ⟨S1x1x512, .f32⟩
  | .hbm, ⟨84, _⟩ => ⟨S6x8192x512, .f32⟩
  | .hbm, ⟨85, _⟩ => ⟨S6x8192x512, .f32⟩
  | .hbm, ⟨86, _⟩ => ⟨S6x8192x512, .f32⟩
  | .hbm, ⟨87, _⟩ => ⟨S6x8192x512, .f32⟩
  | .hbm, ⟨88, _⟩ => ⟨S1x512, .f32⟩
  | .hbm, ⟨89, _⟩ => ⟨S512, .f32⟩
  | .hbm, ⟨90, _⟩ => ⟨S1x1x512, .f32⟩
  | .hbm, ⟨91, _⟩ => ⟨S6x8192x512, .f32⟩
  | .hbm, ⟨92, _⟩ => ⟨S6x8192x512, .f32⟩
  | .hbm, ⟨93, _⟩ => ⟨S6x8192x512, .f32⟩
  | .hbm, ⟨94, _⟩ => ⟨S6x8192x512, .f32⟩
  | .hbm, ⟨95, _⟩ => ⟨S6x8192x512, .f32⟩
  | .hbm, ⟨96, _⟩ => ⟨S_, .f32⟩
  | .hbm, ⟨97, _⟩ => ⟨S6x8192x512, .f32⟩
  | .hbm, ⟨98, _⟩ => ⟨S6x8192x512, .f32⟩
  | .hbm, ⟨99, _⟩ => ⟨S_, .f32⟩
  | .hbm, ⟨100, _⟩ => ⟨S6x8192x512, .f32⟩
  | .hbm, ⟨101, _⟩ => ⟨S6x8192x512, .f32⟩
  | .hbm, ⟨102, _⟩ => ⟨S6x8192x512, .f32⟩
  | .hbm, ⟨103, _⟩ => ⟨S6x768x8192, .f32⟩
  | .hbm, ⟨104, _⟩ => ⟨S6x768x8192, .bf16⟩
  | .hbm, ⟨105, _⟩ => ⟨S6x8192x512, .bf16⟩
  | .hbm, ⟨106, _⟩ => ⟨S6x8192x256, .bf16⟩
  | .hbm, ⟨107, _⟩ => ⟨S6x8192x256, .bf16⟩
  | .hbm, ⟨108, _⟩ => ⟨S6x8192x256, .bf16⟩
  | .hbm, ⟨109, _⟩ => ⟨S6x8192x256, .bf16⟩
  | .hbm, ⟨110, _⟩ => ⟨S6x8192x256, .bf16⟩
  | .hbm, ⟨111, _⟩ => ⟨S6x8192x256, .bf16⟩
  | .hbm, ⟨112, _⟩ => ⟨S6x8192x256, .bf16⟩
  | _, _ => ⟨S6x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c_2 : Ref sig .tc := ⟨.hbm, 68, rfl⟩
abbrev main_call1_v0 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_call2_v0 : Ref sig .tc := ⟨.hbm, 94, rfl⟩
abbrev main_call2_v1 : Ref sig .tc := ⟨.hbm, 95, rfl⟩
abbrev main_call2_cst : Ref sig .tc := ⟨.hbm, 96, rfl⟩
abbrev main_call2_v2 : Ref sig .tc := ⟨.hbm, 97, rfl⟩
abbrev main_call2_v3 : Ref sig .tc := ⟨.hbm, 98, rfl⟩
abbrev main_call2_cst_0 : Ref sig .tc := ⟨.hbm, 99, rfl⟩
abbrev main_call2_v4 : Ref sig .tc := ⟨.hbm, 100, rfl⟩
abbrev main_call2_v5 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩

abbrev nD : Nat := 1
abbrev τ : Topo := Topo.v7x

variable {F : FTy → Type} [FloatOps F]
-- ==== Proof.FfnBlock.lean ====
module

public import proofs.«01_k».proof.Proof.Gen.Kernel3Ideal.Value
public import Idealize.ShloMosaic.Lib.Pointwise

/-! The feed-forward block's kernel body, read one row at a time: normalise the row, pass it through the gated hidden
layer eleven tiles of 256 channels at a time, normalise the sum, add half of it to the row. -/

@[expose] public section

noncomputable section

namespace Cert.Ffn

open Cert.Kernel3Ideal Cert.Kernel3Ideal.Gen Idealize.ShloMosaic

/-- A row divided by its root mean square, times a weight row. -/
def nrow (row w : Fin 1024 → EReal) (d : Fin 1024) : EReal :=
  row d * Ideal.rsqrt (Ideal.div (∑ k, row k * row k) (Ideal.ofBits .f32 0x44800000#32) + Ideal.ofBits .f32 0x358637BD#32) * w d

/-- One hidden channel: the gate times its logistic times the up-projection. -/
def hid (n : Fin 1024 → EReal) (wg wu : Fin 1024 → EReal) : EReal :=
  (∑ d, n d * wg d) * Ideal.logistic (∑ d, n d * wg d) * ∑ d, n d * wu d

/-- The feed-forward block's result on one row: `W` the joined gate and up weights, `D` the down weights. -/
def ffnRow (row np nq : Fin 1024 → EReal) (W : Fin 1024 → Fin 5632 → EReal) (D : Fin 2816 → Fin 1024 → EReal) (p : Fin 1024) : EReal :=
  row p + Ideal.ofBits .f32 0x3F000000#32
    * nrow (fun p => ∑ f : Fin 2816, hid (nrow row np) (fun d => W d ⟨f.val, by omega⟩) (fun d => W d ⟨2816 + f.val, by omega⟩) * D f p) nq p

/-- The kernel's normalisation of 512 rows. -/
def nrm (x : FVec Ideal S512x1024 .f32) (w : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 w shapeCasts_S1x1024_S1x1024) broadcasts_S1x1024_S512x1024)

/-- The normalisation read at a row and a lane. -/
theorem nrm_apply (x : FVec Ideal S512x1024 .f32) (w : FVec Ideal S1x1024 .f32) (r : Fin 512) (d : Fin 1024) :
    nrm x w (ix2 r d) = nrow (fun k => x (ix2 r k)) (fun k => w (ix2 0 k)) d := by
  pointwise [nrm, nrow]

/-- The product of 512 normalised rows with one tile of weights. -/
def proj (n : FVec Ideal S512x1024 .bf16) (w : FVec Ideal S1024x256 .bf16) : FVec Ideal S512x256 .f32 :=
  matmul dot_S512x1024_S1024x256_S512x256_1_0_0_1_n_n none n w (constant S512x256 .f32 0x00000000#32)

/-- One tile's contribution to the down-projection. -/
def tile (n : FVec Ideal S512x1024 .bf16) (wg wu : FVec Ideal S1024x256 .bf16) (wd : FVec Ideal S256x1024 .bf16) : FVec Ideal S512x1024 .f32 :=
  matmul dot_S512x256_S256x1024_S512x1024_1_0_0_1_n_n none
    (truncf .bf16 (mulf (mulf (proj n wg) (logistic (proj n wg))) (proj n wu)) bitsLt_bf16_f32) wd (constant S512x1024 .f32 0x00000000#32)

/-- One tile read at a row and a lane. -/
theorem tile_apply (n : FVec Ideal S512x1024 .bf16) (wg wu : FVec Ideal S1024x256 .bf16) (wd : FVec Ideal S256x1024 .bf16) (r : Fin 512) (p : Fin 1024) :
    tile n wg wu wd (ix2 r p) = ∑ k : Fin 256, hid (fun d => n (ix2 r d)) (fun d => wg (ix2 d k)) (fun d => wu (ix2 d k)) * wd (ix2 k p) := by
  pointwise [tile, proj, hid]

/-- The eleven tiles summed, as the kernel adds them. -/
def acc (n : FVec Ideal S512x1024 .bf16) (g u : Fin 11 → FVec Ideal S1024x256 .bf16) (d : Fin 11 → FVec Ideal S256x1024 .bf16) : FVec Ideal S512x1024 .f32 :=
  addf (addf (addf (addf (addf (addf (addf (addf (addf (addf (addf (broadcast S512x1024 (Scalar.ofBits .f32 0x00000000#32))
    (tile n (g 0) (u 0) (d 0))) (tile n (g 1) (u 1) (d 1))) (tile n (g 2) (u 2) (d 2))) (tile n (g 3) (u 3) (d 3)))
    (tile n (g 4) (u 4) (d 4))) (tile n (g 5) (u 5) (d 5))) (tile n (g 6) (u 6) (d 6))) (tile n (g 7) (u 7) (d 7)))
    (tile n (g 8) (u 8) (d 8))) (tile n (g 9) (u 9) (d 9))) (tile n (g 10) (u 10) (d 10))

/-- The sum of the tiles read at a row and a lane. -/
theorem acc_apply (n : FVec Ideal S512x1024 .bf16) (g u : Fin 11 → FVec Ideal S1024x256 .bf16) (d : Fin 11 → FVec Ideal S256x1024 .bf16) (r : Fin 512) (p : Fin 1024) :
    acc n g u d (ix2 r p) = ∑ j : Fin 11, tile n (g j) (u j) (d j) (ix2 r p) := by
  have h0 : (broadcast S512x1024 (Scalar.ofBits .f32 0x00000000#32) : FVec Ideal S512x1024 .f32) (ix2 r p) = 0 := by pointwise
  have ha : ∀ a b : FVec Ideal S512x1024 .f32, addf a b (ix2 r p) = a (ix2 r p) + b (ix2 r p) := fun a b => by pointwise
  unfold acc
  simp only [ha, h0, Fin.sum_univ_succ, zero_add, add_assoc]
  simp

/-- Half of the body: 512 rows. -/
def half (x : FVec Ideal S512x1024 .f32) (np nq : FVec Ideal S1x1024 .f32) (g u : Fin 11 → FVec Ideal S1024x256 .bf16) (d : Fin 11 → FVec Ideal S256x1024 .bf16) : FVec Ideal S512x1024 .f32 :=
  addf x (mulf (broadcast S512x1024 (Scalar.ofBits .f32 0x3F000000#32)) (nrm (acc (truncf .bf16 (nrm x np) bitsLt_bf16_f32) g u d) nq))

/-- A tile of 256 columns of the joined weights, from column `o`. -/
theorem ldW (W : Vec Ideal S1024x5632 .bf16) (o : ℕ) (inb : ∀ a, (![0, o] : Fin 2 → ℕ) a + S1024x256.size a ≤ S1024x5632.size a) (d : Fin 1024) (k : Fin 256) (h : o + k.val < 5632) :
    (View.ld W (Rect.unit (s := S1024x5632) ![0, o] S1024x256.size inb) : Vec Ideal S1024x256 .bf16) (ix2 d k) = W (ix2 d ⟨o + k.val, h⟩) := by
  rw [View.ld_unit]; pointwise

/-- A tile of 256 rows of the down weights, from row `o`. -/
theorem ldD (D : Vec Ideal S2816x1024 .bf16) (o : ℕ) (inb : ∀ a, (![o, 0] : Fin 2 → ℕ) a + S256x1024.size a ≤ S2816x1024.size a) (k : Fin 256) (p : Fin 1024) (h : o + k.val < 2816) :
    (View.ld D (Rect.unit (s := S2816x1024) ![o, 0] S256x1024.size inb) : Vec Ideal S256x1024 .bf16) (ix2 k p) = D (ix2 ⟨o + k.val, h⟩ p) := by
  rw [View.ld_unit]; pointwise

/-- Half of the body on the weights' tiles is the feed-forward block on each of its rows. -/
theorem half_apply (x : FVec Ideal S512x1024 .f32) (np nq : FVec Ideal S1x1024 .f32) (W : FVec Ideal S1024x5632 .bf16) (D : FVec Ideal S2816x1024 .bf16)
    (g u : Fin 11 → FVec Ideal S1024x256 .bf16) (dn : Fin 11 → FVec Ideal S256x1024 .bf16)
    (hg : ∀ (j : Fin 11) (d : Fin 1024) (k : Fin 256), g j (ix2 d k) = W (ix2 d ⟨j.val * 256 + k.val, by omega⟩))
    (hu : ∀ (j : Fin 11) (d : Fin 1024) (k : Fin 256), u j (ix2 d k) = W (ix2 d ⟨2816 + (j.val * 256 + k.val), by omega⟩))
    (hd : ∀ (j : Fin 11) (k : Fin 256) (p : Fin 1024), dn j (ix2 k p) = D (ix2 ⟨j.val * 256 + k.val, by omega⟩ p)) (r : Fin 512) (p : Fin 1024) :
    half x np nq g u dn (ix2 r p) = ffnRow (fun k => x (ix2 r k)) (fun k => np (ix2 0 k)) (fun k => nq (ix2 0 k)) (fun d f => W (ix2 d f)) (fun f p => D (ix2 f p)) p := by
  have ht : (truncf .bf16 (nrm x np) bitsLt_bf16_f32 : FVec Ideal S512x1024 .bf16) = nrm x np := rfl
  have e : half x np nq g u dn (ix2 r p) = x (ix2 r p) + Ideal.ofBits .f32 0x3F000000#32 * nrm (acc (nrm x np) g u dn) nq (ix2 r p) := by
    unfold half; rw [ht]; pointwise
  rw [e, nrm_apply, ffnRow]
  refine congrArg (fun t => _ + _ * t) (congrArg (fun f => nrow f _ p) (funext fun q => ?_))
  rw [acc_apply, Fin.sum_univ_tiles 11 256 (N := 2816) (by norm_num)]
  refine Finset.sum_congr rfl fun j _ => (tile_apply _ _ _ _ r q).trans (Finset.sum_congr rfl fun k _ => ?_)
  simp only [hg, hu, hd, nrm_apply]

/-- The body's result block: two halves of 512 rows. -/
theorem out_eq (x0 : Vec Ideal S1x1024x1024 .f32) (x1 x2 : Vec Ideal S1x1024 .f32) (x3 : Vec Ideal S1024x5632 .bf16) (x4 : Vec Ideal S2816x1024 .bf16) :
    ∃ (g u : Fin 11 → FVec Ideal S1024x256 .bf16) (dn : Fin 11 → FVec Ideal S256x1024 .bf16),
      (∀ (j : Fin 11) (d : Fin 1024) (k : Fin 256), g j (ix2 d k) = x3 (ix2 d ⟨j.val * 256 + k.val, by omega⟩))
      ∧ (∀ (j : Fin 11) (d : Fin 1024) (k : Fin 256), u j (ix2 d k) = x3 (ix2 d ⟨2816 + (j.val * 256 + k.val), by omega⟩))
      ∧ (∀ (j : Fin 11) (k : Fin 256) (p : Fin 1024), dn j (ix2 k p) = x4 (ix2 ⟨j.val * 256 + k.val, by omega⟩ p))
      ∧ out0_5 x0 x1 x2 x3 x4 = shapeCast S1x1024x1024 (concatenate S1024x1024 0
          [⟨S512x1024, half (extractStridedSlice S512x1024 ![0, 0] (shapeCast S1024x1024 x0 shapeCasts_S1x1024x1024_S1024x1024) slices_S1024x1024_o0_0_S512x1024) x1 x2 g u dn⟩,
           ⟨S512x1024, half (extractStridedSlice S512x1024 ![512, 0] (shapeCast S1024x1024 x0 shapeCasts_S1x1024x1024_S1024x1024) slices_S1024x1024_o512_0_S512x1024) x1 x2 g u dn⟩]
          concatenates_S512x1024_S512x1024_S1024x1024_d0) shapeCasts_S1024x1024_S1x1024x1024 := by
  refine ⟨![View.ld x3 r0_2, View.ld x3 r0_5, View.ld x3 r0_8, View.ld x3 r0_11, View.ld x3 r0_14, View.ld x3 r0_17, View.ld x3 r0_20, View.ld x3 r0_23, View.ld x3 r0_26, View.ld x3 r0_29, View.ld x3 r0_32],
    ![View.ld x3 r0_3, View.ld x3 r0_6, View.ld x3 r0_9, View.ld x3 r0_12, View.ld x3 r0_15, View.ld x3 r0_18, View.ld x3 r0_21, View.ld x3 r0_24, View.ld x3 r0_27, View.ld x3 r0_30, View.ld x3 r0_33],
    ![View.ld x4 r0_4, View.ld x4 r0_7, View.ld x4 r0_10, View.ld x4 r0_13, View.ld x4 r0_16, View.ld x4 r0_19, View.ld x4 r0_22, View.ld x4 r0_25, View.ld x4 r0_28, View.ld x4 r0_31, View.ld x4 r0_34], ?_, ?_, ?_, ?_⟩
  · intro j d k
    fin_cases j <;> exact (ldW x3 _ _ d k (by first | (have := k.isLt; omega))).trans (congrArg x3 (congrArg (ix2 d) (Fin.ext (by simp))))
  · intro j d k
    fin_cases j <;> exact (ldW x3 _ _ d k (by first | (have := k.isLt; omega))).trans (congrArg x3 (congrArg (ix2 d) (Fin.ext (by simp <;> omega))))
  · intro j k p
    fin_cases j <;> exact (ldD x4 _ _ k p (by first | (have := k.isLt; omega))).trans (congrArg x4 (congrArg (fun z => ix2 z p) (Fin.ext (by simp))))
  · have h0 : View.ld x0 r0_0 = x0 := View.ld_unit_zero (by funext a; fin_cases a <;> rfl) _ _
    have h1 : ∀ y : Vec Ideal S1x1024 .f32, View.ld y r0_1 = y := fun y => View.ld_unit_zero (by funext a; fin_cases a <;> rfl) _ _
    unfold_out out0_5
    rw [View.canon_unit_zero (by funext a; fin_cases a <;> rfl), h0, h1, h1]
    rfl

end Cert.Ffn

end
-- ==== Proof.FfnRef.lean ====
module

public import proofs.«01_k».proof.Proof.FfnBlock
public import proofs.«01_k».proof.Proof.Gen.Reference3Ideal.Read

/-! The feed-forward reference, read at an index: the same row function as the kernel's body. -/

@[expose] public section

noncomputable section

namespace Cert.Ffn

open Cert.Reference3Ideal Cert.Reference3Ideal.Gen Cert.Reference3Ideal.Read Idealize.ShloMosaic

variable (x0 : (⟨S6x8192x1024, .f32⟩ : BufTy).Contents (Elt Ideal)) (x1 x2 : (⟨S1024, .f32⟩ : BufTy).Contents (Elt Ideal))
  (x3 : (⟨S1024x5632, .bf16⟩ : BufTy).Contents (Elt Ideal)) (x4 : (⟨S2816x1024, .bf16⟩ : BufTy).Contents (Elt Ideal))

/-- The reference's first normalisation. -/
theorem ref_nrm (b : Fin 6) (t : Fin 8192) (d : Fin 1024) :
    val_main_v14 (F := Ideal) x0 x1 (ix3 b t d) = nrow (fun k => x0 (ix3 b t k)) (fun k => x1 (ix1 k)) d := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1, nrow]

/-- The reference's hidden layer. -/
theorem ref_hid (b : Fin 6) (t : Fin 8192) (f : Fin 2816) :
    val_main_v19 (F := Ideal) x0 x1 x3 (ix3 b t f) = hid (nrow (fun k => x0 (ix3 b t k)) (fun k => x1 (ix1 k)))
      (fun d => x3 (ix2 d ⟨f.val, by omega⟩)) (fun d => x3 (ix2 d ⟨2816 + f.val, by omega⟩)) := by
  have h : ∀ j : Fin 5632, val_main_v15 (F := Ideal) x0 x1 x3 (ix3 b t j) = ∑ d, nrow (fun k => x0 (ix3 b t k)) (fun k => x1 (ix1 k)) d * x3 (ix2 d j) := by
    intro j
    rw [val_main_v15_apply]
    refine Finset.sum_congr rfl fun d _ => ?_
    have e1 : lidx_main_v15 (ix3 b t j) d = ix3 b t d := by funext a; fin_cases a <;> rfl
    have e2 : ridx_main_v15 (ix3 b t j) d = ix2 d j := by funext a; fin_cases a <;> rfl
    rw [e1, e2, ref_nrm]; rfl
  have h1 : Ideal.ofBits .f32 0x3F800000#32 = 1 := Ideal.ofBits_one_f32
  have hg : val_main_v16 (F := Ideal) x0 x1 x3 (ix3 b t f) = val_main_v15 (F := Ideal) x0 x1 x3 (ix3 b t ⟨f.val, by omega⟩) := by
    rw [val_main_v16_apply, show idx_main_v16 (ix3 b t f) = ix3 b t ⟨f.val, by omega⟩ by (funext a; fin_cases a <;> first | rfl | exact Fin.ext (by simp))]
  have hu : val_main_v17 (F := Ideal) x0 x1 x3 (ix3 b t f) = val_main_v15 (F := Ideal) x0 x1 x3 (ix3 b t ⟨2816 + f.val, by omega⟩) := by
    rw [val_main_v17_apply, show idx_main_v17 (ix3 b t f) = ix3 b t ⟨2816 + f.val, by omega⟩ by
      (funext a; fin_cases a <;> first | rfl | exact Fin.ext (by simp))]
  have hl : val_main_call0_v5 (F := Ideal) x0 x1 x3 (ix3 b t f) = Ideal.logistic (val_main_v16 (F := Ideal) x0 x1 x3 (ix3 b t f)) := by
    rw [val_main_call0_v5_apply, val_main_call0_v4_apply, val_main_call0_v3_apply, val_main_call0_v2_apply, val_main_call0_v1_apply, val_main_call0_v0_apply]
    show Ideal.div (Ideal.ofBits .f32 0x3F800000#32) (Ideal.ofBits .f32 0x3F800000#32 + Ideal.exp (-_)) = _
    rw [h1]; rfl
  rw [val_main_v19_apply, val_main_v18_apply, hl, hg, hu, h, h]
  rfl

/-- The reference's down-projection. -/
theorem ref_down (b : Fin 6) (t : Fin 8192) (p : Fin 1024) :
    val_main_v20 (F := Ideal) x0 x1 x3 x4 (ix3 b t p) = ∑ f : Fin 2816, hid (nrow (fun k => x0 (ix3 b t k)) (fun k => x1 (ix1 k)))
      (fun d => x3 (ix2 d ⟨f.val, by omega⟩)) (fun d => x3 (ix2 d ⟨2816 + f.val, by omega⟩)) * x4 (ix2 f p) := by
  rw [val_main_v20_apply]
  refine Finset.sum_congr rfl fun f _ => ?_
  have e1 : lidx_main_v20 (ix3 b t p) f = ix3 b t f := by funext a; fin_cases a <;> rfl
  have e2 : ridx_main_v20 (ix3 b t p) f = ix2 f p := by funext a; fin_cases a <;> rfl
  rw [e1, e2, ref_hid]; rfl

/-- The reference at an index: the feed-forward block on that token's row. -/
theorem ref_apply (b : Fin 6) (t : Fin 8192) (p : Fin 1024) :
    val_main_v36 (F := Ideal) x0 x1 x2 x3 x4 (ix3 b t p) = ffnRow (fun k => x0 (ix3 b t k)) (fun k => x1 (ix1 k)) (fun k => x2 (ix1 k)) (fun d f => x3 (ix2 d f)) (fun f p => x4 (ix2 f p)) p := by
  have e : val_main_v36 (F := Ideal) x0 x1 x2 x3 x4 (ix3 b t p) = x0 (ix3 b t p) + Ideal.ofBits .f32 0x3F000000#32
      * nrow (fun q => val_main_v20 (F := Ideal) x0 x1 x3 x4 (ix3 b t q)) (fun k => x2 (ix1 k)) p := by
    have : ∃ y, y = val_main_v20 (F := Ideal) x0 x1 x3 x4 := ⟨_, rfl⟩
    obtain ⟨y, hy⟩ := this
    pointwise [val_main_v36, val_main_v35, val_main_v34, val_main_v33, val_main_v32, val_main_v31, val_main_v30, val_main_v29, val_main_v28, val_main_v27, val_main_v26,
      val_main_v25, val_main_v24, val_main_v23, val_main_v22, val_main_v21, val_main_cst_2, val_main_cst_3, val_main_cst_4, val_main_cst_5, nrow]
  rw [e, ffnRow]
  simp only [ref_down]

end Cert.Ffn

end
-- ==== Proof.FfnValue.lean ====
module

public import proofs.«01_k».proof.Proof.FfnRef
public import proofs.«01_k».proof.Defs

/-! The feed-forward call computes its reference: the run's last array and the joint claim. -/

@[expose] public section

noncomputable section

namespace Cert.Ffn

open Cert.Kernel3Ideal Cert.Kernel3Ideal.Gen Idealize.ShloMosaic Idealize.ShloMosaic.TcCoe Idealize.SL.Sem

/-- The body's result block at a row and a lane: the feed-forward block on that row. -/
theorem out_apply (x0 : Vec Ideal S1x1024x1024 .f32) (x1 x2 : Vec Ideal S1x1024 .f32) (x3 : Vec Ideal S1024x5632 .bf16) (x4 : Vec Ideal S2816x1024 .bf16)
    (r : Fin 1024) (p : Fin 1024) :
    out0_5 x0 x1 x2 x3 x4 (ix3 0 r p) = ffnRow (fun k => x0 (ix3 0 r k)) (fun k => x1 (ix2 0 k)) (fun k => x2 (ix2 0 k)) (fun d f => x3 (ix2 d f)) (fun f p => x4 (ix2 f p)) p := by
  obtain ⟨g, u, dn, hg, hu, hd, e⟩ := out_eq x0 x1 x2 x3 x4
  have ha : ∀ X Y : FVec Ideal S512x1024 .f32, (shapeCast S1x1024x1024 (concatenate S1024x1024 0 [⟨S512x1024, X⟩, ⟨S512x1024, Y⟩] concatenates_S512x1024_S512x1024_S1024x1024_d0)
      shapeCasts_S1024x1024_S1x1024x1024 : FVec Ideal S1x1024x1024 .f32) (ix3 0 r p) = if h : r.val < 512 then X (ix2 ⟨r.val, h⟩ p) else Y (ix2 ⟨r.val - 512, by omega⟩ p) := by
    intro X Y
    pointwise
  rw [e, ha]
  split
  · next h =>
    rw [half_apply _ _ _ x3 x4 g u dn hg hu hd]
    refine congrArg (fun f => ffnRow f _ _ _ _ p) (funext fun k => ?_)
    pointwise
  · next h =>
    rw [half_apply _ _ _ x3 x4 g u dn hg hu hd]
    refine congrArg (fun f => ffnRow f _ _ _ _ p) (funext fun k => ?_)
    have hr : 512 + (r.val - 512) = r.val := by omega
    pointwise
    simp only [hr]

variable (m : (ℓ : Loc nD τ sig) → Buf (Elt Ideal) ℓ) (c : Dev nD)

/-- What the call leaves in its result: the feed-forward block on every token's row. -/
def res (a0 : FVec Ideal S6x8192x1024 .f32) (a1 a2 : FVec Ideal S1024 .f32) (a3 : FVec Ideal S1024x5632 .bf16) (a4 : FVec Ideal S2816x1024 .bf16) : FVec Ideal S6x8192x1024 .f32 :=
  fun i => ffnRow (fun k => a0 (ix3 (i 0) (i 1) k)) (fun k => a1 (ix1 k)) (fun k => a2 (ix1 k)) (fun d f => a3 (ix2 d f)) (fun f p => a4 (ix2 f p)) (i 2)

/-- The first weight row the region reads is the argument as one row. -/
theorem V_v0 : V m c main_v0 = shapeCast S1x1024 (m ((c : Thread nD τ).loc main_arg1)) shapeCasts_S1024_S1x1024 := by
  show StableHlo.after hostOps0 (fun b => m (c, b)) (Proc.devRef .tc main_v0) = _
  simp only [hostOps0]; after_reads_simp; rfl

/-- The second weight row the region reads is the argument as one row. -/
theorem V_v1 : V m c main_v1 = shapeCast S1x1024 (m ((c : Thread nD τ).loc main_arg2)) shapeCasts_S1024_S1x1024 := by
  show StableHlo.after hostOps0 (fun b => m (c, b)) (Proc.devRef .tc main_v1) = _
  simp only [hostOps0]; after_reads_simp; rfl

/-- The grid's index maps: point `t` holds sequence `t / 8` and rows `t % 8` of the tokens; the weights are whole. -/
theorem idx_facts : ∀ t : Fin cfg0.N, win0_5.index t = ![t.val / 8, t.val % 8, 0] ∧ win0_0.index t = ![t.val / 8, t.val % 8, 0]
    ∧ win0_1.index t = ![0, 0] ∧ win0_2.index t = ![0, 0] ∧ win0_3.index t = ![0, 0] ∧ win0_4.index t = ![0, 0] :=
  (by decide +kernel : ∀ t : Fin grid0.N, _)

/-- What point `t` writes back is its block of the result. -/
theorem flushed_eq (t : Fin cfg0.N) :
    (dats m 0 c).flushed 5 t = ((cfg0.win 5).blk t).view.read (Elt Ideal) (res (m ((c : Thread nD τ).loc main_arg0)) (m ((c : Thread nD τ).loc main_arg1))
      (m ((c : Thread nD τ).loc main_arg2)) (m ((c : Thread nD τ).loc main_arg3)) (m ((c : Thread nD τ).loc main_arg4))) := by
  rw [Value.flushed5]
  obtain ⟨e5, e0, e1, e2, e3, e4⟩ := idx_facts t
  have ht : t.val < 48 := lt_of_lt_of_eq t.isLt N_0
  funext y
  have hy0 : (y 0).val < 1 := (y 0).isLt
  have hy1 : (y 1).val < 1024 := (y 1).isLt
  have hy2 : (y 2).val < 1024 := (y 2).isLt
  have hx : (cfg0.win 5).xinj (grid0.coords t) y = ix3 (0 : Fin 1) (⟨(y 1).val, hy1⟩ : Fin 1024) (⟨(y 2).val, hy2⟩ : Fin 1024) := by
    funext a; apply Fin.ext
    match a with
    | ⟨0, _⟩ => show (y 0).val = 0; omega
    | ⟨1, _⟩ => rfl
    | ⟨2, _⟩ => rfl
  show out0_5 (F := Ideal) (iblk m c 0 t) (iblk m c 1 t) (iblk m c 2 t) (iblk m c 3 t) (iblk m c 4 t) ((cfg0.win 5).xinj (grid0.coords t) y)
    = (res (m ((c : Thread nD τ).loc main_arg0)) (m ((c : Thread nD τ).loc main_arg1)) (m ((c : Thread nD τ).loc main_arg2)) (m ((c : Thread nD τ).loc main_arg3))
        (m ((c : Thread nD τ).loc main_arg4))) (((cfg0.win 5).blk t).view.emb y)
  rw [hx, out_apply]
  have hb : ((cfg0.win 5).blk t).view.emb y = ix3 (⟨t.val / 8, by omega⟩ : Fin 6) (⟨t.val % 8 * 1024 + (y 1).val, by omega⟩ : Fin 8192) (⟨(y 2).val, hy2⟩ : Fin 1024) := by
    funext a; apply Fin.ext
    match a with
    | ⟨0, _⟩ => show win0_5.index t (0 : Fin 3) * 1 + 1 * (y 0).val = t.val / 8; rw [e5]; show t.val / 8 * 1 + 1 * (y 0).val = _; omega
    | ⟨1, _⟩ => show win0_5.index t (1 : Fin 3) * 1024 + 1 * (y 1).val = t.val % 8 * 1024 + (y 1).val; rw [e5]; show t.val % 8 * 1024 + 1 * (y 1).val = _; omega
    | ⟨2, _⟩ => show win0_5.index t (2 : Fin 3) * 1024 + 1 * (y 2).val = (y 2).val; rw [e5]; show 0 * 1024 + 1 * (y 2).val = _; omega
  rw [hb]
  show ffnRow _ _ _ _ _ _ = ffnRow _ _ _ _ _ _
  congr 1
  · funext k
    show V m c main_arg0 (((cfg0.win 0).blk t).view.emb (ix3 0 ⟨(y 1).val, hy1⟩ k)) = _
    rw [V_main_arg0]
    refine congrArg _ ?_
    funext a; apply Fin.ext
    match a with
    | ⟨0, _⟩ => show win0_0.index t (0 : Fin 3) * 1 + 1 * 0 = t.val / 8; rw [e0]; show t.val / 8 * 1 + 1 * 0 = _; omega
    | ⟨1, _⟩ => show win0_0.index t (1 : Fin 3) * 1024 + 1 * (y 1).val = t.val % 8 * 1024 + (y 1).val; rw [e0]; show t.val % 8 * 1024 + 1 * (y 1).val = _; omega
    | ⟨2, _⟩ => show win0_0.index t (2 : Fin 3) * 1024 + 1 * k.val = k.val; rw [e0]; show 0 * 1024 + 1 * k.val = _; omega
  · funext k
    have hi : ((cfg0.win 1).blk t).view.emb (ix2 0 k) = (ix2 (0 : Fin 1) k) := by
      funext a; apply Fin.ext
      match a with
      | ⟨0, _⟩ => show win0_1.index t (0 : Fin 2) * 1 + 1 * 0 = 0; rw [e1]; rfl
      | ⟨1, _⟩ => show win0_1.index t (1 : Fin 2) * 1024 + 1 * k.val = k.val; rw [e1]; show 0 * 1024 + 1 * k.val = _; omega
    show V m c main_v0 (((cfg0.win 1).blk t).view.emb (ix2 0 k)) = _
    rw [hi, V_v0]
    pointwise
  · funext k
    have hi : ((cfg0.win 2).blk t).view.emb (ix2 0 k) = (ix2 (0 : Fin 1) k) := by
      funext a; apply Fin.ext
      match a with
      | ⟨0, _⟩ => show win0_2.index t (0 : Fin 2) * 1 + 1 * 0 = 0; rw [e2]; rfl
      | ⟨1, _⟩ => show win0_2.index t (1 : Fin 2) * 1024 + 1 * k.val = k.val; rw [e2]; show 0 * 1024 + 1 * k.val = _; omega
    show V m c main_v1 (((cfg0.win 2).blk t).view.emb (ix2 0 k)) = _
    rw [hi, V_v1]
    pointwise
  · funext d f
    show V m c main_arg3 (((cfg0.win 3).blk t).view.emb (ix2 d f)) = _
    rw [V_main_arg3]
    refine congrArg _ ?_
    funext a; apply Fin.ext
    match a with
    | ⟨0, _⟩ => show win0_3.index t (0 : Fin 2) * 1024 + 1 * d.val = d.val; rw [e3]; show 0 * 1024 + 1 * d.val = _; omega
    | ⟨1, _⟩ => show win0_3.index t (1 : Fin 2) * 5632 + 1 * f.val = f.val; rw [e3]; show 0 * 5632 + 1 * f.val = _; omega
  · funext f p
    show V m c main_arg4 (((cfg0.win 4).blk t).view.emb (ix2 f p)) = _
    rw [V_main_arg4]
    refine congrArg _ ?_
    funext a; apply Fin.ext
    match a with
    | ⟨0, _⟩ => show win0_4.index t (0 : Fin 2) * 2816 + 1 * f.val = f.val; rw [e4]; show 0 * 2816 + 1 * f.val = _; omega
    | ⟨1, _⟩ => show win0_4.index t (1 : Fin 2) * 1024 + 1 * p.val = p.val; rw [e4]; show 0 * 1024 + 1 * p.val = _; omega

/-- Every index of the result is in some point's block. -/
theorem covered (i : S6x8192x1024.Idx) : ∃ t : Fin cfg0.N, (cfg0.win 5).flush t = true ∧ i ∈ ((cfg0.win 5).blk t).view.set := by
  have h0 : (i 0).val < 6 := (i 0).isLt
  have h1 : (i 1).val < 8192 := (i 1).isLt
  have h2 : (i 2).val < 1024 := (i 2).isLt
  have hN : cfg0.N = 48 := N_0
  obtain ⟨t, ht⟩ : ∃ t : Fin cfg0.N, t.val = (i 0).val * 8 + (i 1).val / 1024 := ⟨⟨_, by omega⟩, rfl⟩
  refine ⟨t, flush0_5 t, ?_⟩
  show i ∈ ((View.whole main_v2).slice (win0_5.rect t)).set
  rw [View.set_slice_whole, Rect.mem_set_unit]
  have e := (idx_facts t).1
  intro a
  match a with
  | ⟨0, _⟩ => show win0_5.index t (0 : Fin 3) * 1 ≤ (i 0).val ∧ (i 0).val < win0_5.index t (0 : Fin 3) * 1 + 1; rw [e]; show t.val / 8 * 1 ≤ _ ∧ _ < t.val / 8 * 1 + 1; omega
  | ⟨1, _⟩ => show win0_5.index t (1 : Fin 3) * 1024 ≤ (i 1).val ∧ (i 1).val < win0_5.index t (1 : Fin 3) * 1024 + 1024; rw [e]; show t.val % 8 * 1024 ≤ _ ∧ _ < t.val % 8 * 1024 + 1024; omega
  | ⟨2, _⟩ => show win0_5.index t (2 : Fin 3) * 1024 ≤ (i 2).val ∧ (i 2).val < win0_5.index t (2 : Fin 3) * 1024 + 1024; rw [e]; show 0 * 1024 ≤ _ ∧ _ < 0 * 1024 + 1024; omega

/-- The result array after the run. -/
theorem final : (dats m 0 c).arrAt 5 cfg0.N = res (m ((c : Thread nD τ).loc main_arg0)) (m ((c : Thread nD τ).loc main_arg1))
    (m ((c : Thread nD τ).loc main_arg2)) (m ((c : Thread nD τ).loc main_arg3)) (m ((c : Thread nD τ).loc main_arg4)) :=
  (dats m 0 c).arrAt_eq_of_cover 5 _ (fun t _ => flushed_eq m c t) (fun i => covered i)

/-- The reference's result is the same array. -/
theorem ref_res (x0 : FVec Ideal S6x8192x1024 .f32) (x1 x2 : FVec Ideal S1024 .f32) (x3 : FVec Ideal S1024x5632 .bf16) (x4 : FVec Ideal S2816x1024 .bf16) :
    Cert.Reference3Ideal.Read.val_main_v36 (F := Ideal) x0 x1 x2 x3 x4 = res x0 x1 x2 x3 x4 := by
  funext i
  have hi : i = ix3 (i 0 : Fin 6) (i 1 : Fin 8192) (i 2 : Fin 1024) := eq_ix3 i
  rw [hi]
  exact ref_apply x0 x1 x2 x3 x4 _ _ _

/-- The feed-forward call computes its reference over the reals. -/
theorem claim : Cert.algebraic_Kernel3Ideal_Reference3Ideal (hKernel3Ideal := Cert.Kernel3Ideal.Gen.facts) (hReference3Ideal := Cert.Reference3Ideal.Gen.facts) := by
  intro m g m' g' _ hagree
  refine ⟨_, (θ_run _ _ _).mono (fun r h c => ⟨((h c).1.trans (final m c)), (h c).2⟩) (Cert.Kernel3Ideal.Value.run_blocks m g),
    (θ_run _ _ _).mono (fun r h c => ⟨(h c).1.trans ?_, (h c).2⟩) (Cert.Reference3Ideal.Value.run m' g')⟩
  obtain ⟨h0, h1, h2, h3, h4⟩ := hagree c
  refine (Cert.Reference3Ideal.Read.val_main_v36_eq m' c).trans ?_
  rw [h0, h1, h2, h3, h4]
  exact ref_res _ _ _ _ _

end Cert.Ffn

end
-- ==== Proof.TwoOutIdeal.lean ====
module

public import proofs.«01_k».proof.Proof.Gen.Kernel5Ideal.Frame
public import proofs.«01_k».proof.Proof.Gen.Kernel5Ideal.Skeleton
public import proofs.«01_k».proof.Proof.Gen.Kernel3Ideal.Frame
public import Idealize.ShloMosaic.Lib.Pipeline.TableIdle

/-! The feed-forward call that splits its result over two arrays: its body, its proof data and its
run. Which of the two output buffers a grid point stores is decided by the sequence it works on.
The first output's buffer is kept, unstored, from point 32 on, and is copied out after the last
point. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores, as a function of its five input blocks. -/
abbrev outV (x0 : Vec F S1x1024x1024 .f32) (x1 : Vec F S1x1024 .f32) (x2 : Vec F S1x1024 .f32)
    (x3 : Vec F S1024x5632 .bf16) (x4 : Vec F S2816x1024 .bf16) : Vec F S1x1024x1024 .f32 :=
  Cert.Kernel3Ideal.Gen.out0_5 (F := F) x0 x1 x2 x3 x4

/-- The whole of a block. -/
abbrev whole : Rect S1x1024x1024 :=
  Rect.unit (s := S1x1024x1024) ![0, 0, 0] S1x1024x1024.size inb_S1x1024x1024_S1x1024x1024_0_0_0

/-- One store of the whole block covers it. -/
theorem cover_whole (p0 : Vec F S1x1024x1024 .f32) (y : S1x1024x1024.Idx) :
    ∃ pc ∈ ([⟨whole, p0⟩] : List (View.Piece (Elt F) S1x1024x1024 .f32)), y ∈ pc.1.set :=
  View.cover_of_tiled [⟨whole, p0⟩] S1x1024x1024.size (by rfl) y

set_option maxHeartbeats 2000000 in
/-- The body where the first condition holds and the second does not: the first output's buffer
    ends at the stored value, the second's as it was found. -/
theorem kernel_first (c : Dev nD) (E : Set ℕ) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole)
    (arg6 : Memref sig .tc .vmem S2816x1024 .bf16) (harg6 : arg6.IsWhole) (arg7 : Memref sig .tc .vmem S1x1024x1024 .f32) (harg7 : arg7.IsWhole) (arg8 : Memref sig .tc .vmem S1x1024x1024 .f32) (harg8 : arg8.IsWhole)
    (x0 : Vec F S1x1024x1024 .f32) (x1 : Vec F S1x1024 .f32) (x2 : Vec F S1x1024 .f32) (x3 : Vec F S1024x5632 .bf16) (x4 : Vec F S2816x1024 .bf16) (x6 : Vec F S1x1024x1024 .f32)
    (hc1 : k0_cond1 i = 1#1) (hc2 : ¬ (k0_cond2 i = 1#1)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outV x0 x1 x2 x3 x4) ∗ owns (c : Thread nD τ) arg8 fullShare x6) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_whole _)).trans ?_
    rfl
  iexists f6; isplitr; · ipureintro; rfl
  iexact H6

set_option maxHeartbeats 2000000 in
/-- The body where the second condition holds and the first does not: the second output's buffer
    ends at the stored value, the first's as it was found. -/
theorem kernel_second (c : Dev nD) (E : Set ℕ) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x5632 .bf16) (harg5 : arg5.IsWhole)
    (arg6 : Memref sig .tc .vmem S2816x1024 .bf16) (harg6 : arg6.IsWhole) (arg7 : Memref sig .tc .vmem S1x1024x1024 .f32) (harg7 : arg7.IsWhole) (arg8 : Memref sig .tc .vmem S1x1024x1024 .f32) (harg8 : arg8.IsWhole)
    (x0 : Vec F S1x1024x1024 .f32) (x1 : Vec F S1x1024 .f32) (x2 : Vec F S1x1024 .f32) (x3 : Vec F S1024x5632 .bf16) (x4 : Vec F S2816x1024 .bf16) (x5 : Vec F S1x1024x1024 .f32)
    (hc1 : ¬ (k0_cond1 i = 1#1)) (hc2 : k0_cond2 i = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outV x0 x1 x2 x3 x4)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover_whole _)).trans ?_
  rfl

/-- What the body stores at point `t`. -/
def outAt (c : Dev nD) (t : Fin cfg0.N) : Vec F S1x1024x1024 .f32 :=
  outV (iblk m c 0 t) (iblk m c 1 t) (iblk m c 2 t) (iblk m c 3 t) (iblk m c 4 t)

/-- The last point up to `t` that stored the first output. -/
def lastA (t : Fin cfg0.N) : Fin cfg0.N := ⟨min t.val 31, lt_of_le_of_lt (Nat.min_le_left _ _) t.isLt⟩

/-- The proof data: inputs hold their blocks, the first output's buffer what the last point that
    stored it left, the second's what the point itself stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c (lastA t)
    | ⟨6, _⟩ => outAt m c t
  Φ _ := Pipeline.ΦA spec0 c
  q _ := fullShare
  owed _ := 0

/-- The data's arrays are the arrays as the region finds them. -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = iblk m c 0 t := by dsimp only [dats]
@[inherit_doc after0_0]
theorem after0_1 (c : Dev nD) (t : Fin cfg0.N) : (dats m 0 c).after 1 t = iblk m c 1 t := by dsimp only [dats]
@[inherit_doc after0_0]
theorem after0_2 (c : Dev nD) (t : Fin cfg0.N) : (dats m 0 c).after 2 t = iblk m c 2 t := by dsimp only [dats]
@[inherit_doc after0_0]
theorem after0_3 (c : Dev nD) (t : Fin cfg0.N) : (dats m 0 c).after 3 t = iblk m c 3 t := by dsimp only [dats]
@[inherit_doc after0_0]
theorem after0_4 (c : Dev nD) (t : Fin cfg0.N) : (dats m 0 c).after 4 t = iblk m c 4 t := by dsimp only [dats]
@[inherit_doc after0_0]
theorem after0_5 (c : Dev nD) (t : Fin cfg0.N) : (dats m 0 c).after 5 t = outAt m c (lastA t) := by dsimp only [dats]
@[inherit_doc after0_0]
theorem after0_6 (c : Dev nD) (t : Fin cfg0.N) : (dats m 0 c).after 6 t = outAt m c t := by dsimp only [dats]

/-- Each input's buffer holds its block when the body starts. -/
theorem before0_0 (c : Dev nD) (t : Fin cfg0.N) (d) : (dats m 0 c).before 0 t d = iblk m c 0 t :=
  before0_0_of m (dats m 0 c) (A_eq m c 0) (after0_0 m c) t d
@[inherit_doc before0_0]
theorem before0_1 (c : Dev nD) (t : Fin cfg0.N) (d) : (dats m 0 c).before 1 t d = iblk m c 1 t :=
  before0_1_of m (dats m 0 c) (A_eq m c 1) (after0_1 m c) t d
@[inherit_doc before0_0]
theorem before0_2 (c : Dev nD) (t : Fin cfg0.N) (d) : (dats m 0 c).before 2 t d = iblk m c 2 t :=
  before0_2_of m (dats m 0 c) (A_eq m c 2) (after0_2 m c) t d
@[inherit_doc before0_0]
theorem before0_3 (c : Dev nD) (t : Fin cfg0.N) (d) : (dats m 0 c).before 3 t d = iblk m c 3 t :=
  before0_3_of m (dats m 0 c) (A_eq m c 3) (after0_3 m c) t d
@[inherit_doc before0_0]
theorem before0_4 (c : Dev nD) (t : Fin cfg0.N) (d) : (dats m 0 c).before 4 t d = iblk m c 4 t :=
  before0_4_of m (dats m 0 c) (A_eq m c 4) (after0_4 m c) t d

/-- Which of the two conditions holds at a point. -/
theorem cond1_iff : ∀ t : Fin cfg0.N, k0_cond1 (grid0.coords t) = 1#1 ↔ t.val < 32 :=
  (by decide +kernel : ∀ t : Fin grid0.N, k0_cond1 (grid0.coords t) = 1#1 ↔ t.val < 32)
@[inherit_doc cond1_iff]
theorem cond2_iff : ∀ t : Fin cfg0.N, k0_cond2 (grid0.coords t) = 1#1 ↔ 32 ≤ t.val :=
  (by decide +kernel : ∀ t : Fin grid0.N, k0_cond2 (grid0.coords t) = 1#1 ↔ 32 ≤ t.val)

/-- Which output a point leaves alone. -/
theorem idle5 : ∀ t : Fin cfg0.N, cfg0.idle 5 (cfg0.grid.coords t) = decide (32 ≤ t.val) :=
  (by decide +kernel : ∀ t : Fin grid0.N, idle0 5 (grid0.coords t) = decide (32 ≤ t.val))
@[inherit_doc idle5]
theorem idle6 : ∀ t : Fin cfg0.N, cfg0.idle 6 (cfg0.grid.coords t) = decide (t.val < 32) :=
  (by decide +kernel : ∀ t : Fin grid0.N, idle0 6 (grid0.coords t) = decide (t.val < 32))

/-- The second output is copied out only by points that store it. -/
theorem flush6 : ∀ t : Fin cfg0.N, t.val < 32 → (cfg0.win 6).flush t = false :=
  (by decide +kernel : ∀ t : Fin grid0.N, t.val < 32 → win0_6.flush t = false)

/-- From point 32 on the first output's buffer is not a fresh one. -/
theorem fresh5 : ∀ t : Fin cfg0.N, 32 ≤ t.val → cfg0.fresh 5 t.val = false :=
  by decide +kernel

/-- The last storing point up to a point before 32 is the point itself. -/
theorem lastA_eq (t : Fin cfg0.N) (ht : t.val < 32) : lastA t = t :=
  Fin.ext (Nat.min_eq_left (by omega))

/-- From point 32 on the last storing point does not move. -/
theorem lastA_pred (t : Fin cfg0.N) (ht : 32 ≤ t.val) (h : t.val - 1 < cfg0.N) :
    lastA ⟨t.val - 1, h⟩ = lastA t :=
  Fin.ext (show min (t.val - 1) 31 = min t.val 31 by omega)

/-- From point 32 on the first output's buffer holds what point 31 stored. -/
theorem before5 (c : Dev nD) (t : Fin cfg0.N) (ht : 32 ≤ t.val) (d) :
    (dats m 0 c).before 5 t d = outAt m c (lastA t) := by
  have key := Dat.before_out_traj (dat := dats m 0 c) 5 rfl (fun _ _ => rfl) (by
    intro t _ hi _
    rw [idle5] at hi
    rw [after0_5, after0_5, lastA_pred t (of_decide_eq_true hi)]) t.val t rfl d
  rw [key, fresh5 t ht, if_neg Bool.false_ne_true, after0_5, lastA_pred t ht]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns, given what it says of the two outputs' buffers. -/
def bodyPost (c : Dev nD) (t : Fin cfg0.N) (P5 P6 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ P5 ∗ P6)

/-- The body at a point before 32. -/
theorem body_first (c : Dev nD) (t : Fin cfg0.N) (ht : t.val < 32) :
    bodyPre m c t ⊢ wp frame (wpE (defs₀ (F := F)) Variants.none c none) Set.univ (bodyAt0 t) (fun _ => bodyPost m c t
      (owns (c : Thread nD τ) (st0_5 t) fullShare ((dats m 0 c).after 5 t))
      iprop(∃ d, owns (c : Thread nD τ) (st0_6 t) fullShare ((dats m 0 c).before 6 t d))) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, lastA_eq t ht]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_first c Set.univ (grid0.coords t) _ _ _ _ _ _ _ _ _ _ _ _ _ _ (iblk m c 0 t) (iblk m c 1 t) (iblk m c 2 t) (iblk m c 3 t) (iblk m c 4 t) _
    ((cond1_iff t).2 ht) (fun h => absurd ((cond2_iff t).1 h) (by omega)) _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

/-- The body at a point from 32 on, whatever is asked of the first output's buffer that follows
    from its holding what point 31 stored. -/
theorem body_second (c : Dev nD) (t : Fin cfg0.N) (ht : 32 ≤ t.val) (P5 : sProp 𝕄)
    (hP : owns (c : Thread nD τ) (st0_5 t) fullShare (outAt m c (lastA t)) ⊢ P5) :
    bodyPre m c t ⊢ wp frame (wpE (defs₀ (F := F)) Variants.none c none) Set.univ (bodyAt0 t) (fun _ => bodyPost m c t
      P5 (owns (c : Thread nD τ) (st0_6 t) fullShare ((dats m 0 c).after 6 t))) := by
  unfold bodyPre bodyPost bodyAt0
  simp only [before0_0, before0_1, before0_2, before0_3, before0_4, before5 m c t ht]
  rw [show (dats m 0 c).Φ t.succ = (dats m 0 c).Φ t.castSucc from rfl,
    show (dats m 0 c).owesAt () t.succ = (dats m 0 c).owesAt () t.castSucc from rfl,
    after0_0, after0_1, after0_2, after0_3, after0_4, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_second c Set.univ (grid0.coords t) _ _ _ _ _ _ _ _ _ _ _ _ _ _ (iblk m c 0 t) (iblk m c 1 t) (iblk m c 2 t) (iblk m c 3 t) (iblk m c 4 t) _
    (fun h => absurd ((cond1_iff t).1 h) (by omega)) ((cond2_iff t).2 ht) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply hP; iexact H5
  iexact H6

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  rcases lt_or_ge t.val 32 with ht | ht
  · rewrite [idle5, idle6, flush6 t ht, decide_eq_true ht, decide_eq_false (show ¬ 32 ≤ t.val by omega)]
    exact triple_restated (body_first m c t ht) rfl .rfl fun _ => .rfl
  · rewrite [idle5, idle6, decide_eq_true ht, decide_eq_false (show ¬ t.val < 32 by omega)]
    cases hf : (cfg0.win 5).flush t
    · exact triple_restated (body_second m c t ht
        iprop(∃ d, owns (c : Thread nD τ) (st0_5 t) fullShare ((dats m 0 c).before 5 t d)) (by
          simp only [before5 m c t ht]
          iintro H; iexists (outAt m c t); iexact H)) rfl .rfl fun _ => .rfl
    · exact triple_restated (body_second m c t ht
        (owns (c : Thread nD τ) (st0_5 t) fullShare ((dats m 0 c).after 5 t)) (by
          rw [after0_5])) rfl .rfl fun _ => .rfl

set_option backward.isDefEq.respectTransparency.types false in
set_option maxHeartbeats 800000 in
/-- The program ends, with every array at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends, with every array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The program ends, with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.Gen

end
-- ==== Proof.TwoInValue.lean ====
module

public import proofs.«01_k».proof.Proof.FfnValue
public import proofs.«01_k».proof.Proof.Gen.Kernel6Ideal.Value
public import proofs.«01_k».proof.Proof.Gen.Reference6Ideal.Read
public import proofs.«01_k».proof.Defs

/-! The feed-forward call that reads its tokens from two arrays computes its reference: the run's
last array and the joint claim. -/

@[expose] public section

noncomputable section

namespace Cert.Ffn.TwoIn

open Cert.Kernel6Ideal Cert.Kernel6Ideal.Gen Idealize.ShloMosaic Idealize.ShloMosaic.TcCoe Idealize.SL.Sem

/-- The bit that says which of the two inputs a point reads. -/
abbrev side (i : grid0.Coords) : BitVec 1 := Scalar.cmpi .slt (BitVec.ofNat 32 (i 0).val) 4#32

/-- Where the bit is set the tile is the first input's. -/
theorem tile_first (i : grid0.Coords) (h : side i = 1) (a b : Vec Ideal S1x1024x1024 .f32) :
    k0_pay2 i a b = shapeCast S1024x1024 a shapeCasts_S1x1024x1024_S1024x1024 := if_pos h

/-- Where the bit is not set the tile is the second input's. -/
theorem tile_second (i : grid0.Coords) (h : ¬ side i = 1) (a b : Vec Ideal S1x1024x1024 .f32) :
    k0_pay2 i a b = shapeCast S1024x1024 b shapeCasts_S1x1024x1024_S1024x1024 := if_neg h

set_option maxHeartbeats 1000000 in
/-- Where the bit is set the body is the one-input body on the first input. -/
theorem out_first (i : grid0.Coords) (h : side i = 1) (x0 x1 : Vec Ideal S1x1024x1024 .f32) (x2 x3 : Vec Ideal S1x1024 .f32) (x4 : Vec Ideal S1024x5632 .bf16) (x5 : Vec Ideal S2816x1024 .bf16) :
    out0_6 i x0 x1 x2 x3 x4 x5 = Cert.Kernel3Ideal.Gen.out0_5 x0 x2 x3 x4 x5 := by
  unfold_out out0_6
  unfold k0_pay5 k0_pay4 k0_pay3
  simp only [tile_first i h]
  rfl

set_option maxHeartbeats 1000000 in
/-- Where the bit is not set the body is the one-input body on the second input. -/
theorem out_second (i : grid0.Coords) (h : ¬ side i = 1) (x0 x1 : Vec Ideal S1x1024x1024 .f32) (x2 x3 : Vec Ideal S1x1024 .f32) (x4 : Vec Ideal S1024x5632 .bf16) (x5 : Vec Ideal S2816x1024 .bf16) :
    out0_6 i x0 x1 x2 x3 x4 x5 = Cert.Kernel3Ideal.Gen.out0_5 x1 x2 x3 x4 x5 := by
  unfold_out out0_6
  unfold k0_pay5 k0_pay4 k0_pay3
  simp only [tile_second i h]
  rfl

variable (m : (ℓ : Loc nD τ sig) → Buf (Elt Ideal) ℓ) (c : Dev nD)

/-- Four sequences followed by two. -/
def joined (a : FVec Ideal S4x8192x1024 .f32) (b : FVec Ideal S2x8192x1024 .f32) : FVec Ideal S6x8192x1024 .f32 :=
  fun i => if h : (i 0).val < 4 then a (ix3 (⟨(i 0).val, h⟩ : Fin 4) (i 1 : Fin 8192) (i 2 : Fin 1024))
    else b (ix3 (⟨(i 0).val - 4, by have : (i 0).val < 6 := (i 0).isLt; omega⟩ : Fin 2) (i 1 : Fin 8192) (i 2 : Fin 1024))

/-- The joined array below the fourth sequence. -/
theorem joined_first (a : FVec Ideal S4x8192x1024 .f32) (b : FVec Ideal S2x8192x1024 .f32) (s : Fin 6) (h : s.val < 4) (q : Fin 8192) (k : Fin 1024) :
    joined a b (ix3 s q k) = a (ix3 ⟨s.val, h⟩ q k) := dif_pos h

/-- The joined array from the fourth sequence on. -/
theorem joined_rest (a : FVec Ideal S4x8192x1024 .f32) (b : FVec Ideal S2x8192x1024 .f32) (s : Fin 6) (h : ¬ s.val < 4) (q : Fin 8192) (k : Fin 1024) :
    joined a b (ix3 s q k) = b (ix3 ⟨s.val - 4, by omega⟩ q k) := dif_neg h

/-- What the call leaves in its result: the feed-forward block on every token's row. -/
def all : FVec Ideal S6x8192x1024 .f32 :=
  res (joined (m ((c : Thread nD τ).loc main_arg0)) (m ((c : Thread nD τ).loc main_arg1))) (m ((c : Thread nD τ).loc main_arg2)) (m ((c : Thread nD τ).loc main_arg3))
    (m ((c : Thread nD τ).loc main_arg4)) (m ((c : Thread nD τ).loc main_arg5))

/-- The first weight row the region reads is the argument as one row. -/
theorem V_v0 : V m c main_v0 = shapeCast S1x1024 (m ((c : Thread nD τ).loc main_arg2)) shapeCasts_S1024_S1x1024 := by
  show StableHlo.after hostOps0 (fun b => m (c, b)) (Proc.devRef .tc main_v0) = _
  simp only [hostOps0]; after_reads_simp; rfl

/-- The second weight row the region reads is the argument as one row. -/
theorem V_v1 : V m c main_v1 = shapeCast S1x1024 (m ((c : Thread nD τ).loc main_arg3)) shapeCasts_S1024_S1x1024 := by
  show StableHlo.after hostOps0 (fun b => m (c, b)) (Proc.devRef .tc main_v1) = _
  simp only [hostOps0]; after_reads_simp; rfl

/-- The grid's index maps: the result's, the two inputs' where they are read, and the weights', which are whole. -/
theorem idx_facts : ∀ t : Fin cfg0.N, win0_6.index t = ![t.val / 8, t.val % 8, 0] ∧ (t.val < 32 → win0_0.index t = ![t.val / 8, t.val % 8, 0])
    ∧ (32 ≤ t.val → win0_1.index t = ![t.val / 8 - 4, t.val % 8, 0])
    ∧ win0_2.index t = ![0, 0] ∧ win0_3.index t = ![0, 0] ∧ win0_4.index t = ![0, 0] ∧ win0_5.index t = ![0, 0] :=
  (by decide +kernel : ∀ t : Fin grid0.N, _)

/-- Which input a point reads. -/
theorem side_iff : ∀ t : Fin cfg0.N, side (grid0.coords t) = 1 ↔ t.val < 32 :=
  (by decide +kernel : ∀ t : Fin grid0.N, side (grid0.coords t) = 1 ↔ t.val < 32)

/-- The row of tokens a point works on is the row of the joined array. -/
theorem row_eq (t : Fin cfg0.N) (ht : t.val < 48) (r : Fin 1024) (k : Fin 1024) :
    (if t.val < 32 then iblk m c 0 t (ix3 0 r k) else iblk m c 1 t (ix3 0 r k))
      = joined (m ((c : Thread nD τ).loc main_arg0)) (m ((c : Thread nD τ).loc main_arg1)) (ix3 (⟨t.val / 8, by omega⟩ : Fin 6) (⟨t.val % 8 * 1024 + r.val, by omega⟩ : Fin 8192) k) := by
  obtain ⟨_, e0, e1, _⟩ := idx_facts t
  by_cases h : t.val < 32
  · have e0 := e0 h
    rw [if_pos h, joined_first _ _ _ (show t.val / 8 < 4 by omega)]
    show V m c main_arg0 (((cfg0.win 0).blk t).view.emb (ix3 0 r k)) = _
    rw [V_main_arg0]
    refine congrArg _ ?_
    funext a; apply Fin.ext
    match a with
    | ⟨0, _⟩ => show win0_0.index t (0 : Fin 3) * 1 + 1 * 0 = t.val / 8; rw [e0]; show t.val / 8 * 1 + 1 * 0 = _; omega
    | ⟨1, _⟩ => show win0_0.index t (1 : Fin 3) * 1024 + 1 * r.val = t.val % 8 * 1024 + r.val; rw [e0]; show t.val % 8 * 1024 + 1 * r.val = _; omega
    | ⟨2, _⟩ => show win0_0.index t (2 : Fin 3) * 1024 + 1 * k.val = k.val; rw [e0]; show 0 * 1024 + 1 * k.val = _; omega
  · have e1 := e1 (by omega)
    rw [if_neg h, joined_rest _ _ _ (show ¬ t.val / 8 < 4 by omega)]
    show V m c main_arg1 (((cfg0.win 1).blk t).view.emb (ix3 0 r k)) = _
    rw [V_main_arg1]
    refine congrArg _ ?_
    funext a; apply Fin.ext
    match a with
    | ⟨0, _⟩ => show win0_1.index t (0 : Fin 3) * 1 + 1 * 0 = t.val / 8 - 4; rw [e1]; show (t.val / 8 - 4) * 1 + 1 * 0 = _; omega
    | ⟨1, _⟩ => show win0_1.index t (1 : Fin 3) * 1024 + 1 * r.val = t.val % 8 * 1024 + r.val; rw [e1]; show t.val % 8 * 1024 + 1 * r.val = _; omega
    | ⟨2, _⟩ => show win0_1.index t (2 : Fin 3) * 1024 + 1 * k.val = k.val; rw [e1]; show 0 * 1024 + 1 * k.val = _; omega

/-- The body's result block at a row and a lane: the feed-forward block on the row it reads. -/
theorem out_at (t : Fin cfg0.N) (x0 x1 : Vec Ideal S1x1024x1024 .f32) (x2 x3 : Vec Ideal S1x1024 .f32) (x4 : Vec Ideal S1024x5632 .bf16) (x5 : Vec Ideal S2816x1024 .bf16) (r p : Fin 1024) :
    out0_6 (grid0.coords t) x0 x1 x2 x3 x4 x5 (ix3 0 r p) = ffnRow (fun k => if t.val < 32 then x0 (ix3 0 r k) else x1 (ix3 0 r k))
      (fun k => x2 (ix2 0 k)) (fun k => x3 (ix2 0 k)) (fun d f => x4 (ix2 d f)) (fun f p => x5 (ix2 f p)) p := by
  by_cases h : t.val < 32
  · rw [out_first _ ((side_iff t).2 h)]
    simp only [if_pos h]
    exact out_apply x0 x2 x3 x4 x5 r p
  · rw [out_second _ (fun h' => h ((side_iff t).1 h'))]
    simp only [if_neg h]
    exact out_apply x1 x2 x3 x4 x5 r p

/-- What point `t` writes back is its block of the result. -/
theorem flushed_eq (t : Fin cfg0.N) :
    (dats m 0 c).flushed 6 t = ((cfg0.win 6).blk t).view.read (Elt Ideal) (all m c) := by
  rw [Value.flushed6]
  obtain ⟨e5, _, _, e1, e2, e3, e4⟩ := idx_facts t
  have ht : t.val < 48 := lt_of_lt_of_eq t.isLt N_0
  funext y
  have hy0 : (y 0).val < 1 := (y 0).isLt
  have hy1 : (y 1).val < 1024 := (y 1).isLt
  have hy2 : (y 2).val < 1024 := (y 2).isLt
  have hx : (cfg0.win 6).xinj (grid0.coords t) y = ix3 (0 : Fin 1) (⟨(y 1).val, hy1⟩ : Fin 1024) (⟨(y 2).val, hy2⟩ : Fin 1024) := by
    funext a; apply Fin.ext
    match a with
    | ⟨0, _⟩ => show (y 0).val = 0; omega
    | ⟨1, _⟩ => rfl
    | ⟨2, _⟩ => rfl
  show out0_6 (F := Ideal) (grid0.coords t) (iblk m c 0 t) (iblk m c 1 t) (iblk m c 2 t) (iblk m c 3 t) (iblk m c 4 t) (iblk m c 5 t) ((cfg0.win 6).xinj (grid0.coords t) y)
    = (all m c) (((cfg0.win 6).blk t).view.emb y)
  rw [hx, out_at]
  have hb : ((cfg0.win 6).blk t).view.emb y = ix3 (⟨t.val / 8, by omega⟩ : Fin 6) (⟨t.val % 8 * 1024 + (y 1).val, by omega⟩ : Fin 8192) (⟨(y 2).val, hy2⟩ : Fin 1024) := by
    funext a; apply Fin.ext
    match a with
    | ⟨0, _⟩ => show win0_6.index t (0 : Fin 3) * 1 + 1 * (y 0).val = t.val / 8; rw [e5]; show t.val / 8 * 1 + 1 * (y 0).val = _; omega
    | ⟨1, _⟩ => show win0_6.index t (1 : Fin 3) * 1024 + 1 * (y 1).val = t.val % 8 * 1024 + (y 1).val; rw [e5]; show t.val % 8 * 1024 + 1 * (y 1).val = _; omega
    | ⟨2, _⟩ => show win0_6.index t (2 : Fin 3) * 1024 + 1 * (y 2).val = (y 2).val; rw [e5]; show 0 * 1024 + 1 * (y 2).val = _; omega
  rw [hb]
  unfold all res
  show ffnRow _ _ _ _ _ _ = ffnRow _ _ _ _ _ _
  congr 1
  · funext k
    exact row_eq m c t ht ⟨(y 1).val, hy1⟩ k
  · funext k
    have hi : ((cfg0.win 2).blk t).view.emb (ix2 0 k) = (ix2 (0 : Fin 1) k) := by
      funext a; apply Fin.ext
      match a with
      | ⟨0, _⟩ => show win0_2.index t (0 : Fin 2) * 1 + 1 * 0 = 0; rw [e1]; rfl
      | ⟨1, _⟩ => show win0_2.index t (1 : Fin 2) * 1024 + 1 * k.val = k.val; rw [e1]; show 0 * 1024 + 1 * k.val = _; omega
    show V m c main_v0 (((cfg0.win 2).blk t).view.emb (ix2 0 k)) = _
    rw [hi, V_v0]
    pointwise
  · funext k
    have hi : ((cfg0.win 3).blk t).view.emb (ix2 0 k) = (ix2 (0 : Fin 1) k) := by
      funext a; apply Fin.ext
      match a with
      | ⟨0, _⟩ => show win0_3.index t (0 : Fin 2) * 1 + 1 * 0 = 0; rw [e2]; rfl
      | ⟨1, _⟩ => show win0_3.index t (1 : Fin 2) * 1024 + 1 * k.val = k.val; rw [e2]; show 0 * 1024 + 1 * k.val = _; omega
    show V m c main_v1 (((cfg0.win 3).blk t).view.emb (ix2 0 k)) = _
    rw [hi, V_v1]
    pointwise
  · funext d f
    show V m c main_arg4 (((cfg0.win 4).blk t).view.emb (ix2 d f)) = _
    rw [V_main_arg4]
    refine congrArg _ ?_
    funext a; apply Fin.ext
    match a with
    | ⟨0, _⟩ => show win0_4.index t (0 : Fin 2) * 1024 + 1 * d.val = d.val; rw [e3]; show 0 * 1024 + 1 * d.val = _; omega
    | ⟨1, _⟩ => show win0_4.index t (1 : Fin 2) * 5632 + 1 * f.val = f.val; rw [e3]; show 0 * 5632 + 1 * f.val = _; omega
  · funext f p
    show V m c main_arg5 (((cfg0.win 5).blk t).view.emb (ix2 f p)) = _
    rw [V_main_arg5]
    refine congrArg _ ?_
    funext a; apply Fin.ext
    match a with
    | ⟨0, _⟩ => show win0_5.index t (0 : Fin 2) * 2816 + 1 * f.val = f.val; rw [e4]; show 0 * 2816 + 1 * f.val = _; omega
    | ⟨1, _⟩ => show win0_5.index t (1 : Fin 2) * 1024 + 1 * p.val = p.val; rw [e4]; show 0 * 1024 + 1 * p.val = _; omega

/-- Every index of the result is in some point's block. -/
theorem covered (i : S6x8192x1024.Idx) : ∃ t : Fin cfg0.N, (cfg0.win 6).flush t = true ∧ i ∈ ((cfg0.win 6).blk t).view.set := by
  have h0 : (i 0).val < 6 := (i 0).isLt
  have h1 : (i 1).val < 8192 := (i 1).isLt
  have h2 : (i 2).val < 1024 := (i 2).isLt
  have hN : cfg0.N = 48 := N_0
  obtain ⟨t, ht⟩ : ∃ t : Fin cfg0.N, t.val = (i 0).val * 8 + (i 1).val / 1024 := ⟨⟨_, by omega⟩, rfl⟩
  refine ⟨t, flush0_6 t, ?_⟩
  show i ∈ ((View.whole main_v2).slice (win0_6.rect t)).set
  rw [View.set_slice_whole, Rect.mem_set_unit]
  have e := (idx_facts t).1
  intro a
  match a with
  | ⟨0, _⟩ => show win0_6.index t (0 : Fin 3) * 1 ≤ (i 0).val ∧ (i 0).val < win0_6.index t (0 : Fin 3) * 1 + 1; rw [e]; show t.val / 8 * 1 ≤ _ ∧ _ < t.val / 8 * 1 + 1; omega
  | ⟨1, _⟩ => show win0_6.index t (1 : Fin 3) * 1024 ≤ (i 1).val ∧ (i 1).val < win0_6.index t (1 : Fin 3) * 1024 + 1024; rw [e]; show t.val % 8 * 1024 ≤ _ ∧ _ < t.val % 8 * 1024 + 1024; omega
  | ⟨2, _⟩ => show win0_6.index t (2 : Fin 3) * 1024 ≤ (i 2).val ∧ (i 2).val < win0_6.index t (2 : Fin 3) * 1024 + 1024; rw [e]; show 0 * 1024 ≤ _ ∧ _ < 0 * 1024 + 1024; omega

/-- The result array after the run. -/
theorem final : (dats m 0 c).arrAt 6 cfg0.N = all m c :=
  (dats m 0 c).arrAt_eq_of_cover 6 _ (fun t _ => flushed_eq m c t) (fun i => covered i)

/-- The reference's joined array. -/
theorem ref_joined (x0 : FVec Ideal S4x8192x1024 .f32) (x1 : FVec Ideal S2x8192x1024 .f32) : Cert.Reference6Ideal.Read.val_main_v0 (F := Ideal) x0 x1 = joined x0 x1 := by
  funext i
  have hi : i = ix3 (i 0 : Fin 6) (i 1 : Fin 8192) (i 2 : Fin 1024) := eq_ix3 i
  have key : ∀ (b : Fin 6) (t : Fin 8192) (p : Fin 1024), Cert.Reference6Ideal.Read.val_main_v0 (F := Ideal) x0 x1 (ix3 b t p)
      = if h : b.val < 4 then x0 (ix3 ⟨b.val, h⟩ t p) else x1 (ix3 ⟨b.val - 4, by omega⟩ t p) := by
    intro b t p
    pointwise [Cert.Reference6Ideal.Read.val_main_v0]
  rw [hi]
  exact key _ _ _

/-- The reference's result is the same array. -/
theorem ref_all (x0 : FVec Ideal S4x8192x1024 .f32) (x1 : FVec Ideal S2x8192x1024 .f32) (x2 x3 : FVec Ideal S1024 .f32) (x4 : FVec Ideal S1024x5632 .bf16) (x5 : FVec Ideal S2816x1024 .bf16) :
    Cert.Reference6Ideal.Read.val_main_v37 (F := Ideal) x0 x1 x2 x3 x4 x5 = res (joined x0 x1) x2 x3 x4 x5 := by
  refine (show Cert.Reference6Ideal.Read.val_main_v37 (F := Ideal) x0 x1 x2 x3 x4 x5
    = Cert.Reference3Ideal.Read.val_main_v36 (F := Ideal) (Cert.Reference6Ideal.Read.val_main_v0 (F := Ideal) x0 x1) x2 x3 x4 x5 from rfl).trans ?_
  rw [ref_joined]
  exact ref_res _ _ _ _ _

/-- The two-input feed-forward call computes its reference over the reals. -/
theorem claim : Cert.algebraic_Kernel6Ideal_Reference6Ideal (hKernel6Ideal := Cert.Kernel6Ideal.Gen.facts) (hReference6Ideal := Cert.Reference6Ideal.Gen.facts) := by
  intro m g m' g' _ hagree
  refine ⟨_, (θ_run _ _ _).mono (fun r h c => ⟨((h c).1.trans (final m c)), (h c).2⟩) (Cert.Kernel6Ideal.Value.run_blocks m g),
    (θ_run _ _ _).mono (fun r h c => ⟨(h c).1.trans ?_, (h c).2⟩) (Cert.Reference6Ideal.Value.run m' g')⟩
  obtain ⟨h0, h1, h2, h3, h4, h5⟩ := hagree c
  refine (Cert.Reference6Ideal.Read.val_main_v37_eq m' c).trans ?_
  rw [h0, h1, h2, h3, h4, h5]
  exact ref_all _ _ _ _ _ _

end Cert.Ffn.TwoIn

end
-- ==== Proof.TwoOutValue.lean ====
module

public import proofs.«01_k».proof.Proof.FfnValue
public import proofs.«01_k».proof.Proof.TwoOutIdeal
public import proofs.«01_k».proof.Proof.Gen.Reference5Ideal.Read
public import proofs.«01_k».proof.Defs

/-! The feed-forward call that splits its result over two arrays computes its reference: the two
arrays after the run, and the joint claim. -/

@[expose] public section

noncomputable section

namespace Cert.Ffn.TwoOut

open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The feed-forward block on every token's row of the call's arguments. -/
def all : FVec Ideal S6x8192x1024 .f32 :=
  res (m ((c : Thread nD τ).loc main_arg0)) (m ((c : Thread nD τ).loc main_arg1)) (m ((c : Thread nD τ).loc main_arg2))
    (m ((c : Thread nD τ).loc main_arg3)) (m ((c : Thread nD τ).loc main_arg4))

/-- The first four sequences of an array. -/
def first (x : FVec Ideal S6x8192x1024 .f32) : FVec Ideal S4x8192x1024 .f32 :=
  fun i => x (ix3 (⟨(i 0).val, lt_of_lt_of_le (show (i 0).val < 4 from (i 0).isLt) (by omega)⟩ : Fin 6) (i 1 : Fin 8192) (i 2 : Fin 1024))

/-- The last two sequences of an array. -/
def rest (x : FVec Ideal S6x8192x1024 .f32) : FVec Ideal S2x8192x1024 .f32 :=
  fun i => x (ix3 (⟨4 + (i 0).val, Nat.add_lt_add_left (show (i 0).val < 2 from (i 0).isLt) 4⟩ : Fin 6) (i 1 : Fin 8192) (i 2 : Fin 1024))

/-- The first weight row the region reads is the argument as one row. -/
theorem V_v0 : V m c main_v0 = shapeCast S1x1024 (m ((c : Thread nD τ).loc main_arg1)) shapeCasts_S1024_S1x1024 := by
  show StableHlo.after hostOps0 (fun b => m (c, b)) (Proc.devRef .tc main_v0) = _
  simp only [hostOps0]; after_reads_simp; rfl

/-- The second weight row the region reads is the argument as one row. -/
theorem V_v1 : V m c main_v1 = shapeCast S1x1024 (m ((c : Thread nD τ).loc main_arg2)) shapeCasts_S1024_S1x1024 := by
  show StableHlo.after hostOps0 (fun b => m (c, b)) (Proc.devRef .tc main_v1) = _
  simp only [hostOps0]; after_reads_simp; rfl

/-- The index maps of the inputs: point `t` reads sequence `t / 8` and rows `t % 8`; the weights are whole. -/
theorem idx_in : ∀ t : Fin cfg0.N, win0_0.index t = ![t.val / 8, t.val % 8, 0]
    ∧ win0_1.index t = ![0, 0] ∧ win0_2.index t = ![0, 0] ∧ win0_3.index t = ![0, 0] ∧ win0_4.index t = ![0, 0] :=
  (by decide +kernel : ∀ t : Fin grid0.N, _)

/-- The index maps of the outputs: the first follows the last point that stored it, the second
    counts sequences from the fifth. -/
theorem idx_out : ∀ t : Fin cfg0.N, win0_5.index t = ![min t.val 31 / 8, min t.val 31 % 8, 0]
    ∧ (32 ≤ t.val → win0_6.index t = ![t.val / 8 - 4, t.val % 8, 0]) :=
  (by decide +kernel : ∀ t : Fin grid0.N, _)

/-- When the outputs are copied out. -/
theorem flush_out : ∀ t : Fin cfg0.N, ((t.val < 31 ∨ t.val = 47) → (cfg0.win 5).flush t = true)
    ∧ ((cfg0.win 6).flush t = true ↔ 32 ≤ t.val) :=
  (by decide +kernel : ∀ t : Fin grid0.N, ((t.val < 31 ∨ t.val = 47) → win0_5.flush t = true) ∧ (win0_6.flush t = true ↔ 32 ≤ t.val))

/-- What the body stores at a point: the feed-forward block on that point's rows. -/
theorem outAt_apply (t : Fin cfg0.N) (ht : t.val < 48) (r p : Fin 1024) :
    outAt m c t (ix3 0 r p) = all m c (ix3 (⟨t.val / 8, by omega⟩ : Fin 6) (⟨t.val % 8 * 1024 + r.val, by omega⟩ : Fin 8192) p) := by
  obtain ⟨e0, e1, e2, e3, e4⟩ := idx_in t
  refine (out_apply (iblk m c 0 t) (iblk m c 1 t) (iblk m c 2 t) (iblk m c 3 t) (iblk m c 4 t) r p).trans ?_
  unfold all res
  show ffnRow _ _ _ _ _ _ = ffnRow _ _ _ _ _ _
  congr 1
  · funext k
    show V m c main_arg0 (((cfg0.win 0).blk t).view.emb (ix3 0 r k)) = _
    rw [V_main_arg0]
    refine congrArg _ ?_
    funext a; apply Fin.ext
    match a with
    | ⟨0, _⟩ => show win0_0.index t (0 : Fin 3) * 1 + 1 * 0 = t.val / 8; rw [e0]; show t.val / 8 * 1 + 1 * 0 = _; omega
    | ⟨1, _⟩ => show win0_0.index t (1 : Fin 3) * 1024 + 1 * r.val = t.val % 8 * 1024 + r.val; rw [e0]; show t.val % 8 * 1024 + 1 * r.val = _; omega
    | ⟨2, _⟩ => show win0_0.index t (2 : Fin 3) * 1024 + 1 * k.val = k.val; rw [e0]; show 0 * 1024 + 1 * k.val = _; omega
  · funext k
    have hi : ((cfg0.win 1).blk t).view.emb (ix2 0 k) = (ix2 (0 : Fin 1) k) := by
      funext a; apply Fin.ext
      match a with
      | ⟨0, _⟩ => show win0_1.index t (0 : Fin 2) * 1 + 1 * 0 = 0; rw [e1]; rfl
      | ⟨1, _⟩ => show win0_1.index t (1 : Fin 2) * 1024 + 1 * k.val = k.val; rw [e1]; show 0 * 1024 + 1 * k.val = _; omega
    show V m c main_v0 (((cfg0.win 1).blk t).view.emb (ix2 0 k)) = _
    rw [hi, V_v0]
    pointwise
  · funext k
    have hi : ((cfg0.win 2).blk t).view.emb (ix2 0 k) = (ix2 (0 : Fin 1) k) := by
      funext a; apply Fin.ext
      match a with
      | ⟨0, _⟩ => show win0_2.index t (0 : Fin 2) * 1 + 1 * 0 = 0; rw [e2]; rfl
      | ⟨1, _⟩ => show win0_2.index t (1 : Fin 2) * 1024 + 1 * k.val = k.val; rw [e2]; show 0 * 1024 + 1 * k.val = _; omega
    show V m c main_v1 (((cfg0.win 2).blk t).view.emb (ix2 0 k)) = _
    rw [hi, V_v1]
    pointwise
  · funext d f
    show V m c main_arg3 (((cfg0.win 3).blk t).view.emb (ix2 d f)) = _
    rw [V_main_arg3]
    refine congrArg _ ?_
    funext a; apply Fin.ext
    match a with
    | ⟨0, _⟩ => show win0_3.index t (0 : Fin 2) * 1024 + 1 * d.val = d.val; rw [e3]; show 0 * 1024 + 1 * d.val = _; omega
    | ⟨1, _⟩ => show win0_3.index t (1 : Fin 2) * 5632 + 1 * f.val = f.val; rw [e3]; show 0 * 5632 + 1 * f.val = _; omega
  · funext f p
    show V m c main_arg4 (((cfg0.win 4).blk t).view.emb (ix2 f p)) = _
    rw [V_main_arg4]
    refine congrArg _ ?_
    funext a; apply Fin.ext
    match a with
    | ⟨0, _⟩ => show win0_4.index t (0 : Fin 2) * 2816 + 1 * f.val = f.val; rw [e4]; show 0 * 2816 + 1 * f.val = _; omega
    | ⟨1, _⟩ => show win0_4.index t (1 : Fin 2) * 1024 + 1 * p.val = p.val; rw [e4]; show 0 * 1024 + 1 * p.val = _; omega

/-- The same with the stored block's index given by its three coordinates. -/
theorem outAt_at (t : Fin cfg0.N) (ht : t.val < 48) (y : S1x1024x1024.Idx) (r p : Fin 1024) (hr : (y 1).val = r.val) (hp : (y 2).val = p.val) :
    outAt m c t y = all m c (ix3 (⟨t.val / 8, by omega⟩ : Fin 6) (⟨t.val % 8 * 1024 + r.val, by omega⟩ : Fin 8192) p) := by
  have h0 : (y 0).val < 1 := (y 0).isLt
  have : y = ix3 (0 : Fin 1) r p := by
    funext a; apply Fin.ext
    match a with
    | ⟨0, _⟩ => show (y 0).val = 0; omega
    | ⟨1, _⟩ => exact hr
    | ⟨2, _⟩ => exact hp
  exact (congrArg (outAt m c t) this).trans (outAt_apply m c t ht r p)

/-- Every point's block of the first output is its block of the first four sequences. -/
theorem flushed_first (t : Fin cfg0.N) :
    (dats m 0 c).flushed 5 t = ((cfg0.win 5).blk t).view.read (Elt Ideal) (first (all m c)) := by
  have ht : t.val < 48 := lt_of_lt_of_eq t.isLt N_0
  have e5 := (idx_out t).1
  have hl : (lastA t).val = min t.val 31 := rfl
  show (cfg0.win 5).cut (grid0.coords t) ((dats m 0 c).after 5 t) = _
  rw [after0_5]
  funext y
  have hy0 : (y 0).val < 1 := (y 0).isLt
  have hy1 : (y 1).val < 1024 := (y 1).isLt
  have hy2 : (y 2).val < 1024 := (y 2).isLt
  show outAt m c (lastA t) ((cfg0.win 5).xinj (grid0.coords t) y) = first (all m c) (((cfg0.win 5).blk t).view.emb y)
  rw [outAt_at m c (lastA t) (by omega) _ ⟨(y 1).val, hy1⟩ ⟨(y 2).val, hy2⟩ rfl rfl]
  refine congrArg (all m c) ?_
  funext a; apply Fin.ext
  match a with
  | ⟨0, _⟩ => show min t.val 31 / 8 = win0_5.index t (0 : Fin 3) * 1 + 1 * (y 0).val; rw [e5]; show _ = min t.val 31 / 8 * 1 + 1 * (y 0).val; omega
  | ⟨1, _⟩ => show min t.val 31 % 8 * 1024 + (y 1).val = win0_5.index t (1 : Fin 3) * 1024 + 1 * (y 1).val; rw [e5]; show _ = min t.val 31 % 8 * 1024 + 1 * (y 1).val; omega
  | ⟨2, _⟩ => show (y 2).val = win0_5.index t (2 : Fin 3) * 1024 + 1 * (y 2).val; rw [e5]; show _ = 0 * 1024 + 1 * (y 2).val; omega

/-- What is copied out of the second output's buffer is its block of the last two sequences. -/
theorem flushed_rest (t : Fin cfg0.N) (hf : (cfg0.win 6).flush t = true) :
    (dats m 0 c).flushed 6 t = ((cfg0.win 6).blk t).view.read (Elt Ideal) (rest (all m c)) := by
  have ht : t.val < 48 := lt_of_lt_of_eq t.isLt N_0
  have h32 : 32 ≤ t.val := (flush_out t).2.1 hf
  have e6 := (idx_out t).2 h32
  show (cfg0.win 6).cut (grid0.coords t) ((dats m 0 c).after 6 t) = _
  rw [after0_6]
  funext y
  have hy0 : (y 0).val < 1 := (y 0).isLt
  have hy1 : (y 1).val < 1024 := (y 1).isLt
  have hy2 : (y 2).val < 1024 := (y 2).isLt
  show outAt m c t ((cfg0.win 6).xinj (grid0.coords t) y) = rest (all m c) (((cfg0.win 6).blk t).view.emb y)
  rw [outAt_at m c t ht _ ⟨(y 1).val, hy1⟩ ⟨(y 2).val, hy2⟩ rfl rfl]
  refine congrArg (all m c) ?_
  funext a; apply Fin.ext
  match a with
  | ⟨0, _⟩ => show t.val / 8 = 4 + (win0_6.index t (0 : Fin 3) * 1 + 1 * (y 0).val); rw [e6]; show _ = 4 + ((t.val / 8 - 4) * 1 + 1 * (y 0).val); omega
  | ⟨1, _⟩ => show t.val % 8 * 1024 + (y 1).val = win0_6.index t (1 : Fin 3) * 1024 + 1 * (y 1).val; rw [e6]; show _ = t.val % 8 * 1024 + 1 * (y 1).val; omega
  | ⟨2, _⟩ => show (y 2).val = win0_6.index t (2 : Fin 3) * 1024 + 1 * (y 2).val; rw [e6]; show _ = 0 * 1024 + 1 * (y 2).val; omega

/-- Every index of the first output is in some block that is copied out. -/
theorem covered_first (i : S4x8192x1024.Idx) : ∃ t : Fin cfg0.N, (cfg0.win 5).flush t = true ∧ i ∈ ((cfg0.win 5).blk t).view.set := by
  have h0 : (i 0).val < 4 := (i 0).isLt
  have h1 : (i 1).val < 8192 := (i 1).isLt
  have h2 : (i 2).val < 1024 := (i 2).isLt
  have hN : cfg0.N = 48 := N_0
  obtain ⟨t, ht, hl⟩ : ∃ t : Fin cfg0.N, (t.val < 31 ∨ t.val = 47) ∧ min t.val 31 = (i 0).val * 8 + (i 1).val / 1024 := by
    by_cases h : (i 0).val * 8 + (i 1).val / 1024 < 31
    · exact ⟨⟨(i 0).val * 8 + (i 1).val / 1024, by omega⟩, Or.inl h, by show min ((i 0).val * 8 + (i 1).val / 1024) 31 = _; omega⟩
    · exact ⟨⟨47, by omega⟩, Or.inr rfl, by show min 47 31 = _; omega⟩
  refine ⟨t, (flush_out t).1 ht, ?_⟩
  show i ∈ ((View.whole main_v2_0).slice (win0_5.rect t)).set
  rw [View.set_slice_whole, Rect.mem_set_unit]
  have e := (idx_out t).1
  intro a
  match a with
  | ⟨0, _⟩ => show win0_5.index t (0 : Fin 3) * 1 ≤ (i 0).val ∧ (i 0).val < win0_5.index t (0 : Fin 3) * 1 + 1; rw [e]; show min t.val 31 / 8 * 1 ≤ _ ∧ _ < min t.val 31 / 8 * 1 + 1; omega
  | ⟨1, _⟩ => show win0_5.index t (1 : Fin 3) * 1024 ≤ (i 1).val ∧ (i 1).val < win0_5.index t (1 : Fin 3) * 1024 + 1024; rw [e]; show min t.val 31 % 8 * 1024 ≤ _ ∧ _ < min t.val 31 % 8 * 1024 + 1024; omega
  | ⟨2, _⟩ => show win0_5.index t (2 : Fin 3) * 1024 ≤ (i 2).val ∧ (i 2).val < win0_5.index t (2 : Fin 3) * 1024 + 1024; rw [e]; show 0 * 1024 ≤ _ ∧ _ < 0 * 1024 + 1024; omega

/-- Every index of the second output is in some block that is copied out. -/
theorem covered_rest (i : S2x8192x1024.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 1024 := (i 2).isLt
  have hN : cfg0.N = 48 := N_0
  obtain ⟨t, ht⟩ : ∃ t : Fin cfg0.N, t.val = 32 + ((i 0).val * 8 + (i 1).val / 1024) := ⟨⟨_, by omega⟩, rfl⟩
  refine ⟨t, (flush_out t).2.2 (by omega), ?_⟩
  show i ∈ ((View.whole main_v2_1).slice (win0_6.rect t)).set
  rw [View.set_slice_whole, Rect.mem_set_unit]
  have e := (idx_out t).2 (by omega)
  intro a
  match a with
  | ⟨0, _⟩ => show win0_6.index t (0 : Fin 3) * 1 ≤ (i 0).val ∧ (i 0).val < win0_6.index t (0 : Fin 3) * 1 + 1; rw [e]; show (t.val / 8 - 4) * 1 ≤ _ ∧ _ < (t.val / 8 - 4) * 1 + 1; omega
  | ⟨1, _⟩ => show win0_6.index t (1 : Fin 3) * 1024 ≤ (i 1).val ∧ (i 1).val < win0_6.index t (1 : Fin 3) * 1024 + 1024; rw [e]; show t.val % 8 * 1024 ≤ _ ∧ _ < t.val % 8 * 1024 + 1024; omega
  | ⟨2, _⟩ => show win0_6.index t (2 : Fin 3) * 1024 ≤ (i 2).val ∧ (i 2).val < win0_6.index t (2 : Fin 3) * 1024 + 1024; rw [e]; show 0 * 1024 ≤ _ ∧ _ < 0 * 1024 + 1024; omega

/-- The first result after the run. -/
theorem final_first : (dats m 0 c).arrAt 5 cfg0.N = first (all m c) :=
  (dats m 0 c).arrAt_eq_of_cover 5 _ (fun t _ => flushed_first m c t) (fun i => covered_first i)

/-- The second result after the run. -/
theorem final_rest : (dats m 0 c).arrAt 6 cfg0.N = rest (all m c) :=
  (dats m 0 c).arrAt_eq_of_cover 6 _ (fun t hf => flushed_rest m c t hf) (fun i => covered_rest i)

/-- The reference's whole array, before it is parted, is the one-result reference's. -/
theorem ref_all (x0 : FVec Ideal S6x8192x1024 .f32) (x1 x2 : FVec Ideal S1024 .f32) (x3 : FVec Ideal S1024x5632 .bf16) (x4 : FVec Ideal S2816x1024 .bf16) :
    Cert.Reference5Ideal.Read.val_main_v36 (F := Ideal) x0 x1 x2 x3 x4 = res x0 x1 x2 x3 x4 :=
  (show Cert.Reference5Ideal.Read.val_main_v36 (F := Ideal) x0 x1 x2 x3 x4 = Cert.Reference3Ideal.Read.val_main_v36 (F := Ideal) x0 x1 x2 x3 x4 from rfl).trans
    (ref_res x0 x1 x2 x3 x4)

/-- The reference's first result. -/
theorem ref_first (x0 : FVec Ideal S6x8192x1024 .f32) (x1 x2 : FVec Ideal S1024 .f32) (x3 : FVec Ideal S1024x5632 .bf16) (x4 : FVec Ideal S2816x1024 .bf16) :
    Cert.Reference5Ideal.Read.val_main_v37 (F := Ideal) x0 x1 x2 x3 x4 = first (res x0 x1 x2 x3 x4) := by
  rw [Cert.Reference5Ideal.Read.val_main_v37, ref_all]
  funext i
  refine congrArg (res x0 x1 x2 x3 x4) ?_
  funext a; apply Fin.ext
  match a with
  | ⟨0, _⟩ => exact Nat.zero_add _
  | ⟨1, _⟩ => exact Nat.zero_add _
  | ⟨2, _⟩ => exact Nat.zero_add _

/-- The reference's second result. -/
theorem ref_rest (x0 : FVec Ideal S6x8192x1024 .f32) (x1 x2 : FVec Ideal S1024 .f32) (x3 : FVec Ideal S1024x5632 .bf16) (x4 : FVec Ideal S2816x1024 .bf16) :
    Cert.Reference5Ideal.Read.val_main_v38 (F := Ideal) x0 x1 x2 x3 x4 = rest (res x0 x1 x2 x3 x4) := by
  rw [Cert.Reference5Ideal.Read.val_main_v38, ref_all]
  funext i
  refine congrArg (res x0 x1 x2 x3 x4) ?_
  funext a; apply Fin.ext
  match a with
  | ⟨0, _⟩ => rfl
  | ⟨1, _⟩ => exact Nat.zero_add _
  | ⟨2, _⟩ => exact Nat.zero_add _

/-- The two-result feed-forward call computes its reference over the reals, both results. -/
theorem claim : Cert.algebraic_Kernel5Ideal_Reference5Ideal (hKernel5Ideal := Cert.Kernel5Ideal.Gen.facts) (hReference5Ideal := Cert.Reference5Ideal.Gen.facts) := by
  intro m g m' g' _ hagree
  refine ⟨fun c => first (all m c), fun c => rest (all m c),
    (θ_run _ _ _).mono (fun r h c => ⟨((h.1 c).1 5).trans (final_first m c), ((h.1 c).1 6).trans (final_rest m c), h.2 c⟩)
      (θ_run_and (run_main m g) (frame_of m g (dats m) (A_eq m) (run_main m g))),
    (θ_run _ _ _).mono (fun r h c => ⟨(h c).1.trans ?_, (h c).2.1.trans ?_, (h c).2.2⟩) (Cert.Reference5Ideal.Value.run m' g')⟩
  · obtain ⟨h0, h1, h2, h3, h4⟩ := hagree c
    refine (Cert.Reference5Ideal.Read.val_main_v37_eq m' c).trans ?_
    rw [h0, h1, h2, h3, h4]
    exact ref_first _ _ _ _ _
  · obtain ⟨h0, h1, h2, h3, h4⟩ := hagree c
    refine (Cert.Reference5Ideal.Read.val_main_v38_eq m' c).trans ?_
    rw [h0, h1, h2, h3, h4]
    exact ref_rest _ _ _ _ _

end Cert.Ffn.TwoOut

end
-- ==== Proof.MrgBlock.lean ====
module

public import proofs.«01_k».proof.Proof.FfnBlock
public import proofs.«01_k».proof.Proof.Gen.Kernel4Ideal.Value
public import Idealize.ShloMosaic.Lib.Pipeline.CanonAppend

/-! The merge's kernel body, read one row at a time: normalise the row, gate each branch's projection by the row's own
gates, project the sum, normalise it, add it to the row. -/

@[expose] public section

noncomputable section

namespace Cert.Mrg

open Cert.Kernel4Ideal Cert.Kernel4Ideal.Gen Idealize.ShloMosaic
open Cert.Ffn (nrow)

/-- One branch's share of a channel: the gate times the branch's projection. -/
def share (n w : Fin 1024 → EReal) (y b : Fin 256 → EReal) : EReal :=
  Ideal.logistic (∑ k, n k * w k) * ∑ k, y k * b k

/-- The merge's result on one row: `W` the joined gate weights, `y` the branches' rows, `B` their weights, `O` the output weights. -/
def mrgRow (row np nq : Fin 1024 → EReal) (W : Fin 1024 → Fin 4096 → EReal) (y : Fin 4 → Fin 256 → EReal) (B : Fin 4 → Fin 256 → Fin 1024 → EReal)
    (O : Fin 1024 → Fin 1024 → EReal) (p : Fin 1024) : EReal :=
  row p + nrow (fun q => ∑ d, (∑ n : Fin 4, share (nrow row np) (fun k => W k ⟨1024 * n.val + d.val, by omega⟩) (y n) (fun k => B n k d)) * O d q) nq p

/-- The kernel's normalisation of 512 rows. -/
def nrm (x : FVec Ideal S512x1024 .f32) (w : FVec Ideal S1x1024 .f32) : FVec Ideal S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1) (broadcast S512x1 (Scalar.ofBits .f32 0x44800000#32))) (broadcast S512x1 (Scalar.ofBits .f32 0x358637BD#32)))) broadcasts_S512x1_S512x1024)) (broadcastTo S512x1024 (shapeCast S1x1024 w shapeCasts_S1x1024_S1x1024) broadcasts_S1x1024_S512x1024)

/-- The normalisation read at a row and a lane. -/
theorem nrm_apply (x : FVec Ideal S512x1024 .f32) (w : FVec Ideal S1x1024 .f32) (r : Fin 512) (d : Fin 1024) :
    nrm x w (ix2 r d) = nrow (fun k => x (ix2 r k)) (fun k => w (ix2 0 k)) d := by
  pointwise [nrm, nrow]

/-- A product with a square of weights. -/
def big (n : FVec Ideal S512x1024 .bf16) (w : FVec Ideal S1024x1024 .bf16) : FVec Ideal S512x1024 .f32 :=
  matmul dot_S512x1024_S1024x1024_S512x1024_1_0_0_1_n_n none n w (constant S512x1024 .f32 0x00000000#32)

/-- A branch's projection. -/
def proj (y : FVec Ideal S512x256 .bf16) (b : FVec Ideal S1x256x1024 .bf16) : FVec Ideal S512x1024 .f32 :=
  matmul dot_S512x256_S256x1024_S512x1024_1_0_0_1_n_n none y (shapeCast S256x1024 b shapeCasts_S1x256x1024_S256x1024) (constant S512x1024 .f32 0x00000000#32)

/-- The first branch's projection, its channels before its tokens. -/
def projT (y : FVec Ideal S256x512 .bf16) (b : FVec Ideal S1x256x1024 .bf16) : FVec Ideal S512x1024 .f32 :=
  matmul dot_S256x512_S256x1024_S512x1024_0_0_1_1_n_n none y (shapeCast S256x1024 b shapeCasts_S1x256x1024_S256x1024) (constant S512x1024 .f32 0x00000000#32)

/-- Half of the body: 512 rows. -/
def half (x : FVec Ideal S512x1024 .f32) (np nq : FVec Ideal S1x1024 .f32) (ya : FVec Ideal S256x512 .bf16) (yb yc yd : FVec Ideal S512x256 .bf16)
    (w : Fin 4 → FVec Ideal S1024x1024 .bf16) (b : Fin 4 → FVec Ideal S1x256x1024 .bf16) (o : FVec Ideal S1024x1024 .bf16) : FVec Ideal S512x1024 .f32 :=
  addf x (nrm (big (truncf .bf16 (addf (addf (addf (addf (broadcast S512x1024 (Scalar.ofBits .f32 0x00000000#32))
    (mulf (logistic (big (truncf .bf16 (nrm x np) bitsLt_bf16_f32) (w 0))) (projT ya (b 0))))
    (mulf (logistic (big (truncf .bf16 (nrm x np) bitsLt_bf16_f32) (w 1))) (proj yb (b 1))))
    (mulf (logistic (big (truncf .bf16 (nrm x np) bitsLt_bf16_f32) (w 2))) (proj yc (b 2))))
    (mulf (logistic (big (truncf .bf16 (nrm x np) bitsLt_bf16_f32) (w 3))) (proj yd (b 3)))) bitsLt_bf16_f32) o) nq)

theorem big_apply (n : FVec Ideal S512x1024 .bf16) (w : FVec Ideal S1024x1024 .bf16) (r : Fin 512) (d : Fin 1024) :
    big n w (ix2 r d) = ∑ k : Fin 1024, n (ix2 r k) * w (ix2 k d) := by
  pointwise [big]

theorem proj_apply (y : FVec Ideal S512x256 .bf16) (b : FVec Ideal S1x256x1024 .bf16) (r : Fin 512) (d : Fin 1024) :
    proj y b (ix2 r d) = ∑ k : Fin 256, y (ix2 r k) * b (ix3 0 k d) := by
  pointwise [proj]

theorem projT_apply (y : FVec Ideal S256x512 .bf16) (b : FVec Ideal S1x256x1024 .bf16) (r : Fin 512) (d : Fin 1024) :
    projT y b (ix2 r d) = ∑ k : Fin 256, y (ix2 k r) * b (ix3 0 k d) := by
  pointwise [projT]

/-- Half of the body is the merge on each of its rows. -/
theorem half_apply (x : FVec Ideal S512x1024 .f32) (np nq : FVec Ideal S1x1024 .f32) (ya : FVec Ideal S256x512 .bf16) (yb yc yd : FVec Ideal S512x256 .bf16)
    (w : Fin 4 → FVec Ideal S1024x1024 .bf16) (b : Fin 4 → FVec Ideal S1x256x1024 .bf16) (o : FVec Ideal S1024x1024 .bf16)
    (W : Fin 1024 → Fin 4096 → EReal) (B : Fin 4 → Fin 256 → Fin 1024 → EReal)
    (hw : ∀ (n : Fin 4) (k d : Fin 1024), w n (ix2 k d) = W k ⟨1024 * n.val + d.val, by omega⟩) (hb : ∀ n k d, b n (ix3 0 k d) = B n k d) (r : Fin 512) (p : Fin 1024) :
    half x np nq ya yb yc yd w b o (ix2 r p) = mrgRow (fun k => x (ix2 r k)) (fun k => np (ix2 0 k)) (fun k => nq (ix2 0 k)) W
      ![fun k => ya (ix2 k r), fun k => yb (ix2 r k), fun k => yc (ix2 r k), fun k => yd (ix2 r k)] B (fun d q => o (ix2 d q)) p := by
  have hz : (broadcast S512x1024 (Scalar.ofBits .f32 0x00000000#32) : FVec Ideal S512x1024 .f32) = fun _ => 0 := by
    funext i; obtain ⟨a, c, rfl⟩ : ∃ (a : Fin 512) (c : Fin 1024), i = ix2 a c := ⟨_, _, eq_ix2 i⟩; pointwise
  have ha : ∀ (a b : FVec Ideal S512x1024 .f32) (i : S512x1024.Idx), addf a b i = a i + b i := fun a b i => rfl
  have hm : ∀ (a b : FVec Ideal S512x1024 .f32) (i : S512x1024.Idx), mulf a b i = a i * b i := fun a b i => rfl
  have hl : ∀ (a : FVec Ideal S512x1024 .f32) (i : S512x1024.Idx), logistic a i = Ideal.logistic (a i) := fun a i => rfl
  have ht : ∀ a : FVec Ideal S512x1024 .f32, (truncf .bf16 a bitsLt_bf16_f32 : FVec Ideal S512x1024 .bf16) = a := fun a => rfl
  unfold half mrgRow
  rw [ha, nrm_apply]
  refine congrArg (fun t => _ + t) (congrArg (fun f => nrow f _ p) (funext fun q => ?_))
  rw [big_apply]
  refine Finset.sum_congr rfl fun d _ => congrArg (fun t => t * _) ?_
  rw [ht, ht, ha, ha, ha, ha, hz, zero_add, Fin.sum_univ_four]
  simp only [hm, hl, big_apply, proj_apply, projT_apply, nrm_apply, hw, hb, share]
  rfl

/-- The merge's value at a row of a block of 1024 tokens. -/
def blk (x0 : FVec Ideal S1x1024x1024 .f32) (x1 : FVec Ideal S1x256x1024 .bf16) (x2 x3 x4 : FVec Ideal S1x1024x256 .bf16) (x5 x6 : FVec Ideal S1x1024 .f32)
    (x7 : FVec Ideal S1024x4096 .bf16) (x8 : FVec Ideal S4x256x1024 .bf16) (x9 : FVec Ideal S1024x1024 .bf16) (r p : Fin 1024) : EReal :=
  mrgRow (fun k => x0 (ix3 0 r k)) (fun k => x5 (ix2 0 k)) (fun k => x6 (ix2 0 k)) (fun k j => x7 (ix2 k j))
    ![fun k => x1 (ix3 0 k r), fun k => x2 (ix3 0 r k), fun k => x3 (ix3 0 r k), fun k => x4 (ix3 0 r k)] (fun n k d => x8 (ix3 n k d)) (fun d q => x9 (ix2 d q)) p

/-- What one half stores, from its own tiles of the window's blocks. -/
theorem half_store (o : ℕ) (ho : o + 512 ≤ 1024) (x0 : FVec Ideal S1x1024x1024 .f32) (x1 : FVec Ideal S1x256x1024 .bf16) (x2 x3 x4 : FVec Ideal S1x1024x256 .bf16) (x5 x6 : FVec Ideal S1x1024 .f32)
    (x7 : FVec Ideal S1024x4096 .bf16) (x8 : FVec Ideal S4x256x1024 .bf16) (x9 : FVec Ideal S1024x1024 .bf16)
    (x : FVec Ideal S1x512x1024 .f32) (ya : FVec Ideal S1x256x512 .bf16) (yb yc yd : FVec Ideal S1x512x256 .bf16)
    (w : Fin 4 → FVec Ideal S1024x1024 .bf16) (b : Fin 4 → FVec Ideal S1x256x1024 .bf16)
    (hx : ∀ (r : Fin 512) (k : Fin 1024), x (ix3 0 r k) = x0 (ix3 0 ⟨o + r.val, by omega⟩ k))
    (ha : ∀ (r : Fin 512) (k : Fin 256), ya (ix3 0 k r) = x1 (ix3 0 k ⟨o + r.val, by omega⟩))
    (hb : ∀ (r : Fin 512) (k : Fin 256), yb (ix3 0 r k) = x2 (ix3 0 ⟨o + r.val, by omega⟩ k))
    (hc : ∀ (r : Fin 512) (k : Fin 256), yc (ix3 0 r k) = x3 (ix3 0 ⟨o + r.val, by omega⟩ k))
    (hd : ∀ (r : Fin 512) (k : Fin 256), yd (ix3 0 r k) = x4 (ix3 0 ⟨o + r.val, by omega⟩ k))
    (hw : ∀ (n : Fin 4) (k d : Fin 1024), w n (ix2 k d) = x7 (ix2 k ⟨1024 * n.val + d.val, by omega⟩)) (hB : ∀ n k d, b n (ix3 0 k d) = x8 (ix3 n k d)) (r : Fin 512) (p : Fin 1024) :
    (shapeCast S1x512x1024 (half (shapeCast S512x1024 x shapeCasts_S1x512x1024_S512x1024) x5 x6 (shapeCast S256x512 ya shapeCasts_S1x256x512_S256x512)
      (shapeCast S512x256 yb shapeCasts_S1x512x256_S512x256) (shapeCast S512x256 yc shapeCasts_S1x512x256_S512x256) (shapeCast S512x256 yd shapeCasts_S1x512x256_S512x256)
      w b x9) shapeCasts_S512x1024_S1x512x1024 : FVec Ideal S1x512x1024 .f32) (ix3 0 r p) = blk x0 x1 x2 x3 x4 x5 x6 x7 x8 x9 ⟨o + r.val, by omega⟩ p := by
  have h1 : ∀ k, (shapeCast S512x1024 x shapeCasts_S1x512x1024_S512x1024 : FVec Ideal S512x1024 .f32) (ix2 r k) = (x (ix3 0 r k) : EReal) := fun k => by pointwise
  have h2 : ∀ k, (shapeCast S256x512 ya shapeCasts_S1x256x512_S256x512 : FVec Ideal S256x512 .bf16) (ix2 k r) = (ya (ix3 0 k r) : EReal) := fun k => by pointwise
  have h3 : ∀ (y : FVec Ideal S1x512x256 .bf16) k, (shapeCast S512x256 y shapeCasts_S1x512x256_S512x256 : FVec Ideal S512x256 .bf16) (ix2 r k) = (y (ix3 0 r k) : EReal) := fun y k => by pointwise
  have h4 : ∀ v : FVec Ideal S512x1024 .f32, (shapeCast S1x512x1024 v shapeCasts_S512x1024_S1x512x1024 : FVec Ideal S1x512x1024 .f32) (ix3 0 r p) = (v (ix2 r p) : EReal) := fun v => by pointwise
  rw [h4, half_apply _ _ _ _ _ _ _ w b x9 (fun k j => x7 (ix2 k j)) (fun n k d => x8 (ix3 n k d)) hw hB, blk]
  simp only [h1, h2, h3, hx, ha, hb, hc, hd]

/-- The body's result block is the merge on each of its 1024 rows. -/
theorem out_apply (x0 : Vec Ideal S1x1024x1024 .f32) (x1 : Vec Ideal S1x256x1024 .bf16) (x2 x3 x4 : Vec Ideal S1x1024x256 .bf16) (x5 x6 : Vec Ideal S1x1024 .f32)
    (x7 : Vec Ideal S1024x4096 .bf16) (x8 : Vec Ideal S4x256x1024 .bf16) (x9 : Vec Ideal S1024x1024 .bf16) (r p : Fin 1024) :
    out0_10 (F := Ideal) x0 x1 x2 x3 x4 x5 x6 x7 x8 x9 (ix3 0 r p) = blk x0 x1 x2 x3 x4 x5 x6 x7 x8 x9 r p := by
  have h5 : ∀ y : Vec Ideal S1x1024 .f32, View.ld y r0_1 = y := fun y => View.ld_unit_zero (by funext a; fin_cases a <;> rfl) _ _
  have h9 : View.ld x9 r0_12 = x9 := View.ld_unit_zero (by funext a; fin_cases a <;> rfl) _ _
  have hw : ∀ (n : Fin 4) (k d : Fin 1024), (![View.ld x7 r0_2, View.ld x7 r0_5, View.ld x7 r0_8, View.ld x7 r0_10] : Fin 4 → FVec Ideal S1024x1024 .bf16) n (ix2 k d)
      = (x7 (ix2 k ⟨1024 * n.val + d.val, by omega⟩) : EReal) := by
    have hl : ∀ (o : ℕ) (inb : ∀ a, (![0, o] : Fin 2 → ℕ) a + S1024x1024.size a ≤ S1024x4096.size a) (k d : Fin 1024) (h : o + d.val < 4096),
        (View.ld x7 (Rect.unit (s := S1024x4096) ![0, o] S1024x1024.size inb) : Vec Ideal S1024x1024 .bf16) (ix2 k d) = (x7 (ix2 k ⟨o + d.val, h⟩) : EReal) := by
      intro o inb k d h
      rw [View.ld_unit]; pointwise
    intro n k d
    fin_cases n <;> exact (hl _ _ k d (by first | (have := d.isLt; omega))).trans (congrArg x7 (congrArg (ix2 k) (Fin.ext (by simp))))
  have hB : ∀ (n : Fin 4) (k : Fin 256) (d : Fin 1024), (![View.ld x8 r0_4, View.ld x8 r0_7, View.ld x8 r0_9, View.ld x8 r0_11] : Fin 4 → FVec Ideal S1x256x1024 .bf16) n (ix3 0 k d)
      = (x8 (ix3 n k d) : EReal) := by
    have hl : ∀ (o : ℕ) (inb : ∀ a, (![o, 0, 0] : Fin 3 → ℕ) a + S1x256x1024.size a ≤ S4x256x1024.size a) (k : Fin 256) (d : Fin 1024) (h : o < 4),
        (View.ld x8 (Rect.unit (s := S4x256x1024) ![o, 0, 0] S1x256x1024.size inb) : Vec Ideal S1x256x1024 .bf16) (ix3 0 k d) = (x8 (ix3 ⟨o, h⟩ k d) : EReal) := by
      intro o inb k d h
      rw [View.ld_unit]; pointwise
    intro n k d
    fin_cases n <;> exact hl _ _ k d (by omega)
  have hx : ∀ (o : ℕ) (inb : ∀ a, (![0, o, 0] : Fin 3 → ℕ) a + S1x512x1024.size a ≤ S1x1024x1024.size a) (r : Fin 512) (k : Fin 1024) (h : o + r.val < 1024),
      (View.ld x0 (Rect.unit (s := S1x1024x1024) ![0, o, 0] S1x512x1024.size inb) : Vec Ideal S1x512x1024 .f32) (ix3 0 r k) = (x0 (ix3 0 ⟨o + r.val, h⟩ k) : EReal) := by
    intro o inb r k h
    rw [View.ld_unit]; pointwise
  have ha : ∀ (o : ℕ) (inb : ∀ a, (![0, 0, o] : Fin 3 → ℕ) a + S1x256x512.size a ≤ S1x256x1024.size a) (r : Fin 512) (k : Fin 256) (h : o + r.val < 1024),
      (View.ld x1 (Rect.unit (s := S1x256x1024) ![0, 0, o] S1x256x512.size inb) : Vec Ideal S1x256x512 .bf16) (ix3 0 k r) = (x1 (ix3 0 k ⟨o + r.val, h⟩) : EReal) := by
    intro o inb r k h
    rw [View.ld_unit]; pointwise
  have hy : ∀ (x : Vec Ideal S1x1024x256 .bf16) (o : ℕ) (inb : ∀ a, (![0, o, 0] : Fin 3 → ℕ) a + S1x512x256.size a ≤ S1x1024x256.size a) (r : Fin 512) (k : Fin 256) (h : o + r.val < 1024),
      (View.ld x (Rect.unit (s := S1x1024x256) ![0, o, 0] S1x512x256.size inb) : Vec Ideal S1x512x256 .bf16) (ix3 0 r k) = (x (ix3 0 ⟨o + r.val, h⟩ k) : EReal) := by
    intro x o inb r k h
    rw [View.ld_unit]; pointwise
  have s1 := half_store 512 (by norm_num) x0 x1 x2 x3 x4 x5 x6 x7 x8 x9 (View.ld x0 r0_13) (View.ld x1 r0_14) (View.ld x2 r0_15) (View.ld x3 r0_15) (View.ld x4 r0_15) _ _
    (fun r k => hx _ _ r k _) (fun r k => ha _ _ r k _) (fun r k => hy x2 _ _ r k _) (fun r k => hy x3 _ _ r k _) (fun r k => hy x4 _ _ r k _) hw hB
  have s0 := half_store 0 (by norm_num) x0 x1 x2 x3 x4 x5 x6 x7 x8 x9 (View.ld x0 r0_0) (View.ld x1 r0_3) (View.ld x2 r0_6) (View.ld x3 r0_6) (View.ld x4 r0_6) _ _
    (fun r k => hx _ _ r k _) (fun r k => ha _ _ r k _) (fun r k => hy x2 _ _ r k _) (fun r k => hy x3 _ _ r k _) (fun r k => hy x4 _ _ r k _) hw hB
  have hG : ∀ (o : ℕ) (inb : ∀ a, (![0, o, 0] : Fin 3 → ℕ) a + S1x512x1024.size a ≤ S1x1024x1024.size a) (ho : o + 512 ≤ 1024) (P : Vec Ideal S1x512x1024 .f32),
      (∀ (r : Fin 512) (p : Fin 1024), P (ix3 0 r p) = blk x0 x1 x2 x3 x4 x5 x6 x7 x8 x9 ⟨o + r.val, by omega⟩ p) →
      ∀ y, P y = (fun i : S1x1024x1024.Idx => blk x0 x1 x2 x3 x4 x5 x6 x7 x8 x9 (i 1) (i 2)) ((Rect.unit (s := S1x1024x1024) ![0, o, 0] S1x512x1024.size inb).emb y) := by
    intro o inb ho P hP y
    obtain ⟨a, r, p, rfl⟩ : ∃ (a : Fin 1) (r : Fin 512) (p : Fin 1024), y = ix3 a r p := ⟨_, _, _, eq_ix3 y⟩
    obtain rfl : a = 0 := Subsingleton.elim _ _
    have h1 : ((Rect.unit (s := S1x1024x1024) ![0, o, 0] S1x512x1024.size inb).emb (ix3 0 r p)) 1 = (⟨o + r.val, by omega⟩ : Fin 1024) := Fin.ext (by show o + 1 * r.val = o + r.val; omega)
    have h2 : ((Rect.unit (s := S1x1024x1024) ![0, o, 0] S1x512x1024.size inb).emb (ix3 0 r p)) 2 = p := Fin.ext (by show 0 + 1 * p.val = p.val; omega)
    show P _ = blk x0 x1 x2 x3 x4 x5 x6 x7 x8 x9 (((Rect.unit (s := S1x1024x1024) ![0, o, 0] S1x512x1024.size inb).emb (ix3 0 r p)) 1) (((Rect.unit (s := S1x1024x1024) ![0, o, 0] S1x512x1024.size inb).emb (ix3 0 r p)) 2)
    rw [hP, h1, h2]
  unfold_out out0_10
  rw [h5, h5, h9]
  refine (View.canon_append_of_pieces (fun i : S1x1024x1024.Idx => blk x0 x1 x2 x3 x4 x5 x6 x7 x8 x9 (i 1) (i 2)) [] [_, _] ?_ (ix3 0 r p) (cover0_10 _ _ _)).trans rfl
  intro pc hpc
  simp only [List.mem_cons, List.not_mem_nil, or_false] at hpc
  rcases hpc with rfl | rfl
  · exact hG 512 inb_S1x1024x1024_S1x512x1024_0_512_0 (by norm_num) _ s1
  · exact hG 0 inb_S1x1024x1024_S1x512x1024_0_0_0 (by norm_num) _ s0

end Cert.Mrg
-- ==== Proof.MrgRef.lean ====
module

public import proofs.«01_k».proof.Proof.MrgBlock
public import proofs.«01_k».proof.Proof.Gen.Reference4Ideal.Read

/-! The merge's reference, read at an index: the same row function as the kernel's body. -/

@[expose] public section

noncomputable section

namespace Cert.Mrg

open Cert.Reference4Ideal Cert.Reference4Ideal.Gen Cert.Reference4Ideal.Read Idealize.ShloMosaic
open Cert.Ffn (nrow)

variable (x0 : (⟨S6x8192x1024, .f32⟩ : BufTy).Contents (Elt Ideal)) (x1 : (⟨S6x256x8192, .bf16⟩ : BufTy).Contents (Elt Ideal))
  (x2 x3 x4 : (⟨S6x8192x256, .bf16⟩ : BufTy).Contents (Elt Ideal)) (x5 x6 : (⟨S1024, .f32⟩ : BufTy).Contents (Elt Ideal))
  (x7 : (⟨S1024x4096, .bf16⟩ : BufTy).Contents (Elt Ideal)) (x8 : (⟨S4x256x1024, .bf16⟩ : BufTy).Contents (Elt Ideal)) (x9 : (⟨S1024x1024, .bf16⟩ : BufTy).Contents (Elt Ideal))

/-- The reference's first normalisation. -/
theorem ref_nrm (b : Fin 6) (t : Fin 8192) (d : Fin 1024) :
    val_main_v12 (F := Ideal) x0 x5 (ix3 b t d) = nrow (fun k => x0 (ix3 b t k)) (fun k => x5 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, nrow]

/-- The joined gates before the sigmoid. -/
theorem ref_pre (b : Fin 6) (t : Fin 8192) (j : Fin 4096) :
    val_main_v14 (F := Ideal) x0 x5 x7 (ix3 b t j) = ∑ k, nrow (fun k => x0 (ix3 b t k)) (fun k => x5 (ix1 k)) k * x7 (ix2 k j) := by
  rw [val_main_v14_apply]
  refine Finset.sum_congr rfl fun d _ => ?_
  have e1 : lidx_main_v14 (ix3 b t j) d = ix3 b t d := by funext a; fin_cases a <;> rfl
  have e2 : ridx_main_v14 (ix3 b t j) d = ix2 d j := by funext a; fin_cases a <;> rfl
  rw [e1, e2, ref_nrm]; rfl

/-- A branch's gates. -/
theorem ref_gate (b : Fin 6) (t : Fin 8192) (n : Fin 4) (d : Fin 1024) :
    val_main_v21 (F := Ideal) x0 x5 x7 (ix4 b t n d) = Ideal.logistic (∑ k, nrow (fun k => x0 (ix3 b t k)) (fun k => x5 (ix1 k)) k * x7 (ix2 k ⟨1024 * n.val + d.val, by omega⟩)) := by
  have h : val_main_v15 (F := Ideal) x0 x5 x7 (ix4 b t n d) = val_main_v14 (F := Ideal) x0 x5 x7 (ix3 b t ⟨1024 * n.val + d.val, by omega⟩) := by
    have : ∃ y, y = val_main_v14 (F := Ideal) x0 x5 x7 := ⟨_, rfl⟩
    obtain ⟨y, hy⟩ := this
    unfold val_main_v15
    rw [← hy]
    pointwise
    refine congrArg y ?_
    fin_cases n <;> (funext a; fin_cases a <;> first | rfl | exact Fin.ext (by simp; omega))
  have h1 : Ideal.ofBits .f32 0x3F800000#32 = 1 := Ideal.ofBits_one_f32
  rw [val_main_v21_apply, val_main_v20_apply, val_main_v19_apply, val_main_v18_apply, val_main_v17_apply, val_main_v16_apply, h, ref_pre]
  show Ideal.div (Ideal.ofBits .f32 0x3F800000#32) (Ideal.ofBits .f32 0x3F800000#32 + Ideal.exp (-_)) = _
  rw [h1]; rfl

/-- The branches' gates and projections of the reference, each at an index. -/
theorem ref_parts (b : Fin 6) (t : Fin 8192) (d : Fin 1024) :
    val_main_v28 (F := Ideal) x0 x5 x7 (ix3 b t d) = val_main_v21 (F := Ideal) x0 x5 x7 (ix4 b t 0 d)
    ∧ val_main_v32 (F := Ideal) x1 x8 (ix3 b t d) = ∑ k : Fin 256, x1 (ix3 b k t) * x8 (ix3 0 k d)
    ∧ val_main_v37 (F := Ideal) x0 x5 x7 (ix3 b t d) = val_main_v21 (F := Ideal) x0 x5 x7 (ix4 b t 1 d)
    ∧ val_main_v41 (F := Ideal) x2 x8 (ix3 b t d) = ∑ k : Fin 256, x2 (ix3 b t k) * x8 (ix3 1 k d)
    ∧ val_main_v45 (F := Ideal) x0 x5 x7 (ix3 b t d) = val_main_v21 (F := Ideal) x0 x5 x7 (ix4 b t 2 d)
    ∧ val_main_v49 (F := Ideal) x3 x8 (ix3 b t d) = ∑ k : Fin 256, x3 (ix3 b t k) * x8 (ix3 2 k d)
    ∧ val_main_v53 (F := Ideal) x0 x5 x7 (ix3 b t d) = val_main_v21 (F := Ideal) x0 x5 x7 (ix4 b t 3 d)
    ∧ val_main_v57 (F := Ideal) x4 x8 (ix3 b t d) = ∑ k : Fin 256, x4 (ix3 b t k) * x8 (ix3 3 k d) := by
  obtain ⟨y, hy⟩ : ∃ y, y = val_main_v21 (F := Ideal) x0 x5 x7 := ⟨_, rfl⟩
  refine ⟨?_, ?_, ?_, ?_, ?_, ?_, ?_, ?_⟩
  · unfold val_main_v28 val_main_v27; rw [← hy]; pointwise
  · pointwise [val_main_v32, val_main_v31, val_main_v30, val_main_v29, val_main_v23, val_main_v22]
  · unfold val_main_v37 val_main_v36; rw [← hy]; pointwise
  · pointwise [val_main_v41, val_main_v40, val_main_v39, val_main_v38, val_main_v24]
  · unfold val_main_v45 val_main_v44; rw [← hy]; pointwise
  · pointwise [val_main_v49, val_main_v48, val_main_v47, val_main_v46, val_main_v25]
  · unfold val_main_v53 val_main_v52; rw [← hy]; pointwise
  · pointwise [val_main_v57, val_main_v56, val_main_v55, val_main_v54, val_main_v26]

/-- The reference's merged channels. -/
theorem ref_sum (b : Fin 6) (t : Fin 8192) (d : Fin 1024) :
    val_main_v59 (F := Ideal) x0 x1 x2 x3 x4 x5 x7 x8 (ix3 b t d) = ∑ n : Fin 4, share (nrow (fun k => x0 (ix3 b t k)) (fun k => x5 (ix1 k)))
      (fun k => x7 (ix2 k ⟨1024 * n.val + d.val, by omega⟩)) ((![fun k => x1 (ix3 b k t), fun k => x2 (ix3 b t k), fun k => x3 (ix3 b t k), fun k => x4 (ix3 b t k)] : Fin 4 → Fin 256 → EReal) n)
      (fun k => x8 (ix3 n k d)) := by
  obtain ⟨g0, p0, g1, p1, g2, p2, g3, p3⟩ := ref_parts x0 x1 x2 x3 x4 x5 x7 x8 b t d
  have hz : val_main_v34 (F := Ideal) (ix3 b t d) = (0 : EReal) := by
    have h : Ideal.ofBits .f32 0x00000000#32 = 0 := Ideal.ofBits_zero _
    rw [val_main_v34_apply]; exact h
  have e : val_main_v59 (F := Ideal) x0 x1 x2 x3 x4 x5 x7 x8 (ix3 b t d) = (((val_main_v34 (F := Ideal) (ix3 b t d)
      + val_main_v28 (F := Ideal) x0 x5 x7 (ix3 b t d) * val_main_v32 (F := Ideal) x1 x8 (ix3 b t d))
      + val_main_v37 (F := Ideal) x0 x5 x7 (ix3 b t d) * val_main_v41 (F := Ideal) x2 x8 (ix3 b t d))
      + val_main_v45 (F := Ideal) x0 x5 x7 (ix3 b t d) * val_main_v49 (F := Ideal) x3 x8 (ix3 b t d))
      + (val_main_v53 (F := Ideal) x0 x5 x7 (ix3 b t d) * val_main_v57 (F := Ideal) x4 x8 (ix3 b t d) : EReal) := by
    rw [val_main_v59_apply, val_main_v51_apply, val_main_v43_apply, val_main_v35_apply, val_main_v33_apply, val_main_v42_apply, val_main_v50_apply, val_main_v58_apply]
    rfl
  rw [e, hz, zero_add, g0, g1, g2, g3, p0, p1, p2, p3, ref_gate, ref_gate, ref_gate, ref_gate, Fin.sum_univ_four]
  rfl

/-- The reference's output projection. -/
theorem ref_out (b : Fin 6) (t : Fin 8192) (p : Fin 1024) :
    val_main_v61 (F := Ideal) x0 x1 x2 x3 x4 x5 x7 x8 x9 (ix3 b t p) = ∑ d : Fin 1024, val_main_v59 (F := Ideal) x0 x1 x2 x3 x4 x5 x7 x8 (ix3 b t d) * x9 (ix2 d p) := by
  rw [val_main_v61_apply]
  refine Finset.sum_congr rfl fun f _ => ?_
  have e1 : lidx_main_v61 (ix3 b t p) f = ix3 b t f := by funext a; fin_cases a <;> rfl
  have e2 : ridx_main_v61 (ix3 b t p) f = ix2 f p := by funext a; fin_cases a <;> rfl
  rw [e1, e2]; rfl

/-- The reference at an index: the merge on that token's row. -/
theorem ref_apply (b : Fin 6) (t : Fin 8192) (p : Fin 1024) :
    val_main_v75 (F := Ideal) x0 x1 x2 x3 x4 x5 x6 x7 x8 x9 (ix3 b t p) = mrgRow (fun k => x0 (ix3 b t k)) (fun k => x5 (ix1 k)) (fun k => x6 (ix1 k)) (fun k j => x7 (ix2 k j))
      ![fun k => x1 (ix3 b k t), fun k => x2 (ix3 b t k), fun k => x3 (ix3 b t k), fun k => x4 (ix3 b t k)] (fun n k d => x8 (ix3 n k d)) (fun d q => x9 (ix2 d q)) p := by
  have e : val_main_v75 (F := Ideal) x0 x1 x2 x3 x4 x5 x6 x7 x8 x9 (ix3 b t p) = x0 (ix3 b t p)
      + nrow (fun q => val_main_v61 (F := Ideal) x0 x1 x2 x3 x4 x5 x7 x8 x9 (ix3 b t q)) (fun k => x6 (ix1 k)) p := by
    obtain ⟨y, hy⟩ : ∃ y, y = val_main_v61 (F := Ideal) x0 x1 x2 x3 x4 x5 x7 x8 x9 := ⟨_, rfl⟩
    pointwise [val_main_v75, val_main_v74, val_main_v73, val_main_v72, val_main_v71, val_main_v70, val_main_v69, val_main_v68, val_main_v67, val_main_v66, val_main_v65, val_main_v64,
      val_main_v63, val_main_v62, val_main_cst_5, val_main_cst_6, val_main_cst_7, nrow]
  rw [e, mrgRow]
  simp only [ref_out, ref_sum]

end Cert.Mrg

end
-- ==== Proof.MrgValue.lean ====
module

public import proofs.«01_k».proof.Proof.MrgRef
public import proofs.«01_k».proof.Defs

/-! The merge call computes its reference: the run's last array and the joint claim. -/

@[expose] public section

noncomputable section

namespace Cert.Mrg

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- What the call leaves in its result: the merge on every token's row. -/
def res (a0 : FVec Ideal S6x8192x1024 .f32) (a1 : FVec Ideal S6x256x8192 .bf16) (a2 : FVec Ideal S6x8192x256 .bf16) (a3 : FVec Ideal S6x8192x256 .bf16) (a4 : FVec Ideal S6x8192x256 .bf16) (a5 : FVec Ideal S1024 .f32) (a6 : FVec Ideal S1024 .f32) (a7 : FVec Ideal S1024x4096 .bf16) (a8 : FVec Ideal S4x256x1024 .bf16) (a9 : FVec Ideal S1024x1024 .bf16) : FVec Ideal S6x8192x1024 .f32 :=
  fun i => mrgRow (fun k => a0 (ix3 (i 0) (i 1) k)) (fun k => a5 (ix1 k)) (fun k => a6 (ix1 k)) (fun k j => a7 (ix2 k j))
    ![fun k => a1 (ix3 (i 0) k (i 1)), fun k => a2 (ix3 (i 0) (i 1) k), fun k => a3 (ix3 (i 0) (i 1) k), fun k => a4 (ix3 (i 0) (i 1) k)] (fun n k d => a8 (ix3 n k d)) (fun d q => a9 (ix2 d q)) (i 2)

/-- The first weight row the region reads is the argument as one row. -/
theorem V_v0 : V m c main_v0 = shapeCast S1x1024 (m ((c : Thread nD τ).loc main_arg5)) shapeCasts_S1024_S1x1024 := by
  show StableHlo.after hostOps0 (fun b => m (c, b)) (Proc.devRef .tc main_v0) = _
  simp only [hostOps0]; after_reads_simp; rfl

/-- The second weight row the region reads is the argument as one row. -/
theorem V_v1 : V m c main_v1 = shapeCast S1x1024 (m ((c : Thread nD τ).loc main_arg6)) shapeCasts_S1024_S1x1024 := by
  show StableHlo.after hostOps0 (fun b => m (c, b)) (Proc.devRef .tc main_v1) = _
  simp only [hostOps0]; after_reads_simp; rfl

/-- The grid's index maps: point `t` holds sequence `t / 8` and rows `t % 8` of the tokens; the weights are whole. -/
theorem idx_facts : ∀ t : Fin cfg0.N, win0_10.index t = ![t.val / 8, t.val % 8, 0] ∧ win0_0.index t = ![t.val / 8, t.val % 8, 0]
    ∧ win0_1.index t = ![t.val / 8, 0, t.val % 8] ∧ win0_2.index t = ![t.val / 8, t.val % 8, 0] ∧ win0_3.index t = ![t.val / 8, t.val % 8, 0] ∧ win0_4.index t = ![t.val / 8, t.val % 8, 0]
    ∧ win0_5.index t = ![0, 0] ∧ win0_6.index t = ![0, 0] ∧ win0_7.index t = ![0, 0] ∧ win0_8.index t = ![0, 0, 0] ∧ win0_9.index t = ![0, 0] :=
  (by decide +kernel : ∀ t : Fin grid0.N, _)

/-- Four equal entries make equal lists of four. -/
theorem four {α : Type} {a b c d a' b' c' d' : α} (h1 : a = a') (h2 : b = b') (h3 : c = c') (h4 : d = d') :
    (![a, b, c, d] : Fin 4 → α) = ![a', b', c', d'] := by subst h1 h2 h3 h4; rfl

/-- What point `t` writes back is its block of the result. -/
theorem flushed_eq (t : Fin cfg0.N) :
    (dats m 0 c).flushed 10 t = ((cfg0.win 10).blk t).view.read (Elt Ideal) (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Value.flushed10]
  obtain ⟨e10, e0, e1, e2, e3, e4, e5, e6, e7, e8, e9⟩ := idx_facts t
  have ht : t.val < 48 := lt_of_lt_of_eq t.isLt N_0
  funext y
  have hy0 : (y 0).val < 1 := (y 0).isLt
  have hy1 : (y 1).val < 1024 := (y 1).isLt
  have hy2 : (y 2).val < 1024 := (y 2).isLt
  have hx : (cfg0.win 10).xinj (grid0.coords t) y = ix3 (0 : Fin 1) (⟨(y 1).val, hy1⟩ : Fin 1024) (⟨(y 2).val, hy2⟩ : Fin 1024) := by
    funext a; apply Fin.ext
    match a with
    | ⟨0, _⟩ => show (y 0).val = 0; omega
    | ⟨1, _⟩ => rfl
    | ⟨2, _⟩ => rfl
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) ((cfg0.win 10).xinj (grid0.coords t) y)
    = (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((cfg0.win 10).blk t).view.emb y)
  rw [hx, out_apply]
  have hb : ((cfg0.win 10).blk t).view.emb y = ix3 (⟨t.val / 8, by omega⟩ : Fin 6) (⟨t.val % 8 * 1024 + (y 1).val, by omega⟩ : Fin 8192) (⟨(y 2).val, hy2⟩ : Fin 1024) := by
    funext a; apply Fin.ext
    match a with
    | ⟨0, _⟩ => show win0_10.index t (0 : Fin 3) * 1 + 1 * (y 0).val = t.val / 8; rw [e10]; show t.val / 8 * 1 + 1 * (y 0).val = _; omega
    | ⟨1, _⟩ => show win0_10.index t (1 : Fin 3) * 1024 + 1 * (y 1).val = t.val % 8 * 1024 + (y 1).val; rw [e10]; show t.val % 8 * 1024 + 1 * (y 1).val = _; omega
    | ⟨2, _⟩ => show win0_10.index t (2 : Fin 3) * 1024 + 1 * (y 2).val = (y 2).val; rw [e10]; show 0 * 1024 + 1 * (y 2).val = _; omega
  rw [hb]
  show mrgRow _ _ _ _ _ _ _ _ = mrgRow _ _ _ _ _ _ _ _
  have h0 : ∀ k : Fin 1024, V m c main_arg0 (((cfg0.win 0).blk t).view.emb (ix3 0 ⟨(y 1).val, hy1⟩ k)) = m ((c : Thread nD τ).loc main_arg0) (ix3 (⟨t.val / 8, by omega⟩ : Fin 6) (⟨t.val % 8 * 1024 + (y 1).val, by omega⟩ : Fin 8192) k) := by
    intro k
    rw [V_main_arg0]
    refine congrArg _ ?_
    funext a; apply Fin.ext
    match a with
    | ⟨0, _⟩ => show win0_0.index t (0 : Fin 3) * 1 + 1 * 0 = t.val / 8; rw [e0]; show t.val / 8 * 1 + 1 * 0 = _; omega
    | ⟨1, _⟩ => show win0_0.index t (1 : Fin 3) * 1024 + 1 * (y 1).val = t.val % 8 * 1024 + (y 1).val; rw [e0]; show t.val % 8 * 1024 + 1 * (y 1).val = _; omega
    | ⟨2, _⟩ => show win0_0.index t (2 : Fin 3) * 1024 + 1 * k.val = k.val; rw [e0]; show 0 * 1024 + 1 * k.val = _; omega
  have h2 : ∀ k : Fin 256, V m c main_arg2 (((cfg0.win 2).blk t).view.emb (ix3 0 ⟨(y 1).val, hy1⟩ k)) = m ((c : Thread nD τ).loc main_arg2) (ix3 (⟨t.val / 8, by omega⟩ : Fin 6) (⟨t.val % 8 * 1024 + (y 1).val, by omega⟩ : Fin 8192) k) := by
    intro k
    rw [V_main_arg2]
    refine congrArg _ ?_
    funext a; apply Fin.ext
    match a with
    | ⟨0, _⟩ => show win0_2.index t (0 : Fin 3) * 1 + 1 * 0 = t.val / 8; rw [e2]; show t.val / 8 * 1 + 1 * 0 = _; omega
    | ⟨1, _⟩ => show win0_2.index t (1 : Fin 3) * 1024 + 1 * (y 1).val = t.val % 8 * 1024 + (y 1).val; rw [e2]; show t.val % 8 * 1024 + 1 * (y 1).val = _; omega
    | ⟨2, _⟩ => show win0_2.index t (2 : Fin 3) * 256 + 1 * k.val = k.val; rw [e2]; show 0 * 256 + 1 * k.val = _; omega
  have h3 : ∀ k : Fin 256, V m c main_arg3 (((cfg0.win 3).blk t).view.emb (ix3 0 ⟨(y 1).val, hy1⟩ k)) = m ((c : Thread nD τ).loc main_arg3) (ix3 (⟨t.val / 8, by omega⟩ : Fin 6) (⟨t.val % 8 * 1024 + (y 1).val, by omega⟩ : Fin 8192) k) := by
    intro k
    rw [V_main_arg3]
    refine congrArg _ ?_
    funext a; apply Fin.ext
    match a with
    | ⟨0, _⟩ => show win0_3.index t (0 : Fin 3) * 1 + 1 * 0 = t.val / 8; rw [e3]; show t.val / 8 * 1 + 1 * 0 = _; omega
    | ⟨1, _⟩ => show win0_3.index t (1 : Fin 3) * 1024 + 1 * (y 1).val = t.val % 8 * 1024 + (y 1).val; rw [e3]; show t.val % 8 * 1024 + 1 * (y 1).val = _; omega
    | ⟨2, _⟩ => show win0_3.index t (2 : Fin 3) * 256 + 1 * k.val = k.val; rw [e3]; show 0 * 256 + 1 * k.val = _; omega
  have h4 : ∀ k : Fin 256, V m c main_arg4 (((cfg0.win 4).blk t).view.emb (ix3 0 ⟨(y 1).val, hy1⟩ k)) = m ((c : Thread nD τ).loc main_arg4) (ix3 (⟨t.val / 8, by omega⟩ : Fin 6) (⟨t.val % 8 * 1024 + (y 1).val, by omega⟩ : Fin 8192) k) := by
    intro k
    rw [V_main_arg4]
    refine congrArg _ ?_
    funext a; apply Fin.ext
    match a with
    | ⟨0, _⟩ => show win0_4.index t (0 : Fin 3) * 1 + 1 * 0 = t.val / 8; rw [e4]; show t.val / 8 * 1 + 1 * 0 = _; omega
    | ⟨1, _⟩ => show win0_4.index t (1 : Fin 3) * 1024 + 1 * (y 1).val = t.val % 8 * 1024 + (y 1).val; rw [e4]; show t.val % 8 * 1024 + 1 * (y 1).val = _; omega
    | ⟨2, _⟩ => show win0_4.index t (2 : Fin 3) * 256 + 1 * k.val = k.val; rw [e4]; show 0 * 256 + 1 * k.val = _; omega
  have h1 : ∀ k : Fin 256, V m c main_arg1 (((cfg0.win 1).blk t).view.emb (ix3 0 k ⟨(y 1).val, hy1⟩)) = m ((c : Thread nD τ).loc main_arg1) (ix3 (⟨t.val / 8, by omega⟩ : Fin 6) k (⟨t.val % 8 * 1024 + (y 1).val, by omega⟩ : Fin 8192)) := by
    intro k
    rw [V_main_arg1]
    refine congrArg _ ?_
    funext a; apply Fin.ext
    match a with
    | ⟨0, _⟩ => show win0_1.index t (0 : Fin 3) * 1 + 1 * 0 = t.val / 8; rw [e1]; show t.val / 8 * 1 + 1 * 0 = _; omega
    | ⟨1, _⟩ => show win0_1.index t (1 : Fin 3) * 256 + 1 * k.val = k.val; rw [e1]; show 0 * 256 + 1 * k.val = _; omega
    | ⟨2, _⟩ => show win0_1.index t (2 : Fin 3) * 1024 + 1 * (y 1).val = t.val % 8 * 1024 + (y 1).val; rw [e1]; show t.val % 8 * 1024 + 1 * (y 1).val = _; omega
  congr 1
  · funext k
    exact h0 k
  · funext k
    have hi : ((cfg0.win 5).blk t).view.emb (ix2 0 k) = (ix2 (0 : Fin 1) k) := by
      funext a; apply Fin.ext
      match a with
      | ⟨0, _⟩ => show win0_5.index t (0 : Fin 2) * 1 + 1 * 0 = 0; rw [e5]; rfl
      | ⟨1, _⟩ => show win0_5.index t (1 : Fin 2) * 1024 + 1 * k.val = k.val; rw [e5]; show 0 * 1024 + 1 * k.val = _; omega
    show V m c main_v0 (((cfg0.win 5).blk t).view.emb (ix2 0 k)) = _
    rw [hi, V_v0]
    pointwise
  · funext k
    have hi : ((cfg0.win 6).blk t).view.emb (ix2 0 k) = (ix2 (0 : Fin 1) k) := by
      funext a; apply Fin.ext
      match a with
      | ⟨0, _⟩ => show win0_6.index t (0 : Fin 2) * 1 + 1 * 0 = 0; rw [e6]; rfl
      | ⟨1, _⟩ => show win0_6.index t (1 : Fin 2) * 1024 + 1 * k.val = k.val; rw [e6]; show 0 * 1024 + 1 * k.val = _; omega
    show V m c main_v1 (((cfg0.win 6).blk t).view.emb (ix2 0 k)) = _
    rw [hi, V_v1]
    pointwise
  · funext d f
    show V m c main_arg7 (((cfg0.win 7).blk t).view.emb (ix2 d f)) = _
    rw [V_main_arg7]
    refine congrArg _ ?_
    funext a; apply Fin.ext
    match a with
    | ⟨0, _⟩ => show win0_7.index t (0 : Fin 2) * 1024 + 1 * d.val = d.val; rw [e7]; show 0 * 1024 + 1 * d.val = _; omega
    | ⟨1, _⟩ => show win0_7.index t (1 : Fin 2) * 4096 + 1 * f.val = f.val; rw [e7]; show 0 * 4096 + 1 * f.val = _; omega
  · exact four (funext h1) (funext h2) (funext h3) (funext h4)
  · funext n k d
    show V m c main_arg8 (((cfg0.win 8).blk t).view.emb (ix3 n k d)) = _
    rw [V_main_arg8]
    refine congrArg _ ?_
    funext a; apply Fin.ext
    match a with
    | ⟨0, _⟩ => show win0_8.index t (0 : Fin 3) * 4 + 1 * n.val = n.val; rw [e8]; show 0 * 4 + 1 * n.val = _; omega
    | ⟨1, _⟩ => show win0_8.index t (1 : Fin 3) * 256 + 1 * k.val = k.val; rw [e8]; show 0 * 256 + 1 * k.val = _; omega
    | ⟨2, _⟩ => show win0_8.index t (2 : Fin 3) * 1024 + 1 * d.val = d.val; rw [e8]; show 0 * 1024 + 1 * d.val = _; omega
  · funext d f
    show V m c main_arg9 (((cfg0.win 9).blk t).view.emb (ix2 d f)) = _
    rw [V_main_arg9]
    refine congrArg _ ?_
    funext a; apply Fin.ext
    match a with
    | ⟨0, _⟩ => show win0_9.index t (0 : Fin 2) * 1024 + 1 * d.val = d.val; rw [e9]; show 0 * 1024 + 1 * d.val = _; omega
    | ⟨1, _⟩ => show win0_9.index t (1 : Fin 2) * 1024 + 1 * f.val = f.val; rw [e9]; show 0 * 1024 + 1 * f.val = _; omega

/-- Every index of the result is in some point's block. -/
theorem covered (i : S6x8192x1024.Idx) : ∃ t : Fin cfg0.N, (cfg0.win 10).flush t = true ∧ i ∈ ((cfg0.win 10).blk t).view.set := by
  have h0 : (i 0).val < 6 := (i 0).isLt
  have h1 : (i 1).val < 8192 := (i 1).isLt
  have h2 : (i 2).val < 1024 := (i 2).isLt
  have hN : cfg0.N = 48 := N_0
  obtain ⟨t, ht⟩ : ∃ t : Fin cfg0.N, t.val = (i 0).val * 8 + (i 1).val / 1024 := ⟨⟨_, by omega⟩, rfl⟩
  refine ⟨t, flush0_10 t, ?_⟩
  show i ∈ ((View.whole main_v2).slice (win0_10.rect t)).set
  rw [View.set_slice_whole, Rect.mem_set_unit]
  have e := (idx_facts t).1
  intro a
  match a with
  | ⟨0, _⟩ => show win0_10.index t (0 : Fin 3) * 1 ≤ (i 0).val ∧ (i 0).val < win0_10.index t (0 : Fin 3) * 1 + 1; rw [e]; show t.val / 8 * 1 ≤ _ ∧ _ < t.val / 8 * 1 + 1; omega
  | ⟨1, _⟩ => show win0_10.index t (1 : Fin 3) * 1024 ≤ (i 1).val ∧ (i 1).val < win0_10.index t (1 : Fin 3) * 1024 + 1024; rw [e]; show t.val % 8 * 1024 ≤ _ ∧ _ < t.val % 8 * 1024 + 1024; omega
  | ⟨2, _⟩ => show win0_10.index t (2 : Fin 3) * 1024 ≤ (i 2).val ∧ (i 2).val < win0_10.index t (2 : Fin 3) * 1024 + 1024; rw [e]; show 0 * 1024 ≤ _ ∧ _ < 0 * 1024 + 1024; omega

/-- The result array after the run. -/
theorem final : (dats m 0 c).arrAt 10 cfg0.N = (res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (dats m 0 c).arrAt_eq_of_cover 10 _ (fun t _ => flushed_eq m c t) (fun i => covered i)

/-- The reference's result is the same array. -/
theorem ref_res (x0 : FVec Ideal S6x8192x1024 .f32) (x1 : FVec Ideal S6x256x8192 .bf16) (x2 : FVec Ideal S6x8192x256 .bf16) (x3 : FVec Ideal S6x8192x256 .bf16) (x4 : FVec Ideal S6x8192x256 .bf16) (x5 : FVec Ideal S1024 .f32) (x6 : FVec Ideal S1024 .f32) (x7 : FVec Ideal S1024x4096 .bf16) (x8 : FVec Ideal S4x256x1024 .bf16) (x9 : FVec Ideal S1024x1024 .bf16) :
    Cert.Reference4Ideal.Read.val_main_v75 (F := Ideal) x0 x1 x2 x3 x4 x5 x6 x7 x8 x9 = res x0 x1 x2 x3 x4 x5 x6 x7 x8 x9 := by
  funext i
  have hi : i = ix3 (i 0 : Fin 6) (i 1 : Fin 8192) (i 2 : Fin 1024) := eq_ix3 i
  rw [hi]
  exact ref_apply x0 x1 x2 x3 x4 x5 x6 x7 x8 x9 _ _ _

/-- The merge call computes its reference over the reals. -/
theorem claim : Cert.algebraic_Kernel4Ideal_Reference4Ideal (hKernel4Ideal := Cert.Kernel4Ideal.Gen.facts) (hReference4Ideal := Cert.Reference4Ideal.Gen.facts) := by
  intro m g m' g' _ hagree
  refine ⟨_, (θ_run _ _ _).mono (fun r h c => ⟨((h c).1.trans (final m c)), (h c).2⟩) (Cert.Kernel4Ideal.Value.run_blocks m g),
    (θ_run _ _ _).mono (fun r h c => ⟨(h c).1.trans ?_, (h c).2⟩) (Cert.Reference4Ideal.Value.run m' g')⟩
  obtain ⟨h0, h1, h2, h3, h4, h5, h6, h7, h8, h9⟩ := hagree c
  refine (Cert.Reference4Ideal.Read.val_main_v75_eq m' c).trans ?_
  rw [h0, h1, h2, h3, h4, h5, h6, h7, h8, h9]
  exact ref_res _ _ _ _ _ _ _ _ _ _

end Cert.Mrg

end
-- ==== Proof.SsdMath.lean ====
module

public import Idealize.ShloMosaic.Lib.Pointwise

/-! The state-space recurrence over the reals, one token at a time, and its closed form over a chunk of tokens. -/

@[expose] public section

noncomputable section

namespace Cert.Ssd

/-- One entry of the state: after each token it is scaled by the exponential of that token's decay and gains that token's input. -/
def hrec (d u : ℕ → ℝ) (h0 : ℝ) : ℕ → ℝ
  | 0 => h0
  | r + 1 => Real.exp (d r) * hrec d u h0 r + u r

/-- The recurrence started again after `m` tokens from the state reached there. -/
theorem hrec_add (d u : ℕ → ℝ) (h0 : ℝ) (m r : ℕ) :
    hrec d u h0 (m + r) = hrec (fun i => d (m + i)) (fun i => u (m + i)) (hrec d u h0 m) r := by
  induction r with
  | zero => rfl
  | succ r ih => rw [← Nat.add_assoc, hrec, hrec, ih]

/-- The recurrence depends only on the tokens before. -/
theorem hrec_congr (d d' u u' : ℕ → ℝ) (h0 : ℝ) (r : ℕ) (hd : ∀ i < r, d i = d' i) (hu : ∀ i < r, u i = u' i) :
    hrec d u h0 r = hrec d' u' h0 r := by
  induction r with
  | zero => rfl
  | succ r ih =>
    rw [hrec, hrec, hd r (by omega), hu r (by omega), ih (fun i hi => hd i (by omega)) (fun i hi => hu i (by omega))]

/-- The recurrence solved: the start decayed by all tokens plus each input decayed by the tokens after it. -/
theorem hrec_closed (d u : ℕ → ℝ) (h0 : ℝ) (r : ℕ) :
    hrec d u h0 r = Real.exp (∑ i ∈ Finset.range r, d i) * h0
      + ∑ s ∈ Finset.range r, Real.exp (∑ i ∈ Finset.Ico (s + 1) r, d i) * u s := by
  induction r with
  | zero => simp [hrec]
  | succ r ih =>
    rw [hrec, ih, Finset.sum_range_succ, Finset.sum_range_succ (fun s => Real.exp _ * u s), Real.exp_add]
    simp only [Finset.Ico_self, Finset.sum_empty, Real.exp_zero, one_mul]
    rw [mul_add, Finset.mul_sum, ← add_assoc]
    congr 2
    · ring
    · refine Finset.sum_congr rfl fun s hs => ?_
      have : s < r := Finset.mem_range.1 hs
      rw [Finset.sum_Ico_succ_top (by omega), Real.exp_add]
      ring

/-- A sum of the later terms of a chunk as a sum over the whole chunk with two masks. -/
theorem seg_sum {K : ℕ} (d : ℕ → ℝ) (s r : Fin K) :
    ∑ k : Fin K, (if k ≤ r then 1 else 0) * (if s < k then d k else 0) = ∑ i ∈ Finset.Ico (s.val + 1) (r.val + 1), d i := by
  have h : ∀ k : Fin K, ((if k ≤ r then 1 else 0) * (if s < k then d k else 0) : ℝ)
      = if k.val ∈ Finset.Ico (s.val + 1) (r.val + 1) then d k.val else 0 := by
    intro k
    simp only [Finset.mem_Ico, Fin.le_def, Fin.lt_def]
    split_ifs <;> first | omega | simp
  rw [Finset.sum_congr rfl fun k _ => h k,
    Fin.sum_univ_eq_sum_range (fun k => if k ∈ Finset.Ico (s.val + 1) (r.val + 1) then d k else 0) K, ← Finset.sum_filter]
  refine Finset.sum_congr ?_ fun _ _ => rfl
  ext k
  have := r.isLt
  simp only [Finset.mem_filter, Finset.mem_range, Finset.mem_Ico]
  omega

/-- A running sum as a masked sum over the whole chunk. -/
theorem cum_sum {K : ℕ} (d : ℕ → ℝ) (r : Fin K) :
    ∑ k : Fin K, (if k ≤ r then 1 else 0) * d k = ∑ i ∈ Finset.range (r.val + 1), d i := by
  have h : ∀ k : Fin K, ((if k ≤ r then 1 else 0) * d k : ℝ) = if k.val ∈ Finset.range (r.val + 1) then d k.val else 0 := by
    intro k
    simp only [Finset.mem_range, Fin.le_def]
    split_ifs <;> first | omega | simp
  rw [Finset.sum_congr rfl fun k _ => h k,
    Fin.sum_univ_eq_sum_range (fun k => if k ∈ Finset.range (r.val + 1) then d k else 0) K, ← Finset.sum_filter]
  refine Finset.sum_congr ?_ fun _ _ => rfl
  ext k
  have := r.isLt
  simp only [Finset.mem_filter, Finset.mem_range]
  omega

/-- A token's output: its read-out of the state after it, by the pairs of tokens in the chunk and the chunk's start. -/
theorem y_chunk {N : Type*} [Fintype N] {K : ℕ} (d w : ℕ → ℝ) (B : ℕ → N → ℝ) (C h0 : N → ℝ) (r : Fin K) :
    ∑ n, C n * hrec d (fun s => B s n * w s) (h0 n) (r.val + 1)
      = (∑ s : Fin K, (∑ n, C n * B s n) * (if s ≤ r then Real.exp (∑ i ∈ Finset.Ico (s.val + 1) (r.val + 1), d i) else 0) * w s)
        + Real.exp (∑ i ∈ Finset.range (r.val + 1), d i) * ∑ n, C n * h0 n := by
  have hw : (∑ s : Fin K, (∑ n, C n * B s n) * (if s ≤ r then Real.exp (∑ i ∈ Finset.Ico (s.val + 1) (r.val + 1), d i) else 0) * w s)
      = ∑ s ∈ Finset.range (r.val + 1), (∑ n, C n * B s n) * Real.exp (∑ i ∈ Finset.Ico (s + 1) (r.val + 1), d i) * w s := by
    have h : ∀ s : Fin K, (∑ n, C n * B s n) * (if s ≤ r then Real.exp (∑ i ∈ Finset.Ico (s.val + 1) (r.val + 1), d i) else 0) * w s
        = if s.val ∈ Finset.range (r.val + 1) then (∑ n, C n * B s n) * Real.exp (∑ i ∈ Finset.Ico (s.val + 1) (r.val + 1), d i) * w s else 0 := by
      intro s
      simp only [Finset.mem_range, Fin.le_def]
      split_ifs <;> first | omega | simp
    rw [Finset.sum_congr rfl fun s _ => h s,
      Fin.sum_univ_eq_sum_range (fun s => if s ∈ Finset.range (r.val + 1) then (∑ n, C n * B s n) * Real.exp (∑ i ∈ Finset.Ico (s + 1) (r.val + 1), d i) * w s else 0) K,
      ← Finset.sum_filter]
    refine Finset.sum_congr ?_ fun _ _ => rfl
    ext k
    have := r.isLt
    simp only [Finset.mem_filter, Finset.mem_range]
    omega
  rw [hw]
  simp only [hrec_closed, mul_add, Finset.sum_add_distrib, Finset.mul_sum, Finset.sum_mul]
  rw [Finset.sum_comm, add_comm]
  congr 1
  · exact Finset.sum_congr rfl fun s _ => Finset.sum_congr rfl fun n _ => by ring
  · exact Finset.sum_congr rfl fun n _ => by ring

/-- The state at a chunk's end. -/
theorem s_chunk (K : ℕ) (d w B : ℕ → ℝ) (h0 : ℝ) :
    hrec d (fun s => B s * w s) h0 K = Real.exp (∑ i ∈ Finset.range K, d i) * h0
      + ∑ s : Fin K, B s * Real.exp (∑ i ∈ Finset.Ico (s.val + 1) K, d i) * w s := by
  rw [hrec_closed, Fin.sum_univ_eq_sum_range (fun s => B s * Real.exp (∑ i ∈ Finset.Ico (s + 1) K, d i) * w s) K]
  congr 1
  exact Finset.sum_congr rfl fun n _ => by ring

/-- The tokens after `s` up to `r`, as a difference of running sums. -/
theorem ico_sub (d : ℕ → ℝ) (s r : ℕ) (h : s ≤ r) :
    ∑ i ∈ Finset.Ico s r, d i = (∑ i ∈ Finset.range r, d i) - ∑ i ∈ Finset.range s, d i :=
  Finset.sum_Ico_eq_sub _ h

/-- A sum over 128 lanes that keeps one half of them. -/
theorem half_sum (g : Fin 2) (f : Fin 128 → ℝ) :
    ∑ n : Fin 128, (if n.val / 64 = g.val then f n else 0) = ∑ k : Fin 64, f ⟨64 * g.val + k.val, by omega⟩ := by
  have h := Fin.sum_univ_add (a := 64) (b := 64) (fun n : Fin (64 + 64) => if n.val / 64 = g.val then f n else 0)
  have e : (∑ n : Fin 128, (if n.val / 64 = g.val then f n else 0)) = ∑ n : Fin (64 + 64), (if n.val / 64 = g.val then f n else 0) := rfl
  rw [e, h]
  have h0 : ∀ k : Fin 64, k.val / 64 = 0 := fun k => by omega
  have h1 : ∀ k : Fin 64, (64 + k.val) / 64 = 1 := fun k => by omega
  fin_cases g
  · simp [h0, h1]; rfl
  · simp [h0, h1]; rfl

end Cert.Ssd
-- ==== Proof.SsdBlock.lean ====
module

public import proofs.«01_k».proof.Proof.Gen.KernelIdeal.Value
public import proofs.«01_k».proof.Proof.SsdMath
public import Idealize.ShloMosaic.Lib.Pointwise

/-! One sequence's chunk of 128 tokens of the state-space scan, as the kernel computes it: every array is a plain function
of the chunk's inputs, for both directions of time. -/

@[expose] public section

noncomputable section

namespace Cert.Ssd

open Cert.KernelIdeal Cert.KernelIdeal.Gen Idealize.ShloMosaic

/-- The step sizes: the softplus of the raw step plus its bias. -/
def dtv (sm : FVec Ideal S128x128 .f32) (dtb : FVec Ideal S1x128 .f32) : FVec Ideal S128x128 .f32 :=
  addf (maximumf (addf sm (broadcastTo S128x128 dtb broadcasts_S1x128_S128x128)) (broadcast S128x128 (Scalar.ofBits .f32 0x00000000#32)))
    (log1p (exp (subf (broadcast S128x128 (Scalar.ofBits .f32 0x00000000#32)) (absf (addf sm (broadcastTo S128x128 dtb broadcasts_S1x128_S128x128))))))

/-- The decays: the step sizes times the heads' rates. -/
def dav (dt : FVec Ideal S128x128 .f32) (a : FVec Ideal S1x128 .f32) : FVec Ideal S128x128 .f32 :=
  mulf dt (broadcastTo S128x128 a broadcasts_S1x128_S128x128)

/-- A mask as a matrix of ones and zeros. -/
def ones (m : IVec S128x128 1) : FVec Ideal S128x128 .bf16 :=
  truncf .bf16 (select m (broadcast S128x128 (Scalar.ofBits .f32 0x3F800000#32)) (broadcast S128x128 (Scalar.ofBits .f32 0x00000000#32))) bitsLt_bf16_f32

/-- A mask of 256 columns as a matrix of ones and zeros. -/
def onesW (m : IVec S128x256 1) : FVec Ideal S128x256 .bf16 :=
  truncf .bf16 (select m (broadcast S128x256 (Scalar.ofBits .f32 0x3F800000#32)) (broadcast S128x256 (Scalar.ofBits .f32 0x00000000#32))) bitsLt_bf16_f32

/-- What is left of an array after its first piece. -/
def rest (x : FVec Ideal S128x128 .f32) : FVec Ideal S128x128 .f32 := subf x (extf .f32 (truncf .bf16 x bitsLt_bf16_f32) bitsLt_bf16_f32)

/-- What is left of a wide array after its first piece. -/
def restW (x : FVec Ideal S128x512 .f32) : FVec Ideal S128x512 .f32 := subf x (extf .f32 (truncf .bf16 x bitsLt_bf16_f32) bitsLt_bf16_f32)

/-- A matrix times the first piece of an array. -/
def mm (m : FVec Ideal S128x128 .bf16) (x : FVec Ideal S128x128 .f32) : FVec Ideal S128x128 .f32 :=
  matmul dot_S128x128_S128x128_S128x128_1_0_0_1_n_n none m (truncf .bf16 x bitsLt_bf16_f32) (constant S128x128 .f32 0x00000000#32)

/-- A matrix times the first piece of a wide array. -/
def mmW (m : FVec Ideal S128x128 .bf16) (x : FVec Ideal S128x512 .f32) : FVec Ideal S128x512 .f32 :=
  matmul dot_S128x128_S128x512_S128x512_1_0_0_1_n_n none m (truncf .bf16 x bitsLt_bf16_f32) (constant S128x512 .f32 0x00000000#32)

/-- The first piece of an array times a matrix. -/
def mr (x : FVec Ideal S128x128 .f32) (e : FVec Ideal S128x256 .bf16) : FVec Ideal S128x256 .f32 :=
  matmul dot_S128x128_S128x256_S128x256_1_0_0_1_n_n none (truncf .bf16 x bitsLt_bf16_f32) e (constant S128x256 .f32 0x00000000#32)

/-- A matrix times an array in three pieces. -/
def sl (m : FVec Ideal S128x128 .bf16) (x : FVec Ideal S128x128 .f32) : FVec Ideal S128x128 .f32 :=
  addf (addf (mm m x) (mm m (rest x))) (mm m (rest (rest x)))

/-- A matrix times a wide array in three pieces. -/
def slW (m : FVec Ideal S128x128 .bf16) (x : FVec Ideal S128x512 .f32) : FVec Ideal S128x512 .f32 :=
  addf (addf (mmW m x) (mmW m (restW x))) (mmW m (restW (restW x)))

/-- An array in two pieces times a matrix. -/
def sr (x : FVec Ideal S128x128 .f32) (e : FVec Ideal S128x256 .bf16) : FVec Ideal S128x256 .f32 :=
  addf (mr x e) (mr (rest x) e)

/-- The quotient of a lane number, rounded down, as the kernel computes it. -/
def fdiv {s : Shape} (x : IVec s 32) (d : BitVec 32) : IVec s 32 :=
  select (andi (cmpi .ne (subi (extui 32 (cmpi .sgt x (broadcast s 0#32)) natLt_1_32) (extui 32 (cmpi .slt x (broadcast s 0#32)) natLt_1_32))
      (broadcast s (Scalar.subi (Scalar.extui (Scalar.cmpi .sgt d 0#32)) (Scalar.extui (Scalar.cmpi .slt d 0#32)))))
      (cmpi .ne (remsi x (broadcast s d)) (broadcast s 0#32)))
    (subi (divsi x (broadcast s d)) (broadcast s 1#32)) (divsi x (broadcast s d))

/-- The group of each of 128 lanes. -/
def laneG : IVec S1x128 32 := fdiv (iota .tc S1x128 32 [1] iota_S1x128_d1_w32) 64#32

/-- The head of each of 256 lanes. -/
def laneH : IVec S1x256 32 := fdiv (iota .tc S1x256 32 [1] iota_S1x256_d1_w32) 64#32

/-- The mask that carries a head's lane to its 64 columns. -/
def exm (l : BitVec 32) : IVec S128x256 1 :=
  cmpi .eq (subi (iota .tc S128x256 32 [0] iota_S128x256_d0_w32) (broadcast S128x256 l)) (fdiv (iota .tc S128x256 32 [1] iota_S128x256_d1_w32) 64#32)

/-- The mask of the state's entries whose row and column belong to one group. -/
def gm : IVec S128x256 1 :=
  cmpi .eq (fdiv (iota .tc S128x256 32 [0] iota_S128x256_d0_w32) 64#32) (fdiv (iota .tc S128x256 32 [1] iota_S128x256_d1_w32) 128#32)

/-- One group's products of pairs of tokens. -/
def gram (g : BitVec 32) (cf : FVec Ideal S128x128 .f32) (bm : FVec Ideal S128x128 .bf16) : FVec Ideal S128x128 .f32 :=
  matmul dot_S128x128_S128x128_S128x128_1_1_0_0_n_n none
    (truncf .bf16 (select (broadcastTo S128x128 (shapeCast S1x128 (cmpi .eq laneG (broadcast S1x128 g)) shapeCasts_S1x128_S1x128) broadcasts_S1x128_S128x128)
      cf (broadcast S128x128 (Scalar.ofBits .f32 0x00000000#32))) bitsLt_bf16_f32) bm (constant S128x128 .f32 0x00000000#32)

/-- One head's decays, each spread over the row and masked. -/
def colm (strict : IVec S128x128 1) (c : FVec Ideal S128x1 .f32) : FVec Ideal S128x128 .f32 :=
  select strict (broadcastTo S128x128 (shapeCast S128x1 c shapeCasts_S128x1_S128x1) broadcasts_S128x1_S128x128) (broadcast S128x128 (Scalar.ofBits .f32 0x00000000#32))

/-- The four heads' masked decays side by side. -/
def cols (strict : IVec S128x128 1) (c : Fin 4 → FVec Ideal S128x1 .f32) : FVec Ideal S128x512 .f32 :=
  concatenate S128x512 1 [⟨S128x128, colm strict (c 0)⟩, ⟨S128x128, colm strict (c 1)⟩, ⟨S128x128, colm strict (c 2)⟩, ⟨S128x128, colm strict (c 3)⟩] concatenates_S128x128_S128x128_S128x128_S128x128_S128x512_d1

/-- One head's contribution to the output: its scores times its inputs, kept on its own columns. -/
def head (incl : IVec S128x128 1) (neg : Ideal .f32) (h : BitVec 32) (e gr : FVec Ideal S128x128 .f32) (xdt : FVec Ideal S128x256 .f32) : FVec Ideal S128x256 .f32 :=
  select (broadcastTo S128x256 (shapeCast S1x256 (cmpi .eq laneH (broadcast S1x256 h)) shapeCasts_S1x256_S1x256) broadcasts_S1x256_S128x256)
    (matmul dot_S128x128_S128x256_S128x256_1_0_0_1_n_n none
      (truncf .bf16 (mulf gr (exp (select incl e (broadcast S128x128 neg)))) bitsLt_bf16_f32) (truncf .bf16 xdt bitsLt_bf16_f32) (constant S128x256 .f32 0x00000000#32))
    (broadcast S128x256 (Scalar.ofBits .f32 0x00000000#32))

/-- The chunk's input block as 128 rows. -/
def xf (xb : FVec Ideal S1x128x512 .bf16) : FVec Ideal S128x512 .f32 := extf .f32 (shapeCast S128x512 xb shapeCasts_S1x128x512_S128x512) bitsLt_bf16_f32

/-- The columns of the scan's inputs. -/
def xpart (xb : FVec Ideal S1x128x512 .bf16) : FVec Ideal S128x256 .f32 := extractStridedSlice S128x256 ![0, 0] (xf xb) slices_S128x512_o0_0_S128x256
/-- The columns written into the state. -/
def bpart (xb : FVec Ideal S1x128x512 .bf16) : FVec Ideal S128x128 .bf16 := truncf .bf16 (extractStridedSlice S128x128 ![0, 256] (xf xb) slices_S128x512_o0_256_S128x128) bitsLt_bf16_f32
/-- The columns read from the state. -/
def cpart (xb : FVec Ideal S1x128x512 .bf16) : FVec Ideal S128x128 .f32 := extractStridedSlice S128x128 ![0, 384] (xf xb) slices_S128x512_o0_384_S128x128

/-- The chunk's outputs, given the decays' columns and running sums. -/
def yv (incl strict : IVec S128x128 1) (ex : IVec S128x256 1) (neg : Ideal .f32) (c : Fin 4 → FVec Ideal S128x1 .f32)
    (x : FVec Ideal S128x256 .f32) (bm : FVec Ideal S128x128 .bf16) (cf dt da : FVec Ideal S128x128 .f32) (st : FVec Ideal S128x256 .f32) : FVec Ideal S128x256 .f32 :=
  let E := slW (ones incl) (cols strict c)
  let xdt := mulf x (sr dt (onesW ex))
  addf (addf (addf (addf (addf (broadcast S128x256 (Scalar.ofBits .f32 0x00000000#32))
    (head incl neg 0#32 (extractStridedSlice S128x128 ![0, 0] E slices_S128x512_o0_0_S128x128) (gram 0#32 cf bm) xdt))
    (head incl neg 1#32 (extractStridedSlice S128x128 ![0, 128] E slices_S128x512_o0_128_S128x128) (gram 0#32 cf bm) xdt))
    (head incl neg 2#32 (extractStridedSlice S128x128 ![0, 256] E slices_S128x512_o0_256_S128x128) (gram 1#32 cf bm) xdt))
    (head incl neg 3#32 (extractStridedSlice S128x128 ![0, 384] E slices_S128x512_o0_384_S128x128) (gram 1#32 cf bm) xdt))
    (mulf (sr (exp (sl (ones incl) da)) (onesW ex))
      (matmul dot_S128x128_S128x256_S128x256_1_0_0_1_n_n none (truncf .bf16 cf bitsLt_bf16_f32) (truncf .bf16 st bitsLt_bf16_f32) (constant S128x256 .f32 0x00000000#32)))

/-- The chunk's new state: `l` and `lw` read the row at the chunk's end. -/
def sv (incl : IVec S128x128 1) (ex : IVec S128x256 1) (l : FVec Ideal S128x128 .f32 → FVec Ideal S1x128 .f32) (lw : FVec Ideal S128x256 .f32 → FVec Ideal S1x256 .f32)
    (x : FVec Ideal S128x256 .f32) (bm : FVec Ideal S128x128 .bf16) (dt da : FVec Ideal S128x128 .f32) (st : FVec Ideal S128x256 .f32) : FVec Ideal S128x256 .f32 :=
  let cum := sl (ones incl) da
  addf (mulf st (broadcastTo S128x256 (lw (sr (exp cum) (onesW ex))) broadcasts_S1x256_S128x256))
    (select gm (matmul dot_S128x128_S128x256_S128x256_0_0_1_1_n_n none bm
      (truncf .bf16 (mulf x (sr (mulf dt (exp (subf (broadcastTo S128x128 (l cum) broadcasts_S1x128_S128x128) cum))) (onesW ex))) bitsLt_bf16_f32) (constant S128x256 .f32 0x00000000#32))
      (broadcast S128x256 (Scalar.ofBits .f32 0x00000000#32)))

/-- The tokens up to a token. -/
def inclF : IVec S128x128 1 := cmpi .sle (iota .tc S128x128 32 [1] iota_S128x128_d1_w32) (iota .tc S128x128 32 [0] iota_S128x128_d0_w32)
/-- The tokens after a token. -/
def strictF : IVec S128x128 1 := cmpi .sgt (iota .tc S128x128 32 [0] iota_S128x128_d0_w32) (iota .tc S128x128 32 [1] iota_S128x128_d1_w32)
/-- The four heads' columns of the decays, forward. -/
def colF (da : FVec Ideal S128x128 .f32) : Fin 4 → FVec Ideal S128x1 .f32 := ![extractStridedSlice S128x1 ![0, 32] da slices_S128x128_o0_32_S128x1,
  extractStridedSlice S128x1 ![0, 33] da slices_S128x128_o0_33_S128x1, extractStridedSlice S128x1 ![0, 34] da slices_S128x128_o0_34_S128x1,
  extractStridedSlice S128x1 ![0, 35] da slices_S128x128_o0_35_S128x1]

/-- The forward chunk's outputs from its blocks. -/
def yF (xb : FVec Ideal S1x128x512 .bf16) (sm : FVec Ideal S1x128x128 .f32) (dtb a : FVec Ideal S1x128 .f32) (st : FVec Ideal S1x128x256 .f32) : FVec Ideal S128x256 .f32 :=
  let dt := dtv (shapeCast S128x128 sm shapeCasts_S1x128x128_S128x128) dtb
  let da := dav dt a
  yv inclF strictF (exm 32#32) (Named.named κ "mask" 0xF149F2CA#32) (colF da) (xpart xb) (bpart xb) (cpart xb) dt da (shapeCast S128x256 st shapeCasts_S1x128x256_S128x256)

/-- The forward chunk's new state from its blocks. -/
def sF (xb : FVec Ideal S1x128x512 .bf16) (sm : FVec Ideal S1x128x128 .f32) (dtb a : FVec Ideal S1x128 .f32) (st : FVec Ideal S1x128x256 .f32) : FVec Ideal S128x256 .f32 :=
  let dt := dtv (shapeCast S128x128 sm shapeCasts_S1x128x128_S128x128) dtb
  let da := dav dt a
  sv inclF (exm 32#32) (fun v => extractStridedSlice S1x128 ![127, 0] v slices_S128x128_o127_0_S1x128) (fun v => extractStridedSlice S1x256 ![127, 0] v slices_S128x256_o127_0_S1x256)
    (xpart xb) (bpart xb) dt da (shapeCast S128x256 st shapeCasts_S1x128x256_S128x256)

end Cert.Ssd
-- ==== Proof.SsdReal.lean ====
module

public import proofs.«01_k».proof.Proof.SsdBlock

/-! The chunk's arrays on real inputs: every entry is the real number the formulas give. -/

@[expose] public section

noncomputable section

namespace Cert.Ssd

open Cert.KernelIdeal Cert.KernelIdeal.Gen Idealize.ShloMosaic

/-- A real sum read in the extended reals. -/
theorem up_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Choosing by a mask entry is choosing by the property the mask stands for. -/
theorem sel_if {α : Type} (p : Prop) [Decidable p] (a b : α) : Scalar.select (if p then 1#1 else 0#1) a b = if p then a else b := by
  split <;> rfl

/-- Choosing between real numbers. -/
theorem up_if (p : Prop) [Decidable p] (a b : ℝ) : (if p then (a : EReal) else (b : EReal)) = ((if p then a else b : ℝ) : EReal) := by
  split <;> rfl

/-- The softplus of a real number. -/
def spR (x : ℝ) : ℝ := max x 0 + Real.log (1 + Real.exp (-|x|))

/-- The larger of two real numbers. -/
theorem up_max (x y : ℝ) : max (x : EReal) (y : EReal) = ((max x y : ℝ) : EReal) :=
  ((EReal.coe_strictMono.monotone).map_max).symm

/-- The absolute value of a real number. -/
theorem abs_up (x : ℝ) : (FloatOps.absf (F := Ideal) (φ := .f32) (x : EReal) : EReal) = ((|x| : ℝ) : EReal) := by
  show ((max (x : EReal) (-(x : EReal)) : EReal)) = _
  rw [← EReal.coe_neg, up_max]; rfl

/-- The logarithm of one plus an exponential. -/
theorem log1p_up (x : ℝ) : Ideal.log1p ((Real.exp x : ℝ) : EReal) = ((Real.log (1 + Real.exp x) : ℝ) : EReal) := by
  show Ideal.log (1 + ((Real.exp x : ℝ) : EReal)) = _
  rw [← EReal.coe_one, ← EReal.coe_add, Ideal.log_coe, if_neg (by have := Real.exp_pos x; linarith)]

theorem max_up (x : ℝ) : max (x : EReal) 0 = ((max x 0 : ℝ) : EReal) := by
  rw [← EReal.coe_zero, up_max]

/-- The step sizes. -/
theorem dtv_up {sm : FVec Ideal S128x128 .f32} {dtb : FVec Ideal S1x128 .f32} {T : Fin 128 → Fin 128 → ℝ} {D : Fin 128 → ℝ}
    (hT : ∀ r i, sm (ix2 r i) = (T r i : EReal)) (hD : ∀ i, dtb (ix2 0 i) = (D i : EReal)) (r i : Fin 128) :
    dtv sm dtb (ix2 r i) = ((spR (T r i + D i) : ℝ) : EReal) := by
  have e : dtv sm dtb (ix2 r i) = max (sm (ix2 r i) + dtb (ix2 0 i)) 0 + Ideal.log1p (Ideal.exp (0 - FloatOps.absf (F := Ideal) (φ := .f32) (sm (ix2 r i) + dtb (ix2 0 i)))) := by
    pointwise [dtv]
  rw [e, hT, hD, ← EReal.coe_add, abs_up, max_up, ← EReal.coe_zero, ← EReal.coe_sub, Ideal.exp_coe, log1p_up, ← EReal.coe_add, zero_sub]
  rfl

/-- The decays. -/
theorem dav_up {dt : FVec Ideal S128x128 .f32} {a : FVec Ideal S1x128 .f32} {T : Fin 128 → Fin 128 → ℝ} {A : Fin 128 → ℝ}
    (hT : ∀ r i, dt (ix2 r i) = (T r i : EReal)) (hA : ∀ i, a (ix2 0 i) = (A i : EReal)) (r i : Fin 128) :
    dav dt a (ix2 r i) = ((T r i * A i : ℝ) : EReal) := by
  have e : dav dt a (ix2 r i) = dt (ix2 r i) * a (ix2 0 i) := by pointwise [dav]
  rw [e, hT, hA, EReal.coe_mul]

/-- A mask's matrix. -/
theorem ones_up {m : IVec S128x128 1} {p : Fin 128 → Fin 128 → Prop} [∀ r c, Decidable (p r c)] (hm : ∀ r c, m (ix2 r c) = if p r c then 1#1 else 0#1) (r c : Fin 128) :
    ones m (ix2 r c) = ((if p r c then 1 else 0 : ℝ) : EReal) := by
  have e : ones m (ix2 r c) = Scalar.select (m (ix2 r c)) (1 : EReal) 0 := by pointwise [ones]
  rw [e, hm, sel_if, ← EReal.coe_one, ← EReal.coe_zero, up_if]

/-- A wide mask's matrix. -/
theorem onesW_up {m : IVec S128x256 1} {p : Fin 128 → Fin 256 → Prop} [∀ r c, Decidable (p r c)] (hm : ∀ r c, m (ix2 r c) = if p r c then 1#1 else 0#1) (r : Fin 128) (c : Fin 256) :
    onesW m (ix2 r c) = ((if p r c then 1 else 0 : ℝ) : EReal) := by
  have e : onesW m (ix2 r c) = Scalar.select (m (ix2 r c)) (1 : EReal) 0 := by pointwise [onesW]
  rw [e, hm, sel_if, ← EReal.coe_one, ← EReal.coe_zero, up_if]

/-- Nothing is left of a real array. -/
theorem rest_up {x : FVec Ideal S128x128 .f32} {X : Fin 128 → Fin 128 → ℝ} (hx : ∀ r c, x (ix2 r c) = (X r c : EReal)) (r c : Fin 128) :
    rest x (ix2 r c) = ((0 : ℝ) : EReal) := by
  have e : rest x (ix2 r c) = x (ix2 r c) - x (ix2 r c) := by pointwise [rest]
  rw [e, hx, ← EReal.coe_sub, sub_self]

/-- Nothing is left of a wide real array. -/
theorem restW_up {x : FVec Ideal S128x512 .f32} {X : Fin 128 → Fin 512 → ℝ} (hx : ∀ r c, x (ix2 r c) = (X r c : EReal)) (r : Fin 128) (c : Fin 512) :
    restW x (ix2 r c) = ((0 : ℝ) : EReal) := by
  have e : restW x (ix2 r c) = x (ix2 r c) - x (ix2 r c) := by pointwise [restW]
  rw [e, hx, ← EReal.coe_sub, sub_self]

/-- A sum of products of real numbers. -/
theorem dot_up {ι : Type*} [Fintype ι] {f g : ι → EReal} {F G : ι → ℝ} (hf : ∀ k, f k = (F k : EReal)) (hg : ∀ k, g k = (G k : EReal)) :
    ∑ k, f k * g k = ((∑ k, F k * G k : ℝ) : EReal) := by
  rw [up_sum]; exact Finset.sum_congr rfl fun k _ => by rw [hf, hg, EReal.coe_mul]

theorem mm_up {m : FVec Ideal S128x128 .bf16} {x : FVec Ideal S128x128 .f32} {M X : Fin 128 → Fin 128 → ℝ}
    (hm : ∀ r c, m (ix2 r c) = (M r c : EReal)) (hx : ∀ r c, x (ix2 r c) = (X r c : EReal)) (r c : Fin 128) :
    mm m x (ix2 r c) = ((∑ k, M r k * X k c : ℝ) : EReal) := by
  have e : mm m x (ix2 r c) = ∑ k, m (ix2 r k) * x (ix2 k c) := by pointwise [mm]
  rw [e]; exact dot_up (fun k => hm r k) fun k => hx k c

theorem mmW_up {m : FVec Ideal S128x128 .bf16} {x : FVec Ideal S128x512 .f32} {M : Fin 128 → Fin 128 → ℝ} {X : Fin 128 → Fin 512 → ℝ}
    (hm : ∀ r c, m (ix2 r c) = (M r c : EReal)) (hx : ∀ r c, x (ix2 r c) = (X r c : EReal)) (r : Fin 128) (c : Fin 512) :
    mmW m x (ix2 r c) = ((∑ k, M r k * X k c : ℝ) : EReal) := by
  have e : mmW m x (ix2 r c) = ∑ k, m (ix2 r k) * x (ix2 k c) := by pointwise [mmW]
  rw [e]; exact dot_up (fun k => hm r k) fun k => hx k c

theorem mr_up {x : FVec Ideal S128x128 .f32} {m : FVec Ideal S128x256 .bf16} {X : Fin 128 → Fin 128 → ℝ} {M : Fin 128 → Fin 256 → ℝ}
    (hx : ∀ r c, x (ix2 r c) = (X r c : EReal)) (hm : ∀ r c, m (ix2 r c) = (M r c : EReal)) (r : Fin 128) (c : Fin 256) :
    mr x m (ix2 r c) = ((∑ k, X r k * M k c : ℝ) : EReal) := by
  have e : mr x m (ix2 r c) = ∑ k, x (ix2 r k) * m (ix2 k c) := by pointwise [mr]
  rw [e]; exact dot_up (fun k => hx r k) fun k => hm k c

/-- The three pieces' products add to the product. -/
theorem sl_up {m : FVec Ideal S128x128 .bf16} {x : FVec Ideal S128x128 .f32} {M X : Fin 128 → Fin 128 → ℝ}
    (hm : ∀ r c, m (ix2 r c) = (M r c : EReal)) (hx : ∀ r c, x (ix2 r c) = (X r c : EReal)) (r c : Fin 128) :
    sl m x (ix2 r c) = ((∑ k, M r k * X k c : ℝ) : EReal) := by
  have e : sl m x (ix2 r c) = mm m x (ix2 r c) + mm m (rest x) (ix2 r c) + mm m (rest (rest x)) (ix2 r c) := by pointwise [sl]
  rw [e, mm_up hm hx, mm_up hm (rest_up hx), mm_up hm (rest_up (X := fun _ _ => 0) (rest_up hx))]
  simp

theorem slW_up {m : FVec Ideal S128x128 .bf16} {x : FVec Ideal S128x512 .f32} {M : Fin 128 → Fin 128 → ℝ} {X : Fin 128 → Fin 512 → ℝ}
    (hm : ∀ r c, m (ix2 r c) = (M r c : EReal)) (hx : ∀ r c, x (ix2 r c) = (X r c : EReal)) (r : Fin 128) (c : Fin 512) :
    slW m x (ix2 r c) = ((∑ k, M r k * X k c : ℝ) : EReal) := by
  have e : slW m x (ix2 r c) = mmW m x (ix2 r c) + mmW m (restW x) (ix2 r c) + mmW m (restW (restW x)) (ix2 r c) := by pointwise [slW]
  rw [e, mmW_up hm hx, mmW_up hm (restW_up hx), mmW_up hm (restW_up (X := fun _ _ => 0) (restW_up hx))]
  simp

theorem sr_up {x : FVec Ideal S128x128 .f32} {m : FVec Ideal S128x256 .bf16} {X : Fin 128 → Fin 128 → ℝ} {M : Fin 128 → Fin 256 → ℝ}
    (hx : ∀ r c, x (ix2 r c) = (X r c : EReal)) (hm : ∀ r c, m (ix2 r c) = (M r c : EReal)) (r : Fin 128) (c : Fin 256) :
    sr x m (ix2 r c) = ((∑ k, X r k * M k c : ℝ) : EReal) := by
  have e : sr x m (ix2 r c) = mr x m (ix2 r c) + mr (rest x) m (ix2 r c) := by pointwise [sr]
  rw [e, mr_up hx hm, mr_up (rest_up hx) hm]
  simp

/-- A quotient of lane numbers, one lane. -/
def fq (x d : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

theorem fq64 : ∀ n : Fin 256, fq (BitVec.ofNat 32 n.val) 64#32 = BitVec.ofNat 32 (n.val / 64) := by decide +kernel
theorem fq128 : ∀ n : Fin 256, fq (BitVec.ofNat 32 n.val) 128#32 = BitVec.ofNat 32 (n.val / 128) := by decide +kernel

/-- Comparing two small numbers. -/
theorem eq_ofNat (a b : ℕ) (ha : a < 2 ^ 32) (hb : b < 2 ^ 32) :
    IntOp.cmpi .eq (BitVec.ofNat 32 a) (BitVec.ofNat 32 b) = if a = b then 1#1 else 0#1 := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  by_cases h : a = b
  · subst h; simp [IntOp.cmpi]
  · rw [if_neg h]
    show BitVec.ofBool (BitVec.ofNat 32 a == BitVec.ofNat 32 b) = 0#1
    rw [beq_eq_false_iff_ne.2 (fun e => h (this.1 e))]; rfl

theorem laneG_eq (g : ℕ) (hg : g < 4) (n : Fin 128) : IntOp.cmpi .eq (laneG (ix2 0 n)) (BitVec.ofNat 32 g) = if n.val / 64 = g then 1#1 else 0#1 := by
  have e : laneG (ix2 0 n) = fq (BitVec.ofNat 32 n.val) 64#32 := by pointwise [laneG, fdiv, fq]
  rw [e, fq64 ⟨n.val, by omega⟩, eq_ofNat _ _ (by omega) (by omega)]

theorem laneH_eq (h : ℕ) (hh : h < 4) (n : Fin 256) : IntOp.cmpi .eq (laneH (ix2 0 n)) (BitVec.ofNat 32 h) = if n.val / 64 = h then 1#1 else 0#1 := by
  have e : laneH (ix2 0 n) = fq (BitVec.ofNat 32 n.val) 64#32 := by pointwise [laneH, fdiv, fq]
  rw [e, fq64 n, eq_ofNat _ _ (by omega) (by omega)]

theorem gm_eq (r : Fin 128) (c : Fin 256) : gm (ix2 r c) = if r.val / 64 = c.val / 128 then 1#1 else 0#1 := by
  have e : gm (ix2 r c) = IntOp.cmpi .eq (fq (BitVec.ofNat 32 r.val) 64#32) (fq (BitVec.ofNat 32 c.val) 128#32) := by pointwise [gm, fdiv, fq]
  rw [e, fq64 ⟨r.val, by omega⟩, fq128, eq_ofNat _ _ (by omega) (by omega)]

theorem sub_lane : ∀ (r : Fin 128) (q : Fin 4) (b : Fin 2), IntOp.cmpi .eq (IntOp.subi (BitVec.ofNat 32 r.val) (BitVec.ofNat 32 (32 + 4 * b.val))) (BitVec.ofNat 32 q.val)
    = if r.val = 32 + 4 * b.val + q.val then 1#1 else 0#1 := by decide +kernel

/-- The lane of a column's head, for a direction. -/
def hl (b : Fin 2) (c : Fin 256) : Fin 128 := ⟨32 + 4 * b.val + c.val / 64, by omega⟩

theorem exm_eq (b : Fin 2) (r : Fin 128) (c : Fin 256) : exm (BitVec.ofNat 32 (32 + 4 * b.val)) (ix2 r c) = if r = hl b c then 1#1 else 0#1 := by
  have e : ∀ l, exm l (ix2 r c) = IntOp.cmpi .eq (IntOp.subi (BitVec.ofNat 32 r.val) l) (fq (BitVec.ofNat 32 c.val) 64#32) := by
    intro l; pointwise [exm, fdiv, fq]
  rw [e, fq64, sub_lane r ⟨c.val / 64, by omega⟩ b]
  simp only [Fin.ext_iff, hl]

theorem cmp_lane : ∀ a b : Fin 128, IntOp.cmpi .sle (BitVec.ofNat 32 a.val) (BitVec.ofNat 32 b.val) = (if a ≤ b then 1#1 else 0#1)
    ∧ IntOp.cmpi .sge (BitVec.ofNat 32 a.val) (BitVec.ofNat 32 b.val) = (if b ≤ a then 1#1 else 0#1)
    ∧ IntOp.cmpi .sgt (BitVec.ofNat 32 a.val) (BitVec.ofNat 32 b.val) = (if b < a then 1#1 else 0#1)
    ∧ IntOp.cmpi .slt (BitVec.ofNat 32 a.val) (BitVec.ofNat 32 b.val) = if a < b then 1#1 else 0#1 := by decide +kernel

theorem inclF_eq (r c : Fin 128) : inclF (ix2 r c) = if c ≤ r then 1#1 else 0#1 := by
  have e : inclF (ix2 r c) = IntOp.cmpi .sle (BitVec.ofNat 32 c.val) (BitVec.ofNat 32 r.val) := by pointwise [inclF]
  rw [e, (cmp_lane c r).1]

theorem strictF_eq (r c : Fin 128) : strictF (ix2 r c) = if c < r then 1#1 else 0#1 := by
  have e : strictF (ix2 r c) = IntOp.cmpi .sgt (BitVec.ofNat 32 r.val) (BitVec.ofNat 32 c.val) := by pointwise [strictF]
  rw [e, (cmp_lane r c).2.2.1]

/-- A head's lane carried to its columns. -/
theorem sr_head {x : FVec Ideal S128x128 .f32} {X : Fin 128 → Fin 128 → ℝ} (hx : ∀ r c, x (ix2 r c) = (X r c : EReal))
    {ex : IVec S128x256 1} {b : Fin 2} (he : ∀ r c, ex (ix2 r c) = if r = hl b c then 1#1 else 0#1) (r : Fin 128) (c : Fin 256) :
    sr x (onesW ex) (ix2 r c) = ((X r (hl b c) : ℝ) : EReal) := by
  rw [sr_up hx (onesW_up he)]
  simp

end Cert.Ssd
-- ==== Proof.SsdChunk.lean ====
module

public import proofs.«01_k».proof.Proof.SsdReal

/-! The chunk's outputs and new state on real inputs. -/

@[expose] public section

noncomputable section

namespace Cert.Ssd

open Cert.KernelIdeal Cert.KernelIdeal.Gen Idealize.ShloMosaic

/-- One group's products of pairs of tokens. -/
theorem gram_up {cf : FVec Ideal S128x128 .f32} {bm : FVec Ideal S128x128 .bf16} {C B : Fin 128 → Fin 128 → ℝ}
    (hc : ∀ r n, cf (ix2 r n) = (C r n : EReal)) (hb : ∀ r n, bm (ix2 r n) = (B r n : EReal)) (g : ℕ) (hg : g < 4) (r s : Fin 128) :
    gram (BitVec.ofNat 32 g) cf bm (ix2 r s) = ((∑ n, (if n.val / 64 = g then C r n else 0) * B s n : ℝ) : EReal) := by
  have e : gram (BitVec.ofNat 32 g) cf bm (ix2 r s) = ∑ n : Fin 128, Scalar.select (IntOp.cmpi .eq (laneG (ix2 0 n)) (BitVec.ofNat 32 g)) (cf (ix2 r n) * bm (ix2 s n)) 0 := by
    pointwise [gram]
  rw [e, up_sum]
  refine Finset.sum_congr rfl fun n _ => ?_
  rw [laneG_eq g hg, sel_if, hc, hb]
  split
  · rw [EReal.coe_mul]
  · rw [zero_mul, EReal.coe_zero]

/-- One head's masked decays. -/
theorem colm_up {strict : IVec S128x128 1} {q : Fin 128 → Fin 128 → Prop} [∀ r c, Decidable (q r c)] (hs : ∀ r c, strict (ix2 r c) = if q r c then 1#1 else 0#1)
    {c : FVec Ideal S128x1 .f32} {D : Fin 128 → ℝ} (hc : ∀ r, c (ix2 r 0) = (D r : EReal)) (r s : Fin 128) :
    colm strict c (ix2 r s) = ((if q r s then D r else 0 : ℝ) : EReal) := by
  have e : colm strict c (ix2 r s) = Scalar.select (strict (ix2 r s)) (c (ix2 r 0)) 0 := by pointwise [colm]
  rw [e, hs, sel_if, hc, ← EReal.coe_zero, up_if]

/-- The four heads' masked decays: column `128 h + s` is head `h`'s column `s`. -/
theorem cols_at (strict : IVec S128x128 1) (c : Fin 4 → FVec Ideal S128x1 .f32) (r : Fin 128) (j : Fin 512) :
    cols strict c (ix2 r j) = colm strict (c ⟨j.val / 128, by omega⟩) (ix2 r ⟨j.val % 128, by omega⟩) := by
  have h : j.val / 128 = 0 ∨ j.val / 128 = 1 ∨ j.val / 128 = 2 ∨ j.val / 128 = 3 := by omega
  have e : cols strict c (ix2 r j) = if h : j.val < 128 then colm strict (c 0) (ix2 r ⟨j.val, h⟩) else if h : j.val - 128 < 128 then colm strict (c 1) (ix2 r ⟨j.val - 128, h⟩)
      else if h : j.val - 128 - 128 < 128 then colm strict (c 2) (ix2 r ⟨j.val - 128 - 128, h⟩) else colm strict (c 3) (ix2 r ⟨j.val - 128 - 128 - 128, by omega⟩) := by
    pointwise [cols]
  rw [e]
  have hd : ∀ (a b : Fin 4) (x y : Fin 128), a = b → x = y → colm strict (c a) (ix2 r x) = colm strict (c b) (ix2 r y) := by
    rintro a _ x _ rfl rfl; rfl
  rcases h with h | h | h | h
  · rw [dif_pos (by omega)]; exact hd _ _ _ _ (Fin.ext h.symm) (Fin.ext (by simp only; omega))
  · rw [dif_neg (by omega), dif_pos (by omega)]; exact hd _ _ _ _ (Fin.ext h.symm) (Fin.ext (by simp only; omega))
  · rw [dif_neg (by omega), dif_neg (by omega), dif_pos (by omega)]; exact hd _ _ _ _ (Fin.ext h.symm) (Fin.ext (by simp only; omega))
  · rw [dif_neg (by omega), dif_neg (by omega), dif_neg (by omega)]; exact hd _ _ _ _ (Fin.ext h.symm) (Fin.ext (by simp only; omega))

theorem cols_up {strict : IVec S128x128 1} {q : Fin 128 → Fin 128 → Prop} [∀ r c, Decidable (q r c)] (hs : ∀ r c, strict (ix2 r c) = if q r c then 1#1 else 0#1)
    {c : Fin 4 → FVec Ideal S128x1 .f32} {D : Fin 4 → Fin 128 → ℝ} (hc : ∀ h r, c h (ix2 r 0) = (D h r : EReal)) (r : Fin 128) (j : Fin 512) :
    cols strict c (ix2 r j) = ((if q r ⟨j.val % 128, by omega⟩ then D ⟨j.val / 128, by omega⟩ r else 0 : ℝ) : EReal) := by
  rw [cols_at, colm_up hs (hc _)]

/-- One head's contribution. -/
theorem head_up {incl : IVec S128x128 1} {p : Fin 128 → Fin 128 → Prop} [∀ r c, Decidable (p r c)] (hi : ∀ r c, incl (ix2 r c) = if p r c then 1#1 else 0#1)
    {neg : Ideal .f32} (hn : neg = (⊥ : EReal)) (h : ℕ) (hh : h < 4) {e gr : FVec Ideal S128x128 .f32} {xdt : FVec Ideal S128x256 .f32}
    {E G : Fin 128 → Fin 128 → ℝ} {W : Fin 128 → Fin 256 → ℝ} (he : ∀ r c, e (ix2 r c) = (E r c : EReal)) (hg : ∀ r c, gr (ix2 r c) = (G r c : EReal))
    (hw : ∀ r c, xdt (ix2 r c) = (W r c : EReal)) (r : Fin 128) (c : Fin 256) :
    head incl neg (BitVec.ofNat 32 h) e gr xdt (ix2 r c)
      = ((if c.val / 64 = h then ∑ s, (G r s * if p r s then Real.exp (E r s) else 0) * W s c else 0 : ℝ) : EReal) := by
  have e1 : head incl neg (BitVec.ofNat 32 h) e gr xdt (ix2 r c) = Scalar.select (IntOp.cmpi .eq (laneH (ix2 0 c)) (BitVec.ofNat 32 h))
      (∑ s : Fin 128, (gr (ix2 r s) * Ideal.exp (Scalar.select (incl (ix2 r s)) (e (ix2 r s)) neg)) * xdt (ix2 s c)) (0 : EReal) := by
    pointwise [head]
  have e2 : ∀ s, gr (ix2 r s) * Ideal.exp (Scalar.select (incl (ix2 r s)) (e (ix2 r s)) neg) = ((G r s * (if p r s then Real.exp (E r s) else 0) : ℝ) : EReal) := by
    intro s
    rw [hi, sel_if, hg, he, hn, EReal.coe_mul]
    split
    · rw [Ideal.exp_coe]
    · congr 1
  rw [e1, laneH_eq h hh, sel_if, dot_up e2 (fun s => hw s c), ← EReal.coe_zero, up_if]

/-- The chunk's outputs, as real numbers. -/
theorem yv_up {incl strict : IVec S128x128 1} {p q : Fin 128 → Fin 128 → Prop} [∀ r c, Decidable (p r c)] [∀ r c, Decidable (q r c)]
    (hi : ∀ r c, incl (ix2 r c) = if p r c then 1#1 else 0#1) (hs : ∀ r c, strict (ix2 r c) = if q r c then 1#1 else 0#1)
    {ex : IVec S128x256 1} {b : Fin 2} (hx : ∀ r c, ex (ix2 r c) = if r = hl b c then 1#1 else 0#1) {neg : Ideal .f32} (hn : neg = (⊥ : EReal))
    {col : Fin 4 → FVec Ideal S128x1 .f32} {x st : FVec Ideal S128x256 .f32} {bm : FVec Ideal S128x128 .bf16} {cf dt da : FVec Ideal S128x128 .f32}
    {X S : Fin 128 → Fin 256 → ℝ} {B C DT DA : Fin 128 → Fin 128 → ℝ}
    (hX : ∀ r c, x (ix2 r c) = (X r c : EReal)) (hS : ∀ r c, st (ix2 r c) = (S r c : EReal)) (hB : ∀ r n, bm (ix2 r n) = (B r n : EReal))
    (hC : ∀ r n, cf (ix2 r n) = (C r n : EReal)) (hT : ∀ r i, dt (ix2 r i) = (DT r i : EReal)) (hA : ∀ r i, da (ix2 r i) = (DA r i : EReal))
    (hcol : ∀ h r, col h (ix2 r 0) = da (ix2 r ⟨32 + 4 * b.val + h.val, by omega⟩)) (r : Fin 128) (c : Fin 256) :
    yv incl strict ex neg col x bm cf dt da st (ix2 r c)
      = (((∑ s, ((∑ n : Fin 128, (if n.val / 64 = c.val / 128 then C r n else 0) * B s n)
            * (if p r s then Real.exp (∑ k, (if p r k then 1 else 0) * (if q k s then DA k (hl b c) else 0)) else 0)) * (X s c * DT s (hl b c)))
          + Real.exp (∑ k, (if p r k then 1 else 0) * DA k (hl b c)) * ∑ n, C r n * S n c : ℝ) : EReal) := by
  have hE := slW_up (ones_up hi) (cols_up hs (D := fun h r => DA r ⟨32 + 4 * b.val + h.val, by omega⟩) (fun h r => (hcol h r).trans (hA _ _)))
  have hW : ∀ r c, mulf x (sr dt (onesW ex)) (ix2 r c) = ((X r c * DT r (hl b c) : ℝ) : EReal) := by
    intro r c
    have e : mulf x (sr dt (onesW ex)) (ix2 r c) = x (ix2 r c) * sr dt (onesW ex) (ix2 r c) := by pointwise
    rw [e, hX, sr_head hT hx, EReal.coe_mul]
  have hcum := sl_up (ones_up hi) hA
  have hec : ∀ r c, exp (sl (ones incl) da) (ix2 r c) = ((Real.exp (∑ k, (if p r k then 1 else 0) * DA k c) : ℝ) : EReal) := by
    intro r c
    have e : exp (sl (ones incl) da) (ix2 r c) = Ideal.exp (sl (ones incl) da (ix2 r c)) := by pointwise
    rw [e, hcum, Ideal.exp_coe]
  have hy0 : matmul dot_S128x128_S128x256_S128x256_1_0_0_1_n_n none (truncf .bf16 cf bitsLt_bf16_f32) (truncf .bf16 st bitsLt_bf16_f32) (constant S128x256 .f32 0x00000000#32) (ix2 r c)
      = ((∑ n, C r n * S n c : ℝ) : EReal) := by
    have e : matmul dot_S128x128_S128x256_S128x256_1_0_0_1_n_n none (truncf .bf16 cf bitsLt_bf16_f32) (truncf .bf16 st bitsLt_bf16_f32) (constant S128x256 .f32 0x00000000#32) (ix2 r c)
        = ∑ n, cf (ix2 r n) * st (ix2 n c) := by pointwise
    rw [e]; exact dot_up (fun n => hC r n) fun n => hS n c
  have hsl : ∀ (o : ℕ) (ho : o < 4) (v : FVec Ideal S128x128 .f32) (hv : ∀ r c : Fin 128, v (ix2 r c) = slW (ones incl) (cols strict col) (ix2 r ⟨128 * o + c.val, by omega⟩)),
      ∀ r s : Fin 128, v (ix2 r s) = ((∑ k, (if p r k then 1 else 0) * (if q k s then DA k ⟨32 + 4 * b.val + o, by omega⟩ else 0) : ℝ) : EReal) := by
    intro o ho v hv r s
    rw [hv, hE]
    have h1 : (⟨(128 * o + s.val) % 128, by omega⟩ : Fin 128) = s := Fin.ext (by simp only; omega)
    have h2 : (128 * o + s.val) / 128 = o := by omega
    simp only [h1, h2]
  have e0 := hsl 0 (by omega) (extractStridedSlice S128x128 ![0, 0] (slW (ones incl) (cols strict col)) slices_S128x512_o0_0_S128x128) (fun r c => by pointwise)
  have e1 := hsl 1 (by omega) (extractStridedSlice S128x128 ![0, 128] (slW (ones incl) (cols strict col)) slices_S128x512_o0_128_S128x128) (fun r c => by pointwise)
  have e2 := hsl 2 (by omega) (extractStridedSlice S128x128 ![0, 256] (slW (ones incl) (cols strict col)) slices_S128x512_o0_256_S128x128) (fun r c => by pointwise)
  have e3 := hsl 3 (by omega) (extractStridedSlice S128x128 ![0, 384] (slW (ones incl) (cols strict col)) slices_S128x512_o0_384_S128x128) (fun r c => by pointwise)
  have g0 := gram_up hC hB 0 (by omega)
  have g1 := gram_up hC hB 1 (by omega)
  have t0 := head_up hi hn 0 (by omega) e0 g0 hW r c
  have t1 := head_up hi hn 1 (by omega) e1 g0 hW r c
  have t2 := head_up hi hn 2 (by omega) e2 g1 hW r c
  have t3 := head_up hi hn 3 (by omega) e3 g1 hW r c
  have ea : ∀ u v : FVec Ideal S128x256 .f32, addf u v (ix2 r c) = u (ix2 r c) + v (ix2 r c) := fun u v => by pointwise
  have em : ∀ u v : FVec Ideal S128x256 .f32, mulf u v (ix2 r c) = u (ix2 r c) * v (ix2 r c) := fun u v => by pointwise
  have ez : (broadcast S128x256 (Scalar.ofBits .f32 0x00000000#32) : FVec Ideal S128x256 .f32) (ix2 r c) = ((0 : ℝ) : EReal) := by
    rw [EReal.coe_zero]; pointwise
  unfold yv
  rw [ea, ea, ea, ea, ea, em, ez]
  erw [t0, t1, t2, t3]
  rw [hy0, sr_head hec hx, ← EReal.coe_mul]
  simp only [← EReal.coe_add]
  congr 2
  have hq : c.val / 64 = 0 ∨ c.val / 64 = 1 ∨ c.val / 64 = 2 ∨ c.val / 64 = 3 := by omega
  have hl' : ∀ h, c.val / 64 = h → ∀ hb, hl b c = ⟨32 + 4 * b.val + h, hb⟩ := fun h e _ => Fin.ext (by simp only [hl, e])
  rcases hq with h | h | h | h <;> rw [hl' _ h (by omega)] <;> simp only [h] <;>
    first
      | (rw [show c.val / 128 = 0 by omega]; norm_num; done)
      | (rw [show c.val / 128 = 1 by omega]; norm_num; done)

/-- The chunk's new state, as real numbers: `z` is the chunk's last row. -/
theorem sv_up {incl : IVec S128x128 1} {p : Fin 128 → Fin 128 → Prop} [∀ r c, Decidable (p r c)]
    (hi : ∀ r c, incl (ix2 r c) = if p r c then 1#1 else 0#1)
    {ex : IVec S128x256 1} {b : Fin 2} (hx : ∀ r c, ex (ix2 r c) = if r = hl b c then 1#1 else 0#1)
    {l : FVec Ideal S128x128 .f32 → FVec Ideal S1x128 .f32} {lw : FVec Ideal S128x256 .f32 → FVec Ideal S1x256 .f32} {z : Fin 128}
    (hl1 : ∀ v i, l v (ix2 0 i) = v (ix2 z i)) (hl2 : ∀ v i, lw v (ix2 0 i) = v (ix2 z i))
    {x st : FVec Ideal S128x256 .f32} {bm : FVec Ideal S128x128 .bf16} {dt da : FVec Ideal S128x128 .f32}
    {X S : Fin 128 → Fin 256 → ℝ} {B DT DA : Fin 128 → Fin 128 → ℝ}
    (hX : ∀ r c, x (ix2 r c) = (X r c : EReal)) (hS : ∀ r c, st (ix2 r c) = (S r c : EReal)) (hB : ∀ r n, bm (ix2 r n) = (B r n : EReal))
    (hT : ∀ r i, dt (ix2 r i) = (DT r i : EReal)) (hA : ∀ r i, da (ix2 r i) = (DA r i : EReal)) (n : Fin 128) (c : Fin 256) :
    sv incl ex l lw x bm dt da st (ix2 n c)
      = (((S n c * Real.exp (∑ k, (if p z k then 1 else 0) * DA k (hl b c)))
          + (if n.val / 64 = c.val / 128 then ∑ s, B s n * (X s c * (DT s (hl b c)
              * Real.exp ((∑ k, (if p z k then 1 else 0) * DA k (hl b c)) - ∑ k, (if p s k then 1 else 0) * DA k (hl b c)))) else 0) : ℝ) : EReal) := by
  have hcum := sl_up (ones_up hi) hA
  have hec : ∀ r c, exp (sl (ones incl) da) (ix2 r c) = ((Real.exp (∑ k, (if p r k then 1 else 0) * DA k c) : ℝ) : EReal) := by
    intro r c
    have e : exp (sl (ones incl) da) (ix2 r c) = Ideal.exp (sl (ones incl) da (ix2 r c)) := by pointwise
    rw [e, hcum, Ideal.exp_coe]
  have hw : ∀ r c, mulf dt (exp (subf (broadcastTo S128x128 (l (sl (ones incl) da)) broadcasts_S1x128_S128x128) (sl (ones incl) da))) (ix2 r c)
      = ((DT r c * Real.exp ((∑ k, (if p z k then 1 else 0) * DA k c) - ∑ k, (if p r k then 1 else 0) * DA k c) : ℝ) : EReal) := by
    intro r c
    have e : mulf dt (exp (subf (broadcastTo S128x128 (l (sl (ones incl) da)) broadcasts_S1x128_S128x128) (sl (ones incl) da))) (ix2 r c)
        = dt (ix2 r c) * Ideal.exp (l (sl (ones incl) da) (ix2 0 c) - sl (ones incl) da (ix2 r c)) := by pointwise
    rw [e, hl1, hcum, hcum, hT, ← EReal.coe_sub, Ideal.exp_coe, EReal.coe_mul]
  have hxw : ∀ r c, mulf x (sr (mulf dt (exp (subf (broadcastTo S128x128 (l (sl (ones incl) da)) broadcasts_S1x128_S128x128) (sl (ones incl) da)))) (onesW ex)) (ix2 r c)
      = ((X r c * (DT r (hl b c) * Real.exp ((∑ k, (if p z k then 1 else 0) * DA k (hl b c)) - ∑ k, (if p r k then 1 else 0) * DA k (hl b c))) : ℝ) : EReal) := by
    intro r c
    have e : ∀ u : FVec Ideal S128x256 .f32, mulf x u (ix2 r c) = x (ix2 r c) * u (ix2 r c) := fun u => by pointwise
    rw [e, hX, sr_head hw hx, ← EReal.coe_mul]
  have e : sv incl ex l lw x bm dt da st (ix2 n c)
      = st (ix2 n c) * lw (sr (exp (sl (ones incl) da)) (onesW ex)) (ix2 0 c)
        + Scalar.select (gm (ix2 n c)) (∑ s, bm (ix2 s n) * mulf x (sr (mulf dt (exp (subf (broadcastTo S128x128 (l (sl (ones incl) da)) broadcasts_S1x128_S128x128) (sl (ones incl) da)))) (onesW ex)) (ix2 s c)) (0 : EReal) := by
    unfold sv
    generalize mulf x (sr (mulf dt (exp (subf (broadcastTo S128x128 (l (sl (ones incl) da)) broadcasts_S1x128_S128x128) (sl (ones incl) da)))) (onesW ex)) = u
    generalize lw (sr (exp (sl (ones incl) da)) (onesW ex)) = w
    generalize gm = g
    pointwise
  rw [e, hl2, sr_head hec hx, hS, gm_eq, sel_if, dot_up (fun s => hB s n) (fun s => hxw s c), ← EReal.coe_zero, up_if, ← EReal.coe_mul, ← EReal.coe_add]

end Cert.Ssd
-- ==== Proof.SsdSpec.lean ====
module

public import proofs.«01_k».proof.Proof.SsdChunk

/-! What the scan computes for one sequence over the reals, token by token, and the chunk formulas' agreement with it.
A direction of time is an order of the chunk's rows. -/

@[expose] public section

noncomputable section

namespace Cert.Ssd

open Idealize.ShloMosaic

/-- The column of `c`'s group's `n`-th entry written into the state. -/
def bcol (c : Fin 256) (n : Fin 64) : Fin 512 := ⟨256 + (64 * (c.val / 128) + n.val), by omega⟩
/-- The column of `c`'s group's `n`-th entry read from the state. -/
def ccol (c : Fin 256) (n : Fin 64) : Fin 512 := ⟨384 + (64 * (c.val / 128) + n.val), by omega⟩
/-- The column of the scan's input. -/
def xcol (c : Fin 256) : Fin 512 := ⟨c.val, by omega⟩

/-- The state's entry `n` of column `c` after `t` tokens: `X` the tokens' inputs, `DT` their steps, `A` the heads' rates. -/
def HS (b : Fin 2) (X : ℕ → Fin 512 → ℝ) (DT : ℕ → Fin 128 → ℝ) (A : Fin 128 → ℝ) (c : Fin 256) (n : Fin 64) (t : ℕ) : ℝ :=
  hrec (fun t => DT t (hl b c) * A (hl b c)) (fun t => X t (bcol c n) * (X t (xcol c) * DT t (hl b c))) 0 t

/-- Token `t`'s output in column `c`. -/
def yS (b : Fin 2) (X : ℕ → Fin 512 → ℝ) (DT : ℕ → Fin 128 → ℝ) (A : Fin 128 → ℝ) (t : ℕ) (c : Fin 256) : ℝ :=
  ∑ n, X t (ccol c n) * HS b X DT A c n (t + 1)

/-- The state as the kernel keeps it: 128 rows, each column's own group's 64 holding its state and the others zero. -/
def st128 (b : Fin 2) (X : ℕ → Fin 512 → ℝ) (DT : ℕ → Fin 128 → ℝ) (A : Fin 128 → ℝ) (t : ℕ) (n : Fin 128) (c : Fin 256) : ℝ :=
  if n.val / 64 = c.val / 128 then HS b X DT A c ⟨n.val % 64, by omega⟩ t else 0

section
variable {b : Fin 2} {X : ℕ → Fin 512 → ℝ} {DT : ℕ → Fin 128 → ℝ} {A : Fin 128 → ℝ} {m : ℕ}

/-- A group's products over 128 masked lanes are its products over 64. -/
theorem grp_sum (c : Fin 256) (C B : Fin 512 → ℝ) :
    ∑ n : Fin 128, (if n.val / 64 = c.val / 128 then C ⟨384 + n.val, by omega⟩ else 0) * B ⟨256 + n.val, by omega⟩ = ∑ n, C (ccol c n) * B (bcol c n) := by
  simp only [ite_mul, zero_mul]
  exact half_sum ⟨c.val / 128, by omega⟩ fun n => C ⟨384 + n.val, by omega⟩ * B ⟨256 + n.val, by omega⟩

/-- Reading the kept state over 128 rows reads the 64 of the column's group. -/
theorem read_sum (c : Fin 256) (C : Fin 512 → ℝ) :
    ∑ n : Fin 128, C ⟨384 + n.val, by omega⟩ * st128 b X DT A m n c = ∑ n, C (ccol c n) * HS b X DT A c n m := by
  simp only [st128, mul_ite, mul_zero]
  refine (half_sum ⟨c.val / 128, by omega⟩ fun n => C ⟨384 + n.val, by omega⟩ * HS b X DT A c ⟨n.val % 64, by omega⟩ m).trans ?_
  refine Finset.sum_congr rfl fun n _ => ?_
  have : (⟨(64 * (c.val / 128) + n.val) % 64, by omega⟩ : Fin 64) = n := Fin.ext (by simp only; omega)
  simp only [this]
  rfl

/-- The state after `r` tokens of a chunk starting at `m`. -/
theorem HS_add (c : Fin 256) (n : Fin 64) (r : ℕ) :
    HS b X DT A c n (m + r) = hrec (fun i => DT (m + i) (hl b c) * A (hl b c)) (fun i => X (m + i) (bcol c n) * (X (m + i) (xcol c) * DT (m + i) (hl b c))) (HS b X DT A c n m) r :=
  hrec_add _ _ _ _ _

/-- The chunk's output formula is the token's output: row `r` is the chunk's token `o r`. -/
theorem y_real {K : ℕ} (o : Fin K ≃ Fin K) (r : Fin K) (c : Fin 256) :
    (∑ s, ((∑ n, X (m + o r) (ccol c n) * X (m + o s) (bcol c n))
          * (if o s ≤ o r then Real.exp (∑ i ∈ Finset.Ico ((o s).val + 1) ((o r).val + 1), DT (m + i) (hl b c) * A (hl b c)) else 0)) * (X (m + o s) (xcol c) * DT (m + o s) (hl b c)))
      + Real.exp (∑ i ∈ Finset.range ((o r).val + 1), DT (m + i) (hl b c) * A (hl b c)) * ∑ n, X (m + o r) (ccol c n) * HS b X DT A c n m
    = yS b X DT A (m + o r) c := by
  unfold yS
  simp only [Nat.add_assoc, HS_add]
  rw [y_chunk (K := K) (fun i => DT (m + i) (hl b c) * A (hl b c)) (fun i => X (m + i) (xcol c) * DT (m + i) (hl b c)) (fun i n => X (m + i) (bcol c n))
    (fun n => X (m + o r) (ccol c n)) (fun n => HS b X DT A c n m) (o r)]
  congr 1
  exact o.sum_comp fun s => ((∑ n, X (m + o r) (ccol c n) * X (m + s) (bcol c n))
          * (if s ≤ o r then Real.exp (∑ i ∈ Finset.Ico (s.val + 1) ((o r).val + 1), DT (m + i) (hl b c) * A (hl b c)) else 0)) * (X (m + s) (xcol c) * DT (m + s) (hl b c))

/-- The chunk's state formula is the state at the chunk's end. -/
theorem s_real {K : ℕ} (o : Fin K ≃ Fin K) (n : Fin 64) (c : Fin 256) :
    HS b X DT A c n m * Real.exp (∑ i ∈ Finset.range K, DT (m + i) (hl b c) * A (hl b c))
      + ∑ s, X (m + o s) (bcol c n) * (X (m + o s) (xcol c) * (DT (m + o s) (hl b c)
          * Real.exp ((∑ i ∈ Finset.range K, DT (m + i) (hl b c) * A (hl b c)) - ∑ i ∈ Finset.range ((o s).val + 1), DT (m + i) (hl b c) * A (hl b c))))
    = HS b X DT A c n (m + K) := by
  rw [HS_add, s_chunk K (fun i => DT (m + i) (hl b c) * A (hl b c)) (fun i => X (m + i) (xcol c) * DT (m + i) (hl b c)) (fun i => X (m + i) (bcol c n)) (HS b X DT A c n m), mul_comm]
  congr 1
  rw [o.sum_comp fun s => X (m + s) (bcol c n) * (X (m + s) (xcol c) * (DT (m + s) (hl b c)
          * Real.exp ((∑ i ∈ Finset.range K, DT (m + i) (hl b c) * A (hl b c)) - ∑ i ∈ Finset.range (s.val + 1), DT (m + i) (hl b c) * A (hl b c))))]
  refine Finset.sum_congr rfl fun s _ => ?_
  rw [ico_sub _ _ _ (by have := s.isLt; omega)]
  ring

/-- A running sum of a chunk's rows in its order. -/
theorem cum_o {K : ℕ} (o : Fin K ≃ Fin K) (d : ℕ → ℝ) (r : Fin K) :
    ∑ k, (if o k ≤ o r then 1 else 0) * d (o k) = ∑ i ∈ Finset.range ((o r).val + 1), d i :=
  (o.sum_comp fun k => (if k ≤ o r then 1 else 0) * d k).trans (cum_sum d (o r))

/-- The sum of the rows between two rows in a chunk's order. -/
theorem seg_o {K : ℕ} (o : Fin K ≃ Fin K) (d : ℕ → ℝ) (s r : Fin K) :
    ∑ k, (if o k ≤ o r then 1 else 0) * (if o s < o k then d (o k) else 0) = ∑ i ∈ Finset.Ico ((o s).val + 1) ((o r).val + 1), d i :=
  (o.sum_comp fun k => (if k ≤ o r then 1 else 0) * (if o s < k then d k else 0)).trans (seg_sum d (o s) (o r))

end

/-- The column of the inputs' part that is written into the state. -/
def bX (X : Fin 128 → Fin 512 → ℝ) (r n : Fin 128) : ℝ := X r ⟨256 + n.val, by omega⟩
/-- The column of the inputs' part that reads the state. -/
def cX (X : Fin 128 → Fin 512 → ℝ) (r n : Fin 128) : ℝ := X r ⟨384 + n.val, by omega⟩

/-- The kernel's formula for a chunk's outputs is the tokens' outputs. -/
theorem y_block (b : Fin 2) (o : Fin 128 ≃ Fin 128) (m : ℕ) (X : ℕ → Fin 512 → ℝ) (DT : ℕ → Fin 128 → ℝ) (A : Fin 128 → ℝ)
    (r : Fin 128) (c : Fin 256) :
    (∑ s, ((∑ n : Fin 128, (if n.val / 64 = c.val / 128 then X (m + o r) ⟨384 + n.val, by omega⟩ else 0) * X (m + o s) ⟨256 + n.val, by omega⟩)
          * (if o s ≤ o r then Real.exp (∑ k, (if o k ≤ o r then 1 else 0) * (if o s < o k then DT (m + o k) (hl b c) * A (hl b c) else 0)) else 0))
          * (X (m + o s) (xcol c) * DT (m + o s) (hl b c)))
      + Real.exp (∑ k, (if o k ≤ o r then 1 else 0) * (DT (m + o k) (hl b c) * A (hl b c))) * ∑ n : Fin 128, X (m + o r) ⟨384 + n.val, by omega⟩ * st128 b X DT A m n c
    = yS b X DT A (m + o r) c := by
  rw [← y_real o r c, cum_o o (fun i => DT (m + i) (hl b c) * A (hl b c)), read_sum c (X (m + o r))]
  congr 1
  refine Finset.sum_congr rfl fun s _ => ?_
  rw [seg_o o (fun i => DT (m + i) (hl b c) * A (hl b c)), grp_sum c (X (m + o r)) (X (m + o s))]

/-- The kernel's formula for a chunk's new state is the state at its end. -/
theorem s_block (b : Fin 2) (o : Fin 128 ≃ Fin 128) (m : ℕ) (X : ℕ → Fin 512 → ℝ) (DT : ℕ → Fin 128 → ℝ) (A : Fin 128 → ℝ)
    (z : Fin 128) (hz : (o z).val = 127) (n : Fin 128) (c : Fin 256) :
    (st128 b X DT A m n c * Real.exp (∑ k, (if o k ≤ o z then 1 else 0) * (DT (m + o k) (hl b c) * A (hl b c))))
      + (if n.val / 64 = c.val / 128 then ∑ s, X (m + o s) ⟨256 + n.val, by omega⟩ * (X (m + o s) (xcol c) * (DT (m + o s) (hl b c)
          * Real.exp ((∑ k, (if o k ≤ o z then 1 else 0) * (DT (m + o k) (hl b c) * A (hl b c))) - ∑ k, (if o k ≤ o s then 1 else 0) * (DT (m + o k) (hl b c) * A (hl b c))))) else 0)
    = st128 b X DT A (m + 128) n c := by
  simp only [cum_o o (fun i => DT (m + i) (hl b c) * A (hl b c)), hz]
  unfold st128
  split
  · rename_i h
    rw [← s_real (K := 128) o]
    congr 1
    refine Finset.sum_congr rfl fun s _ => ?_
    have : bcol c ⟨n.val % 64, by omega⟩ = ⟨256 + n.val, by omega⟩ := Fin.ext (by simp only [bcol]; omega)
    rw [this]
  · simp

end Cert.Ssd
-- ==== Proof.SsdCum.lean ====
module

public import proofs.«01_k».proof.Proof.SsdReal
public import proofs.«01_k».proof.Proof.Gen.ReferenceIdeal.Step

/-! A chunk's running sums as the reference takes them. -/

@[expose] public section

noncomputable section

namespace Cert.Ssd.Ref

open Cert.ReferenceIdeal Cert.ReferenceIdeal.Gen Idealize.ShloMosaic Idealize.ShloMosaic.TcCoe

/-- The running sums along the last axis: a window of 64, padded 63 low. -/
def cum (x : FVec Ideal S6x4x64 .f32) : FVec Ideal S6x4x64 .f32 :=
  Host.reduceWindowAdd ![1, 1, 64] ![1, 1, 1] ![0, 0, 63] ![0, 0, 0] x (broadcastInDim S_ ![] bcast_S_S_ (constant S_ .f32 0x00000000#32)) reduceWindows_S6x4x64_S6x4x64_w1s1p0_0_w1s1p0_0_w64s1p63_0 h_S_

/-- A left fold of sums of real numbers is their sum. -/
theorem foldl_up {ι : Type*} (l : List ι) (F : EReal → ι → EReal) (f : ι → ℝ) (h : ∀ r n, F r n = r + (f n : EReal)) (z : ℝ) :
    l.foldl F (z : EReal) = ((z + (l.map f).sum : ℝ) : EReal) := by
  induction l generalizing z with
  | nil => simp
  | cons a l ih => rw [List.foldl_cons, h, ← EReal.coe_add, ih, List.map_cons, List.sum_cons, add_assoc]

/-- The window: one row of 64. -/
abbrev W : Shape := ⟨3, ![1, 1, 64]⟩

theorem W_numel : W.numel = 64 := by decide +kernel

/-- Position `n` of the window lies at the last coordinate `n`. -/
theorem W_symm (n : Fin W.numel) : (W.rowMajor.symm n 0).val = 0 ∧ (W.rowMajor.symm n 1).val = 0 ∧ (W.rowMajor.symm n 2).val = n.val := by
  have h := rowMajor_val3 (d := ![1, 1, 64]) (W.rowMajor.symm n) 64 64 rfl rfl
  rw [Equiv.apply_symm_apply] at h
  have h0 : (W.rowMajor.symm n 0).val < 1 := (W.rowMajor.symm n 0).isLt
  have h1 : (W.rowMajor.symm n 1).val < 1 := (W.rowMajor.symm n 1).isLt
  omega

/-- The running sums of real numbers. -/
theorem cum_up {x : FVec Ideal S6x4x64 .f32} (s : Fin 6) (h : Fin 4) {f : Fin 64 → ℝ} (hx : ∀ t, x (ix3 s h t) = (f t : EReal)) (t : Fin 64) :
    cum x (ix3 s h t) = ((∑ k : Fin 64, (if k ≤ t then 1 else 0) * f k : ℝ) : EReal) := by
  unfold cum Host.reduceWindowAdd
  rw [Ideal.hostReduceWindowAdd_def]
  unfold Ideal.hostReduceWindowAdd Host.reduceWindow
  have hz : (broadcastInDim S_ ![] bcast_S_S_ (constant (F := Ideal) S_ .f32 0x00000000#32)) (Shape.Idx.first h_S_) = ((0 : ℝ) : EReal) := by
    pointwise; exact EReal.coe_zero.symm
  dsimp only
  rw [hz]
  refine (foldl_up _ _ (fun n : Fin W.numel => if hn : 63 ≤ t.val + n.val then f ⟨t.val + n.val - 63, by have := lt_of_lt_of_eq n.isLt W_numel; omega⟩ else 0) (fun r n => ?_) 0).trans ?_
  · obtain ⟨w0, w1, w2⟩ := W_symm n
    have hn : n.val < 64 := lt_of_lt_of_eq n.isLt W_numel
    refine congrArg (r + ·) ?_
    split
    · next hin =>
      have h2 := hin 2
      change 63 ≤ t.val * 1 + (W.rowMajor.symm n 2).val ∧ _ at h2
      rw [dif_pos (by omega), ← hx]
      refine congrArg x (funext fun a => Fin.ext ?_)
      match a with
      | ⟨0, _⟩ => show s.val * 1 + (W.rowMajor.symm n 0).val - 0 = s.val; omega
      | ⟨1, _⟩ => show h.val * 1 + (W.rowMajor.symm n 1).val - 0 = h.val; omega
      | ⟨2, _⟩ => show t.val * 1 + (W.rowMajor.symm n 2).val - 63 = t.val + n.val - 63; omega
    · next hin =>
      rw [dif_neg fun hle => hin fun a => by
        match a with
        | ⟨0, _⟩ => show 0 ≤ s.val * 1 + (W.rowMajor.symm n 0).val ∧ s.val * 1 + (W.rowMajor.symm n 0).val - 0 < 6; omega
        | ⟨1, _⟩ => show 0 ≤ h.val * 1 + (W.rowMajor.symm n 1).val ∧ h.val * 1 + (W.rowMajor.symm n 1).val - 0 < 4; omega
        | ⟨2, _⟩ => show 63 ≤ t.val * 1 + (W.rowMajor.symm n 2).val ∧ t.val * 1 + (W.rowMajor.symm n 2).val - 63 < 64; omega]
  · rw [zero_add, ← Fin.sum_univ_def, ← (finCongr W_numel.symm).sum_comp]
    refine congrArg _ (Eq.trans (Finset.sum_congr rfl fun n _ => ?_) (Equiv.sum_comp (Equiv.addRight (t + 1)) fun k => (if k ≤ t then 1 else 0) * f k))
    have hv : (n + (t + 1) : Fin 64).val = (n.val + t.val + 1) % 64 := by simp only [Fin.val_add]; show (n.val + (t.val + 1) % 64) % 64 = _; omega
    show (if hn : 63 ≤ t.val + n.val then f ⟨t.val + n.val - 63, _⟩ else 0) = (if n + (t + 1) ≤ t then 1 else 0) * f (n + (t + 1))
    by_cases hc : 63 ≤ t.val + n.val
    · rw [dif_pos hc, if_pos (by rw [Fin.le_def, hv]; omega), one_mul]
      exact congrArg _ (Fin.ext (by rw [hv]; show t.val + n.val - 63 = _; omega))
    · rw [dif_neg hc, if_neg (by rw [Fin.le_def, hv]; omega), zero_mul]

end Cert.Ssd.Ref
-- ==== Proof.SsdRefStep.lean ====
module

public import proofs.«01_k».proof.Proof.SsdSpec
public import proofs.«01_k».proof.Proof.SsdCum
public import Idealize.ShloMosaic.Lib.DynamicIndex

/-! One trip of the reference's loop over chunks of 64 tokens: the chunk's outputs and the state at its end. -/

@[expose] public section

noncomputable section

namespace Cert.Ssd.Ref

open Cert.ReferenceIdeal Cert.ReferenceIdeal.Gen Idealize.ShloMosaic Idealize.ShloMosaic.TcCoe

/-- The slot of a trip. -/
def slot (j : IVec S_ 32) : Fin 5 → Int :=
  fun k => (((![j, constantI S_ 32 0#32, constantI S_ 32 0#32, constantI S_ 32 0#32, constantI S_ 32 0#32] : Fin 5 → IVec S_ 32)) k (Shape.Idx.first h_S_)).toInt

/-- A chunk of one of the loop's inputs. -/
def pick (xs : FVec Ideal S128x6x4x64x64 .f32) (j : IVec S_ 32) : FVec Ideal S6x4x64x64 .f32 :=
  shapeCast S6x4x64x64 (Host.dynamicSlice S1x6x4x64x64 xs (slot j) sliceFits_S128x6x4x64x64_S1x6x4x64x64) shapeCasts_S1x6x4x64x64_S6x4x64x64

/-- A chunk's steps. -/
def pickD (ds : FVec Ideal S128x6x4x64x1 .f32) (j : IVec S_ 32) : FVec Ideal S6x4x64 .f32 :=
  shapeCast S6x4x64 (shapeCast S6x4x64x1 (Host.dynamicSlice S1x6x4x64x1 ds (slot j) sliceFits_S128x6x4x64x1_S1x6x4x64x1) shapeCasts_S1x6x4x64x1_S6x4x64x1) shapeCasts_S6x4x64x1_S6x4x64

/-- The steps' decays. -/
def rate (d : FVec Ideal S6x4x64 .f32) (A : FVec Ideal S4 .f32) : FVec Ideal S6x4x64 .f32 :=
  mulf d (broadcastInDim S6x4x64 ![0, 1, 2] bcast_S1x4x1_S6x4x64_0_1_2 (broadcastInDim S1x4x1 ![1, 2] bcast_S4x1_S1x4x1_1_2 (broadcastInDim S4x1 ![0] bcast_S4_S4x1_0 A)))

/-- A value per row, along the columns. -/
def rows (v : FVec Ideal S6x4x64 .f32) : FVec Ideal S6x4x64x64 .f32 :=
  broadcastInDim S6x4x64x64 ![0, 1, 2, 3] bcast_S6x4x64x1_S6x4x64x64_0_1_2_3 (broadcastInDim S6x4x64x1 ![0, 1, 2] bcast_S6x4x64_S6x4x64x1_0_1_2 v)

/-- The chunk's inputs with the steps. -/
def xdt (x : FVec Ideal S6x4x64x64 .f32) (d : FVec Ideal S6x4x64 .f32) : FVec Ideal S6x4x64x64 .f32 := mulf x (rows d)

/-- The decays between the chunk's rows, zero above the diagonal. -/
def seg (g : FVec Ideal S6x4x64 .f32) (mask : IVec S64x64 1) : FVec Ideal S6x4x64x64 .f32 :=
  select (broadcastInDim S6x4x64x64 ![2, 3] bcast_S64x64_S6x4x64x64_2_3 mask)
    (Host.exp (select (broadcastInDim S6x4x64x64 ![2, 3] bcast_S64x64_S6x4x64x64_2_3 mask)
      (subf (rows g) (broadcastInDim S6x4x64x64 ![0, 1, 2, 3] bcast_S6x4x1x64_S6x4x64x64_0_1_2_3 (broadcastInDim S6x4x1x64 ![0, 1, 3] bcast_S6x4x64_S6x4x1x64_0_1_3 g)))
      (broadcastInDim S6x4x64x64 ![] bcast_S_S6x4x64x64 (id (constant S_ .f32 0x00000000#32)))))
    (broadcastInDim S6x4x64x64 ![] bcast_S_S6x4x64x64 (id (constant S_ .f32 0x00000000#32)))

/-- The chunk's outputs. -/
def yR (C B xd S : FVec Ideal S6x4x64x64 .f32) (g : FVec Ideal S6x4x64 .f32) (mask : IVec S64x64 1) : FVec Ideal S6x4x64x64 .f32 :=
  addf (Host.dotGeneral dot_S6x4x64x64_S6x4x64x64_S6x4x64x64_3_2_2_3_01_01 none
      (mulf (Host.dotGeneral dot_S6x4x64x64_S6x4x64x64_S6x4x64x64_3_3_2_2_01_01 none C B) (seg g mask)) xd)
    (Host.dotGeneral dot_S6x4x64x64_S6x4x64x64_S6x4x64x64_3_2_2_3_01_01 none (mulf C (rows (Host.exp g))) S)

/-- The state at the chunk's end. -/
def sR (B xd S : FVec Ideal S6x4x64x64 .f32) (g : FVec Ideal S6x4x64 .f32) : FVec Ideal S6x4x64x64 .f32 :=
  addf (mulf (broadcastInDim S6x4x64x64 ![0, 1, 2, 3] bcast_S6x4x1x1_S6x4x64x64_0_1_2_3 (broadcastInDim S6x4x1x1 ![0, 1] bcast_S6x4_S6x4x1x1_0_1 (Host.exp (shapeCast S6x4 (extractStridedSlice S6x4x1 ![0, 0, 63] g slices_S6x4x64_S6x4x1_0_0_63) shapeCasts_S6x4x1_S6x4)))) S)
    (Host.dotGeneral dot_S6x4x64x64_S6x4x64x64_S6x4x64x64_2_2_3_3_01_01 none
      (mulf B (rows (Host.exp (subf (broadcastInDim S6x4x64 ![0, 1, 2] bcast_S6x4x1_S6x4x64_0_1_2 (extractStridedSlice S6x4x1 ![0, 0, 63] g slices_S6x4x64_S6x4x1_0_0_63)) g)))) xd)

/-- The outputs with a trip's chunk written. -/
def put (ys : FVec Ideal S128x6x4x64x64 .f32) (j : IVec S_ 32) (y : FVec Ideal S6x4x64x64 .f32) : FVec Ideal S128x6x4x64x64 .f32 :=
  Host.dynamicUpdateSlice ys (broadcastInDim S1x6x4x64x64 ![1, 2, 3, 4] bcast_S6x4x64x64_S1x6x4x64x64_1_2_3_4 y) (slot j) updateFits_S128x6x4x64x64_S1x6x4x64x64

theorem slot_at (n : ℕ) (hn : n < 128) : ∀ a, slot (fun _ => BitVec.ofNat 32 n) a = ((![n, 0, 0, 0, 0] : Fin 5 → ℕ) a : Int) := by
  intro a
  have h : (BitVec.ofNat 32 n).toInt = n := by
    have e : (BitVec.ofNat 32 n).toNat = n := by rw [BitVec.toNat_ofNat]; omega
    rw [BitVec.toInt_eq_toNat_of_lt (by rw [e]; omega), e]
  match a with
  | ⟨0, _⟩ => exact h
  | ⟨1, _⟩ => rfl
  | ⟨2, _⟩ => rfl
  | ⟨3, _⟩ => rfl
  | ⟨4, _⟩ => rfl

theorem pick_at (xs : FVec Ideal S128x6x4x64x64 .f32) (n : ℕ) (hn : n < 128) (s : Fin 6) (h : Fin 4) (r c : Fin 64) :
    pick xs (fun _ => BitVec.ofNat 32 n) (ix4 s h r c) = xs (ix5 ⟨n, hn⟩ s h r c) := by
  have hk : S128x6x4x64x64.Slices (![n, 0, 0, 0, 0] : Fin 5 → ℕ) S1x6x4x64x64 := ⟨rfl, fun a => by
    match a with
    | ⟨0, _⟩ => show n + 1 ≤ 128; omega
    | ⟨1, _⟩ => show 0 + 6 ≤ 6; omega
    | ⟨2, _⟩ => show 0 + 4 ≤ 4; omega
    | ⟨3, _⟩ => show 0 + 64 ≤ 64; omega
    | ⟨4, _⟩ => show 0 + 64 ≤ 64; omega⟩
  unfold pick
  rw [Host.dynamicSlice_eq_extractStridedSlice _ _ _ _ _ hk (slot_at n hn)]
  pointwise

theorem pickD_at (ds : FVec Ideal S128x6x4x64x1 .f32) (n : ℕ) (hn : n < 128) (s : Fin 6) (h : Fin 4) (r : Fin 64) :
    pickD ds (fun _ => BitVec.ofNat 32 n) (ix3 s h r) = ds (ix5 ⟨n, hn⟩ s h r 0) := by
  have hk : S128x6x4x64x1.Slices (![n, 0, 0, 0, 0] : Fin 5 → ℕ) S1x6x4x64x1 := ⟨rfl, fun a => by
    match a with
    | ⟨0, _⟩ => show n + 1 ≤ 128; omega
    | ⟨1, _⟩ => show 0 + 6 ≤ 6; omega
    | ⟨2, _⟩ => show 0 + 4 ≤ 4; omega
    | ⟨3, _⟩ => show 0 + 64 ≤ 64; omega
    | ⟨4, _⟩ => show 0 + 1 ≤ 1; omega⟩
  unfold pickD
  rw [Host.dynamicSlice_eq_extractStridedSlice _ _ _ _ _ hk (slot_at n hn)]
  pointwise

theorem put_at (ys : FVec Ideal S128x6x4x64x64 .f32) (n : ℕ) (hn : n < 128) (y : FVec Ideal S6x4x64x64 .f32) (m : Fin 128) (s : Fin 6) (h : Fin 4) (r c : Fin 64) :
    put ys (fun _ => BitVec.ofNat 32 n) y (ix5 m s h r c) = if m.val = n then y (ix4 s h r c) else ys (ix5 m s h r c) := by
  have hcl : ∀ a, Host.clampedStart S128x6x4x64x64 S1x6x4x64x64 updateFits_S128x6x4x64x64_S1x6x4x64x64.1 (slot fun _ => BitVec.ofNat 32 n) a = (![n, 0, 0, 0, 0] : Fin 5 → ℕ) a := fun a =>
    Host.clampedStart_of_le _ _ a _ (slot_at n hn a) (by
      match a with
      | ⟨0, _⟩ => show n + 1 ≤ 128; omega
      | ⟨1, _⟩ => show 0 + 6 ≤ 6; omega
      | ⟨2, _⟩ => show 0 + 4 ≤ 4; omega
      | ⟨3, _⟩ => show 0 + 64 ≤ 64; omega
      | ⟨4, _⟩ => show 0 + 64 ≤ 64; omega)
  unfold put
  rw [Host.dynamicUpdateSlice_apply]
  by_cases hm : m.val = n
  · rw [if_pos hm, dif_pos fun a => by
      rw [hcl]
      match a with
      | ⟨0, _⟩ => show n ≤ m.val ∧ m.val < n + 1; omega
      | ⟨1, _⟩ => show 0 ≤ s.val ∧ s.val < 0 + 6; omega
      | ⟨2, _⟩ => show 0 ≤ h.val ∧ h.val < 0 + 4; omega
      | ⟨3, _⟩ => show 0 ≤ r.val ∧ r.val < 0 + 64; omega
      | ⟨4, _⟩ => show 0 ≤ c.val ∧ c.val < 0 + 64; omega]
    have e : ∀ z : S1x6x4x64x64.Idx, (z 1).val = s.val → (z 2).val = h.val → (z 3).val = r.val → (z 4).val = c.val →
        broadcastInDim S1x6x4x64x64 ![1, 2, 3, 4] bcast_S6x4x64x64_S1x6x4x64x64_1_2_3_4 y z = y (ix4 s h r c) := by
      intro z h1 h2 h3 h4
      refine congrArg y (funext fun a => Fin.ext ?_)
      match a with
      | ⟨0, _⟩ => exact h1
      | ⟨1, _⟩ => exact h2
      | ⟨2, _⟩ => exact h3
      | ⟨3, _⟩ => exact h4
    refine e _ ?_ ?_ ?_ ?_
    · show s.val - _ = s.val; rw [hcl]; rfl
    · show h.val - _ = h.val; rw [hcl]; rfl
    · show r.val - _ = r.val; rw [hcl]; rfl
    · show c.val - _ = c.val; rw [hcl]; rfl
  · rw [if_neg hm, dif_neg fun hin => hm (by
      have := hin 0
      rw [hcl] at this
      change n ≤ m.val ∧ m.val < n + 1 at this
      omega)]

section
variable {C B x S : FVec Ideal S6x4x64x64 .f32} {d : FVec Ideal S6x4x64 .f32} {a : FVec Ideal S4 .f32} {mask : IVec S64x64 1}

theorem rows_at (v : FVec Ideal S6x4x64 .f32) (s : Fin 6) (h : Fin 4) (r c : Fin 64) : rows v (ix4 s h r c) = v (ix3 s h r) := by pointwise [rows]

theorem exp3 (v : FVec Ideal S6x4x64 .f32) (s : Fin 6) (h : Fin 4) (r : Fin 64) (z : ℝ) (hv : v (ix3 s h r) = (z : EReal)) : Host.exp v (ix3 s h r) = ((Real.exp z : ℝ) : EReal) := by
  have e : Host.exp v (ix3 s h r) = Ideal.exp (v (ix3 s h r)) := by pointwise
  rw [e, hv, Ideal.exp_coe]

theorem dotCB (C B : FVec Ideal S6x4x64x64 .f32) (s : Fin 6) (h : Fin 4) (r c : Fin 64) :
    Host.dotGeneral dot_S6x4x64x64_S6x4x64x64_S6x4x64x64_3_3_2_2_01_01 none C B (ix4 s h r c) = ∑ k : Fin 64, C (ix4 s h r k) * B (ix4 s h c k) := by pointwise

theorem dotRX (C B : FVec Ideal S6x4x64x64 .f32) (s : Fin 6) (h : Fin 4) (r c : Fin 64) :
    Host.dotGeneral dot_S6x4x64x64_S6x4x64x64_S6x4x64x64_3_2_2_3_01_01 none C B (ix4 s h r c) = ∑ k : Fin 64, C (ix4 s h r k) * B (ix4 s h k c) := by pointwise

theorem dotTX (C B : FVec Ideal S6x4x64x64 .f32) (s : Fin 6) (h : Fin 4) (r c : Fin 64) :
    Host.dotGeneral dot_S6x4x64x64_S6x4x64x64_S6x4x64x64_2_2_3_3_01_01 none C B (ix4 s h r c) = ∑ k : Fin 64, C (ix4 s h k r) * B (ix4 s h k c) := by pointwise

theorem rate_at (d : FVec Ideal S6x4x64 .f32) (a : FVec Ideal S4 .f32) (s : Fin 6) (h : Fin 4) (r : Fin 64) : rate d a (ix3 s h r) = d (ix3 s h r) * a (ix1 h) := by pointwise [rate]

theorem seg_at (g : FVec Ideal S6x4x64 .f32) (mask : IVec S64x64 1) (s : Fin 6) (h : Fin 4) (r c : Fin 64) :
    seg g mask (ix4 s h r c) = if mask (ix2 r c) = 1#1 then Ideal.exp (if mask (ix2 r c) = 1#1 then g (ix3 s h r) - g (ix3 s h c) else 0) else 0 := by
  have z : constant (F := Ideal) S_ .f32 0x00000000#32 ix0 = 0 := by pointwise
  pointwise [seg, rows]
  simp only [id, z, Scalar.select]
  rfl

theorem sR_at (B xd S : FVec Ideal S6x4x64x64 .f32) (g : FVec Ideal S6x4x64 .f32) (s : Fin 6) (h : Fin 4) (r c : Fin 64) :
    sR B xd S g (ix4 s h r c) = Ideal.exp (g (ix3 s h 63)) * S (ix4 s h r c) + ∑ k : Fin 64, B (ix4 s h k r) * Ideal.exp (g (ix3 s h 63) - g (ix3 s h k)) * xd (ix4 s h k c) := by
  pointwise [sR, rows]

theorem yR_at (C B xd S : FVec Ideal S6x4x64x64 .f32) (g : FVec Ideal S6x4x64 .f32) (mask : IVec S64x64 1) (s : Fin 6) (h : Fin 4) (r c : Fin 64) :
    yR C B xd S g mask (ix4 s h r c) = (∑ k : Fin 64, ((∑ n : Fin 64, C (ix4 s h r n) * B (ix4 s h k n)) * seg g mask (ix4 s h r k)) * xd (ix4 s h k c))
      + ∑ n : Fin 64, (C (ix4 s h r n) * Ideal.exp (g (ix3 s h r))) * S (ix4 s h n c) := by
  pointwise [yR, rows]

end

section
variable {b : Fin 2} {X : ℕ → Fin 512 → ℝ} {DT : ℕ → Fin 128 → ℝ} {A : Fin 128 → ℝ} {m : ℕ}
  {C B x S : FVec Ideal S6x4x64x64 .f32} {d g : FVec Ideal S6x4x64 .f32} {a : FVec Ideal S4 .f32} {mask : IVec S64x64 1}
  (s : Fin 6) (h : Fin 4) (p : Fin 64) (c : Fin 256)

/-- The running decays over the reals. -/
theorem g_up (hd : ∀ r : Fin 64, d (ix3 s h r) = (DT (m + r) (hl b c) : EReal)) (ha : a (ix1 h) = (A (hl b c) : EReal)) (r : Fin 64) :
    cum (rate d a) (ix3 s h r) = ((∑ i ∈ Finset.range (r.val + 1), DT (m + i) (hl b c) * A (hl b c) : ℝ) : EReal) := by
  rw [cum_up s h (f := fun r => DT (m + r) (hl b c) * A (hl b c)) (fun r => by rw [rate_at, hd, ha, EReal.coe_mul]) r]
  exact congrArg _ (cum_sum (fun i => DT (m + i) (hl b c) * A (hl b c)) r)

theorem xdt_up (hx : ∀ r : Fin 64, x (ix4 s h r p) = (X (m + r) (xcol c) : EReal)) (hd : ∀ r : Fin 64, d (ix3 s h r) = (DT (m + r) (hl b c) : EReal)) (r : Fin 64) :
    xdt x d (ix4 s h r p) = ((X (m + r) (xcol c) * DT (m + r) (hl b c) : ℝ) : EReal) := by
  have e : xdt x d (ix4 s h r p) = x (ix4 s h r p) * d (ix3 s h r) := by pointwise [xdt, rows]
  rw [e, hx, hd, EReal.coe_mul]

theorem seg_up (hm : ∀ r c, mask (ix2 r c) = if c ≤ r then 1#1 else 0#1)
    (hg : ∀ r : Fin 64, g (ix3 s h r) = ((∑ i ∈ Finset.range (r.val + 1), DT (m + i) (hl b c) * A (hl b c) : ℝ) : EReal)) (r k : Fin 64) :
    seg g mask (ix4 s h r k) = ((if k ≤ r then Real.exp (∑ i ∈ Finset.Ico (k.val + 1) (r.val + 1), DT (m + i) (hl b c) * A (hl b c)) else 0 : ℝ) : EReal) := by
  rw [seg_at, hm]
  by_cases hk : k ≤ r
  · rw [if_pos hk, if_pos rfl, if_pos rfl, if_pos hk, hg, hg, ← EReal.coe_sub, Ideal.exp_coe]
    rw [Finset.sum_Ico_eq_sub _ (Nat.succ_le_succ (Fin.le_def.mp hk))]
  · rw [if_neg hk, if_neg (by decide), if_neg hk, EReal.coe_zero]

variable (hC : ∀ (r : Fin 64) n, C (ix4 s h r n) = (X (m + r) (ccol c n) : EReal)) (hB : ∀ (r : Fin 64) n, B (ix4 s h r n) = (X (m + r) (bcol c n) : EReal))
  (hx : ∀ r : Fin 64, x (ix4 s h r p) = (X (m + r) (xcol c) : EReal)) (hd : ∀ r : Fin 64, d (ix3 s h r) = (DT (m + r) (hl b c) : EReal))
  (ha : a (ix1 h) = (A (hl b c) : EReal)) (hS : ∀ n, S (ix4 s h n p) = (HS b X DT A c n m : EReal))

include hC hB hx hd ha hS in
/-- A chunk's outputs over the reals are the tokens' outputs. -/
theorem yR_up (hm : ∀ r c, mask (ix2 r c) = if c ≤ r then 1#1 else 0#1) (r : Fin 64) :
    yR C B (xdt x d) S (cum (rate d a)) mask (ix4 s h r p) = (yS b X DT A (m + r) c : EReal) := by
  have hg := g_up s h c hd ha
  rw [yR_at, hg, Ideal.exp_coe]
  rw [dot_up (F := fun k : Fin 64 => (∑ n, X (m + r) (ccol c n) * X (m + k) (bcol c n)) * (if k ≤ r then Real.exp (∑ i ∈ Finset.Ico (k.val + 1) (r.val + 1), DT (m + i) (hl b c) * A (hl b c)) else 0))
      (fun k => by rw [dot_up (hC r) (hB k), seg_up s h c hm hg, EReal.coe_mul]) (xdt_up s h p c hx hd),
    dot_up (fun n => by rw [hC, ← EReal.coe_mul]) hS, ← EReal.coe_add]
  refine congrArg _ (Eq.trans ?_ (y_real (b := b) (X := X) (DT := DT) (A := A) (m := m) (Equiv.refl (Fin 64)) r c))
  rw [Finset.mul_sum]
  exact congrArg₂ (· + ·) rfl (Finset.sum_congr rfl fun n _ => by simp only [Equiv.refl_apply]; ring)

include hB hx hd ha hS in
/-- A chunk's end state over the reals is the state after its tokens. -/
theorem sR_up (n : Fin 64) : sR B (xdt x d) S (cum (rate d a)) (ix4 s h n p) = (HS b X DT A c n (m + 64) : EReal) := by
  have hg := g_up s h c hd ha
  rw [sR_at, hg, Ideal.exp_coe, hS, ← EReal.coe_mul]
  rw [dot_up (fun k => by rw [hB, hg, ← EReal.coe_sub, Ideal.exp_coe, ← EReal.coe_mul]) (xdt_up s h p c hx hd), ← EReal.coe_add]
  refine congrArg _ (Eq.trans ?_ (s_real (b := b) (X := X) (DT := DT) (A := A) (m := m) (Equiv.refl (Fin 64)) n c))
  refine congrArg₂ (· + ·) (mul_comm _ _) (Finset.sum_congr rfl fun k _ => ?_)
  simp only [Equiv.refl_apply]
  show X (m + k) (bcol c n) * Real.exp (∑ i ∈ Finset.range 64, _ - _) * _ = _
  ring

end

end Cert.Ssd.Ref
-- ==== Proof.SsdRefLoop.lean ====
module

public import proofs.«01_k».proof.Proof.SsdRefStep

/-! The reference's loop: after `n` trips the state after `64 n` tokens and the outputs of the chunks before. -/

@[expose] public section

noncomputable section

namespace Cert.Ssd.Ref

open Cert.ReferenceIdeal Cert.ReferenceIdeal.Gen Idealize.ShloMosaic Idealize.ShloMosaic.TcCoe

/-- A head's column. -/
def cc (h : Fin 4) (p : Fin 64) : Fin 256 := ⟨64 * h.val + p.val, by omega⟩

/-- A head's lane. -/
def hh (b : Fin 2) (h : Fin 4) : Fin 128 := ⟨32 + 4 * b.val + h.val, by omega⟩

theorem hl_cc (b : Fin 2) (h : Fin 4) (p : Fin 64) : hl b (cc h p) = hh b h := by
  apply Fin.ext; simp only [hl, cc, hh]; omega

section
variable (b : Fin 2) (X : Fin 6 → ℕ → Fin 512 → ℝ) (DT : Fin 6 → ℕ → Fin 128 → ℝ) (A : Fin 128 → ℝ)
  (x : FVec Ideal S128x6x4x64x64 .f32) (ds : FVec Ideal S128x6x4x64x1 .f32) (B C : FVec Ideal S128x6x4x64x64 .f32) (a : FVec Ideal S4 .f32) (mask : IVec S64x64 1)

/-- The loop's inputs are the tokens, by chunks of 64. -/
structure Chunks : Prop where
  hx : ∀ (n : Fin 128) s h (r p : Fin 64), x (ix5 n s h r p) = (X s (64 * n + r) (xcol (cc h p)) : EReal)
  hd : ∀ (n : Fin 128) s h (r : Fin 64), ds (ix5 n s h r 0) = (DT s (64 * n + r) (hh b h) : EReal)
  hB : ∀ (n : Fin 128) s h (r k p : Fin 64), B (ix5 n s h r k) = (X s (64 * n + r) (bcol (cc h p) k) : EReal)
  hC : ∀ (n : Fin 128) s h (r k p : Fin 64), C (ix5 n s h r k) = (X s (64 * n + r) (ccol (cc h p) k) : EReal)
  ha : ∀ h, a (ix1 h) = (A (hh b h) : EReal)
  hm : ∀ r c, mask (ix2 r c) = if c ≤ r then 1#1 else 0#1

/-- The word of a trip. -/
abbrev wd (n : ℕ) : IVec S_ 32 := fun _ => BitVec.ofNat 32 n

variable {b X DT A x ds B C a mask}

/-- The loop over its trips. -/
theorem loop (H : Chunks b X DT A x ds B C a mask) (S : ℕ → FVec Ideal S6x4x64x64 .f32) (Y : ℕ → FVec Ideal S128x6x4x64x64 .f32)
    (h0 : ∀ s h k p, S 0 (ix4 s h k p) = 0)
    (hS : ∀ n < 128, S (n + 1) = sR (pick B (wd n)) (xdt (pick x (wd n)) (pickD ds (wd n))) (S n) (cum (rate (pickD ds (wd n)) a)))
    (hY : ∀ n < 128, Y (n + 1) = put (Y n) (wd n) (yR (pick C (wd n)) (pick B (wd n)) (xdt (pick x (wd n)) (pickD ds (wd n))) (S n) (cum (rate (pickD ds (wd n)) a)) mask))
    (n : ℕ) (hn : n ≤ 128) :
    (∀ s h k p, S n (ix4 s h k p) = (HS b (X s) (DT s) A (cc h p) k (64 * n) : EReal))
    ∧ ∀ (m : Fin 128), m.val < n → ∀ s h (r p : Fin 64), Y n (ix5 m s h r p) = (yS b (X s) (DT s) A (64 * m + r) (cc h p) : EReal) := by
  induction n with
  | zero => exact ⟨fun s h k p => (h0 s h k p).trans EReal.coe_zero.symm, fun m hm => absurd hm (Nat.not_lt_zero _)⟩
  | succ n ih =>
    obtain ⟨iS, iY⟩ := ih (by omega)
    have hn' : n < 128 := by omega
    have hx := fun s h p (r : Fin 64) => (pick_at x n hn' s h r p).trans (H.hx ⟨n, hn'⟩ s h r p)
    have hd := fun s h (p r : Fin 64) => (pickD_at ds n hn' s h r).trans ((H.hd ⟨n, hn'⟩ s h r).trans (congrArg (fun i => (DT s (64 * n + r) i : EReal)) (hl_cc b h p).symm))
    have hB := fun s h p (r k : Fin 64) => (pick_at B n hn' s h r k).trans (H.hB ⟨n, hn'⟩ s h r k p)
    have hC := fun s h p (r k : Fin 64) => (pick_at C n hn' s h r k).trans (H.hC ⟨n, hn'⟩ s h r k p)
    have ha := fun h p => (H.ha h).trans (congrArg (fun i => (A i : EReal)) (hl_cc b h p).symm)
    refine ⟨fun s h k p => ?_, fun m hm s h r p => ?_⟩
    · rw [hS n hn']
      exact sR_up s h p (cc h p) (hB s h p) (hx s h p) (hd s h p) (ha h p) (fun k => iS s h k p) k
    · rw [hY n hn', put_at _ n hn']
      by_cases e : m.val = n
      · rw [if_pos e]
        have := yR_up s h p (cc h p) (hC s h p) (hB s h p) (hx s h p) (hd s h p) (ha h p) (fun k => iS s h k p) H.hm r
        rw [this, e]
      · rw [if_neg e]
        exact iY m (by omega) s h r p

/-- The loop's outputs put back in token order. -/
theorem back (Y : FVec Ideal S128x6x4x64x64 .f32) (s : Fin 6) (t : Fin 8192) (k : Fin 256) :
    (shapeCast S6x8192x256 (shapeCast S6x8192x4x64 (transpose S6x128x64x4x64 [1, 0, 3, 2, 4] Y transposes_S128x6x4x64x64_S6x128x64x4x64_1_0_3_2_4) shapeCasts_S6x128x64x4x64_S6x8192x4x64) shapeCasts_S6x8192x4x64_S6x8192x256) (ix3 s t k)
      = Y (ix5 (⟨t.val / 64, by omega⟩ : Fin 128) s (⟨k.val / 64, by omega⟩ : Fin 4) (⟨t.val % 64, by omega⟩ : Fin 64) (⟨k.val % 64, by omega⟩ : Fin 64)) := by
  pointwise

end

/-- The reference's softplus. -/
def sp (v : EReal) : EReal := max v 0 + Ideal.log1p (Ideal.exp (-FloatOps.absf (F := Ideal) (φ := .f32) v))

/-- The reference's softplus of a real number. -/
theorem sp_up (x : ℝ) : sp (x : EReal) = (spR x : EReal) := by
  rw [sp, abs_up, max_up, ← EReal.coe_neg, Ideal.exp_coe, log1p_up, ← EReal.coe_add]; rfl

/-- The order of two rows. -/
theorem cmp_row : ∀ r c : Fin 64, IntOp.cmpi .sge (BitVec.ofNat 32 r.val) (BitVec.ofNat 32 c.val) = (if c ≤ r then 1#1 else 0#1) := by decide +kernel

section
open Cert.ReferenceIdeal.Step
variable (a0 : FVec Ideal S6x8192x512 .bf16) (a1 : FVec Ideal S6x8192x128 .f32) (a2 a3 : FVec Ideal S1x128 .f32)

theorem x_at (n : Fin 128) (s : Fin 6) (h : Fin 4) (r p : Fin 64) :
    (A_main_v24 (F := Ideal) a0 a1 a2 a3 : FVec Ideal S128x6x4x64x64 .f32) (ix5 n s h r p) = (a0 (ix3 s (⟨64 * n.val + r.val, by omega⟩ : Fin 8192) (xcol (cc h p))) : EReal) := by
  pointwise [A_main_v24, A_main_v23, A_main_v4, A_main_v1, A_main_v0, xcol, cc]
  exact congrArg a0 (congrArg₂ (ix3 s) (Fin.ext (by show n.val * 64 + r.val = 64 * n.val + r.val; omega)) (Fin.ext (by show h.val * 64 + p.val = 64 * h.val + p.val; omega)))

theorem B_at (n : Fin 128) (s : Fin 6) (h : Fin 4) (r k p : Fin 64) :
    (A_main_v29 (F := Ideal) a0 a1 a2 a3 : FVec Ideal S128x6x4x64x64 .f32) (ix5 n s h r k) = (a0 (ix3 s (⟨64 * n.val + r.val, by omega⟩ : Fin 8192) (bcol (cc h p) k)) : EReal) := by
  pointwise [A_main_v29, A_main_v28, A_main_v7, A_main_v6, A_main_v5, A_main_v2, A_main_v0, bcol, cc]
  exact congrArg a0 (congrArg₂ (ix3 s) (Fin.ext (by show n.val * 64 + r.val = 64 * n.val + r.val; omega)) (Fin.ext (by show 256 + (h.val / 2 * 64 + k.val) = 256 + (64 * ((64 * h.val + p.val) / 128) + k.val); omega)))

theorem C_at (n : Fin 128) (s : Fin 6) (h : Fin 4) (r k p : Fin 64) :
    (A_main_v31 (F := Ideal) a0 a1 a2 a3 : FVec Ideal S128x6x4x64x64 .f32) (ix5 n s h r k) = (a0 (ix3 s (⟨64 * n.val + r.val, by omega⟩ : Fin 8192) (ccol (cc h p) k)) : EReal) := by
  pointwise [A_main_v31, A_main_v30, A_main_v10, A_main_v9, A_main_v8, A_main_v3, A_main_v0, ccol, cc]
  exact congrArg a0 (congrArg₂ (ix3 s) (Fin.ext (by show n.val * 64 + r.val = 64 * n.val + r.val; omega)) (Fin.ext (by show 384 + (h.val / 2 * 64 + k.val) = 384 + (64 * ((64 * h.val + p.val) / 128) + k.val); omega)))

theorem a_at (h : Fin 4) : (A_main_v19 (F := Ideal) a0 a1 a2 a3 : FVec Ideal S4 .f32) (ix1 h) = a3 (ix2 0 (hh 0 h)) := by
  pointwise [A_main_v19, A_main_v18, hh]

theorem m_at (r c : Fin 64) : K_main_v21 (F := Ideal) (ix2 r c) = if c ≤ r then 1#1 else 0#1 := by
  pointwise [K_main_v21, K_main_call1_v4, K_main_call1_v2, K_main_call1_v0, K_main_call1_v1, K_main_call1_c, K_main_call1_v3, K_main_v20, K_main_c, K_main_call1_v5, K_main_call1_c_0]
  rw [show IntOp.addi (BitVec.ofNat 32 r.val) 0#32 = BitVec.ofNat 32 r.val from BitVec.add_zero _, cmp_row, sel_if]

theorem d_at (n : Fin 128) (s : Fin 6) (h : Fin 4) (r : Fin 64) :
    (A_main_v27 (F := Ideal) a0 a1 a2 a3 : FVec Ideal S128x6x4x64x1 .f32) (ix5 n s h r 0) = (sp (a1 (ix3 s (⟨64 * n.val + r.val, by omega⟩ : Fin 8192) (hh 0 h)) + a2 (ix2 0 (hh 0 h))) : EReal) := by
  pointwise [A_main_v27, A_main_v26, A_main_v25, A_main_v17, A_main_v16, A_main_v15, A_main_v14, A_main_v13, A_main_v12, A_main_v11, A_main_call0_v1, A_main_call0_v3, A_main_call0_v4, A_main_call0_v6, A_main_call0_v7,
    A_main_call0_v8, A_main_call0_v9, A_main_call0_v10, A_main_call0_v11, K_main_call0_v0, K_main_call0_v2, K_main_call0_v5, K_main_call0_cst, hh]
  rw [if_neg (not_not.mpr rfl)]
  have e : (⟨n.val * 64 + r.val, by omega⟩ : Fin 8192) = ⟨64 * n.val + r.val, by omega⟩ := Fin.ext (by show n.val * 64 + r.val = 64 * n.val + r.val; omega)
  rw [e]
  rfl

end

end Cert.Ssd.Ref
-- ==== Proof.SsdRun.lean ====
module

public import proofs.«01_k».proof.Proof.SsdBlock

/-! The forward kernel's body: each of its six sequences' chunks is the same function of that sequence's blocks. -/

@[expose] public section

noncomputable section

namespace Cert.Ssd

open Cert.KernelIdeal Cert.KernelIdeal.Gen Idealize.ShloMosaic Idealize.ShloMosaic.TcCoe Idealize.SL.Sem

/-- Sequence `s`'s slice lies inside the block of inputs. -/
theorem inbX (s : Fin 6) : ∀ a, (![s.val, 0, 0] : Fin 3 → ℕ) a + S1x128x512.size a ≤ S6x128x512.size a := by
  revert s; decide
/-- Sequence `s`'s slice lies inside the block of raw steps. -/
theorem inbT (s : Fin 6) : ∀ a, (![s.val, 0, 0] : Fin 3 → ℕ) a + S1x128x128.size a ≤ S6x128x128.size a := by
  revert s; decide
/-- Sequence `s`'s slice lies inside the block of states. -/
theorem inbS (s : Fin 6) : ∀ a, (![s.val, 0, 0] : Fin 3 → ℕ) a + S1x128x256.size a ≤ S6x128x256.size a := by
  revert s; decide

/-- Sequence `s`'s slice of the inputs. -/
def ldX (x : Vec Ideal S6x128x512 .bf16) (s : Fin 6) : Vec Ideal S1x128x512 .bf16 := View.ld x (Rect.unit (s := S6x128x512) ![s.val, 0, 0] S1x128x512.size (inbX s))
/-- Sequence `s`'s slice of the raw steps. -/
def ldT (x : Vec Ideal S6x128x128 .f32) (s : Fin 6) : Vec Ideal S1x128x128 .f32 := View.ld x (Rect.unit (s := S6x128x128) ![s.val, 0, 0] S1x128x128.size (inbT s))
/-- Sequence `s`'s slice of the states. -/
def ldS (x : Vec Ideal S6x128x256 .f32) (s : Fin 6) : Vec Ideal S1x128x256 .f32 := View.ld x (Rect.unit (s := S6x128x256) ![s.val, 0, 0] S1x128x256.size (inbS s))
/-- The whole row of lanes. -/
def ldR (x : Vec Ideal S1x128 .f32) : Vec Ideal S1x128 .f32 := View.ld x (Rect.unit (s := S1x128) ![0, 0] S1x128.size inb_S1x128_S1x128_0_0)

/-- The piece a sequence writes. -/
def pc (s : Fin 6) (v : FVec Ideal S128x256 .f32) : View.Piece (Elt Ideal) S6x128x256 .f32 :=
  ⟨Rect.unit (s := S6x128x256) ![s.val, 0, 0] S1x128x256.size (inbS s), shapeCast S1x128x256 v shapeCasts_S128x256_S1x128x256⟩

/-- The six sequences' pieces, last first. -/
def pcs (v : Fin 6 → FVec Ideal S128x256 .f32) : List (View.Piece (Elt Ideal) S6x128x256 .f32) :=
  [pc 5 (v 5), pc 4 (v 4), pc 3 (v 3), pc 2 (v 2), pc 1 (v 1), pc 0 (v 0)]

section
variable (c : Dev nD) (i : grid0.Coords) (arg2 : Memref sig .tc .vmem S6x128x512 .bf16) (harg2 : arg2.IsWhole) (arg3 : Memref sig .tc .vmem S6x128x128 .f32) (harg3 : arg3.IsWhole)
  (arg4 : Memref sig .tc .vmem S1x128 .f32) (harg4 : arg4.IsWhole) (arg5 : Memref sig .tc .vmem S1x128 .f32) (harg5 : arg5.IsWhole)
  (arg6 : Memref sig .tc .vmem S6x128x256 .f32) (harg6 : arg6.IsWhole) (arg7 : Memref sig .tc .vmem S6x128x256 .f32) (harg7 : arg7.IsWhole)
  (x0 : Vec Ideal S6x128x512 .bf16) (x1 : Vec Ideal S6x128x128 .f32) (x2 x3 : Vec Ideal S1x128 .f32) (xs0 : Vec Ideal S6x128x256 .f32)

set_option maxHeartbeats 4000000 in
set_option maxRecDepth 100000 in
/-- The output's pieces at a chunk that is not the first. -/
theorem run_B_y (hc0 : ¬cond0_0 i) : (kernelRun0_B (F := Ideal) c i arg2 harg2 arg3 harg3 arg4 harg4 arg5 harg5 arg6 harg6 arg7 harg7 hc0 x0 x1 x2 x3 xs0).1
    = pcs fun s => yF (ldX x0 s) (ldT x1 s) (ldR x2) (ldR x3) (ldS xs0 s) := by
  unfold kernelRun0_B
  dsimp only
  sl_unfold_words
  simp only [View.readAt_eq_ld, harg2.read_unread, harg3.read_unread, harg4.read_unread, harg5.read_unread, harg7.read_unread]
  rfl

set_option maxHeartbeats 4000000 in
set_option maxRecDepth 100000 in
/-- The state's pieces at a chunk that is not the first. -/
theorem run_B_s (hc0 : ¬cond0_0 i) : (kernelRun0_B (F := Ideal) c i arg2 harg2 arg3 harg3 arg4 harg4 arg5 harg5 arg6 harg6 arg7 harg7 hc0 x0 x1 x2 x3 xs0).2.1
    = pcs fun s => sF (ldX x0 s) (ldT x1 s) (ldR x2) (ldR x3) (ldS xs0 s) := by
  unfold kernelRun0_B
  dsimp only
  sl_unfold_words
  simp only [View.readAt_eq_ld, harg2.read_unread, harg3.read_unread, harg4.read_unread, harg5.read_unread, harg7.read_unread]
  rfl

/-- The reset of the states: zero everywhere. -/
def pz : View.Piece (Elt Ideal) S6x128x256 .f32 := ⟨Rect.unit (s := S6x128x256) ![0, 0, 0] S6x128x256.size inb_S6x128x256_S6x128x256_0_0_0, k0_pay2 (F := Ideal)⟩

/-- The reset states. -/
def z0 : Vec Ideal S6x128x256 .f32 := View.canon [pz]

set_option maxHeartbeats 4000000 in
set_option maxRecDepth 100000 in
/-- The output's pieces at the first chunk. -/
theorem run_A_y (hc0 : cond0_0 i) : (kernelRun0_A (F := Ideal) c i arg2 harg2 arg3 harg3 arg4 harg4 arg5 harg5 arg6 harg6 arg7 harg7 hc0 x0 x1 x2 x3).1
    = pcs fun s => yF (ldX x0 s) (ldT x1 s) (ldR x2) (ldR x3) (ldS z0 s) := by
  unfold kernelRun0_A
  dsimp only
  sl_unfold_words
  simp only [View.readAt_eq_ld, harg2.read_unread, harg3.read_unread, harg4.read_unread, harg5.read_unread, View.readCov_eq_canon']
  rfl

set_option maxHeartbeats 4000000 in
set_option maxRecDepth 100000 in
/-- The state's pieces at the first chunk. -/
theorem run_A_s (hc0 : cond0_0 i) : (kernelRun0_A (F := Ideal) c i arg2 harg2 arg3 harg3 arg4 harg4 arg5 harg5 arg6 harg6 arg7 harg7 hc0 x0 x1 x2 x3).2.1
    = pcs (fun s => sF (ldX x0 s) (ldT x1 s) (ldR x2) (ldR x3) (ldS z0 s)) ++ [pz] := by
  unfold kernelRun0_A
  dsimp only
  sl_unfold_words
  simp only [View.readAt_eq_ld, harg2.read_unread, harg3.read_unread, harg4.read_unread, harg5.read_unread, View.readCov_eq_canon']
  rfl

end

end Cert.Ssd
-- ==== Proof.SsdFwd.lean ====
module

public import proofs.«01_k».proof.Proof.SsdSpec
public import proofs.«01_k».proof.Proof.SsdRun
public import Idealize.ShloMosaic.Lib.Pipeline.CanonAppend

/-! The forward kernel's chunk on real blocks, in terms of the tokens' outputs and states. -/

@[expose] public section

noncomputable section

namespace Cert.Ssd

open Cert.KernelIdeal Cert.KernelIdeal.Gen Idealize.ShloMosaic

section
variable {b : Fin 2} (o : Fin 128 ≃ Fin 128) {m : ℕ} {X : ℕ → Fin 512 → ℝ} {DT : ℕ → Fin 128 → ℝ} {A : Fin 128 → ℝ}
  {xb : FVec Ideal S1x128x512 .bf16} {sm : FVec Ideal S1x128x128 .f32} {dtb a : FVec Ideal S1x128 .f32} {st : FVec Ideal S1x128x256 .f32}
  {T : Fin 128 → Fin 128 → ℝ} {D : Fin 128 → ℝ}

theorem x_up (hx : ∀ r c, xb (ix3 0 r c) = (X (m + o r) c : EReal)) (r : Fin 128) (c : Fin 256) : xpart xb (ix2 r c) = (X (m + o r) (xcol c) : EReal) := by
  rw [← hx]; pointwise [xpart, xf, xcol]
theorem b_up (hx : ∀ r c, xb (ix3 0 r c) = (X (m + o r) c : EReal)) (r n : Fin 128) : bpart xb (ix2 r n) = (X (m + o r) ⟨256 + n.val, by omega⟩ : EReal) := by
  rw [← hx]; pointwise [bpart, xf]
theorem c_up (hx : ∀ r c, xb (ix3 0 r c) = (X (m + o r) c : EReal)) (r n : Fin 128) : cpart xb (ix2 r n) = (X (m + o r) ⟨384 + n.val, by omega⟩ : EReal) := by
  rw [← hx]; pointwise [cpart, xf]
theorem t_up (ht : ∀ r i, sm (ix3 0 r i) = (T r i : EReal)) (hd : ∀ i, dtb (ix2 0 i) = (D i : EReal)) (hdt : ∀ r i, spR (T r i + D i) = DT (m + o r) i) (r i : Fin 128) :
    dtv (shapeCast S128x128 sm shapeCasts_S1x128x128_S128x128) dtb (ix2 r i) = (DT (m + o r) i : EReal) := by
  rw [← hdt]
  exact dtv_up (T := T) (fun r i => by rw [← ht]; pointwise) hd r i
theorem s_up (hs : ∀ n c, st (ix3 0 n c) = (st128 b X DT A m n c : EReal)) (n : Fin 128) (c : Fin 256) :
    shapeCast S128x256 st shapeCasts_S1x128x256_S128x256 (ix2 n c) = (st128 b X DT A m n c : EReal) := by
  rw [← hs]; pointwise

/-- A chunk's outputs on real blocks, its rows in the order `o`. -/
theorem yv_block {incl strict : IVec S128x128 1} (hi : ∀ r c, incl (ix2 r c) = if o c ≤ o r then 1#1 else 0#1) (hq : ∀ r c, strict (ix2 r c) = if o c < o r then 1#1 else 0#1)
    {ex : IVec S128x256 1} (he : ∀ r c, ex (ix2 r c) = if r = hl b c then 1#1 else 0#1) {neg : Ideal .f32} (hn : neg = (⊥ : EReal))
    {col : FVec Ideal S128x128 .f32 → Fin 4 → FVec Ideal S128x1 .f32} (hcol : ∀ v h r, col v h (ix2 r 0) = v (ix2 r ⟨32 + 4 * b.val + h.val, by omega⟩))
    (hx : ∀ r c, xb (ix3 0 r c) = (X (m + o r) c : EReal)) (ht : ∀ r i, sm (ix3 0 r i) = (T r i : EReal)) (hd : ∀ i, dtb (ix2 0 i) = (D i : EReal))
    (hdt : ∀ r i, spR (T r i + D i) = DT (m + o r) i) (ha : ∀ i, a (ix2 0 i) = (A i : EReal)) (hs : ∀ n c, st (ix3 0 n c) = (st128 b X DT A m n c : EReal))
    (r : Fin 128) (c : Fin 256) :
    yv incl strict ex neg (col (dav (dtv (shapeCast S128x128 sm shapeCasts_S1x128x128_S128x128) dtb) a)) (xpart xb) (bpart xb) (cpart xb)
      (dtv (shapeCast S128x128 sm shapeCasts_S1x128x128_S128x128) dtb) (dav (dtv (shapeCast S128x128 sm shapeCasts_S1x128x128_S128x128) dtb) a)
      (shapeCast S128x256 st shapeCasts_S1x128x256_S128x256) (ix2 r c) = (yS b X DT A (m + o r) c : EReal) := by
  rw [yv_up (p := fun r c => o c ≤ o r) (q := fun r c => o c < o r) hi hq he hn (x_up o hx) (s_up hs) (b_up o hx) (c_up o hx) (t_up o ht hd hdt)
    (dav_up (t_up o ht hd hdt) ha) (hcol _) r c]
  exact congrArg _ (y_block b o m X DT A r c)

/-- A chunk's new state on real blocks, its rows in the order `o`. -/
theorem sv_block {incl : IVec S128x128 1} (hi : ∀ r c, incl (ix2 r c) = if o c ≤ o r then 1#1 else 0#1)
    {ex : IVec S128x256 1} (he : ∀ r c, ex (ix2 r c) = if r = hl b c then 1#1 else 0#1)
    {l : FVec Ideal S128x128 .f32 → FVec Ideal S1x128 .f32} {lw : FVec Ideal S128x256 .f32 → FVec Ideal S1x256 .f32} {z : Fin 128} (hz : (o z).val = 127)
    (hl1 : ∀ v i, l v (ix2 0 i) = v (ix2 z i)) (hl2 : ∀ v i, lw v (ix2 0 i) = v (ix2 z i))
    (hx : ∀ r c, xb (ix3 0 r c) = (X (m + o r) c : EReal)) (ht : ∀ r i, sm (ix3 0 r i) = (T r i : EReal)) (hd : ∀ i, dtb (ix2 0 i) = (D i : EReal))
    (hdt : ∀ r i, spR (T r i + D i) = DT (m + o r) i) (ha : ∀ i, a (ix2 0 i) = (A i : EReal)) (hs : ∀ n c, st (ix3 0 n c) = (st128 b X DT A m n c : EReal))
    (n : Fin 128) (c : Fin 256) :
    sv incl ex l lw (xpart xb) (bpart xb)
      (dtv (shapeCast S128x128 sm shapeCasts_S1x128x128_S128x128) dtb) (dav (dtv (shapeCast S128x128 sm shapeCasts_S1x128x128_S128x128) dtb) a)
      (shapeCast S128x256 st shapeCasts_S1x128x256_S128x256) (ix2 n c) = (st128 b X DT A (m + 128) n c : EReal) := by
  rw [sv_up (p := fun r c => o c ≤ o r) hi he hl1 hl2 (x_up o hx) (s_up hs) (b_up o hx) (t_up o ht hd hdt) (dav_up (t_up o ht hd hdt) ha) n c]
  exact congrArg _ (s_block b o m X DT A z hz n c)

end

/-- The mask constant of the idealized program. -/
theorem neg_eq : (Named.named κ "mask" 0xF149F2CA#32 : Ideal .f32) = (⊥ : EReal) := IdealRules.named_const.ideal_named_scalar _ _ _ _ rfl

theorem colF_at (v : FVec Ideal S128x128 .f32) (h : Fin 4) (r : Fin 128) : colF v h (ix2 r 0) = v (ix2 r ⟨32 + 4 * (0 : Fin 2).val + h.val, by have := h.isLt; show 32 + 4 * 0 + h.val < 128; omega⟩) := by
  fin_cases h <;> pointwise [colF]

/-- The value of each sequence's slot in the six pieces. -/
theorem canon_pcs (v : Fin 6 → FVec Ideal S128x256 .f32) (L : List (View.Piece (Elt Ideal) S6x128x256 .f32)) (s : Fin 6) (r : Fin 128) (c : Fin 256) :
    (View.canon (pcs v ++ L) : Vec Ideal S6x128x256 .f32) (ix3 s r c) = v s (ix2 r c) := by
  have hp : ∀ p ∈ pcs v, ∃ k, p = pc k (v k) := by
    intro p hp
    simp only [pcs, List.mem_cons, List.not_mem_nil, or_false] at hp
    rcases hp with h | h | h | h | h | h <;> exact ⟨_, h⟩
  have hm : pc s (v s) ∈ pcs v := by fin_cases s <;> simp [pcs]
  refine (View.canon_append_of_pieces (fun i : S6x128x256.Idx => v (i 0) (ix2 (i 1) (i 2))) L (pcs v) ?_ (ix3 s r c) ⟨_, hm, ?_⟩).trans rfl
  · intro p hq x
    obtain ⟨k, rfl⟩ := hp p hq
    have hk : ∀ (a : Fin 1) (q : Fin 128) (j : Fin 256), (pc k (v k)).2 (ix3 a q j) = v k (ix2 q j) := by
      intro a q j
      have : a = 0 := Subsingleton.elim _ _
      subst this
      show shapeCast S1x128x256 (v k) shapeCasts_S128x256_S1x128x256 (ix3 0 q j) = _
      pointwise
    obtain ⟨a, q, j, rfl⟩ : ∃ (a : Fin 1) (q : Fin 128) (j : Fin 256), x = ix3 a q j := ⟨_, _, _, eq_ix3 x⟩
    rw [hk]
    have h0 : ((pc k (v k)).1.emb (ix3 a q j)) 0 = k := Fin.ext (by show k.val + 1 * a.val = k.val; omega)
    have h1 : ((pc k (v k)).1.emb (ix3 a q j)) 1 = q := Fin.ext (by show 0 + 1 * q.val = q.val; omega)
    have h2 : ((pc k (v k)).1.emb (ix3 a q j)) 2 = j := Fin.ext (by show 0 + 1 * j.val = j.val; omega)
    show v k (ix2 q j) = v (((pc k (v k)).1.emb (ix3 a q j)) 0) (ix2 (((pc k (v k)).1.emb (ix3 a q j)) 1) (((pc k (v k)).1.emb (ix3 a q j)) 2))
    rw [h0, h1, h2]
  · have : ix3 s r c = (pc s (v s)).1.emb (ix3 (0 : Fin 1) r c) := by
      funext d
      fin_cases d
      · exact Fin.ext (by show s.val = s.val + 0 * 1; omega)
      · exact Fin.ext (by show r.val = 0 + 1 * r.val; omega)
      · exact Fin.ext (by show c.val = 0 + 1 * c.val; omega)
    rw [this]
    rw [← Rect.map_emb_univ]; exact Finset.mem_map_of_mem _ (Finset.mem_univ _)

theorem ldX_at (x : Vec Ideal S6x128x512 .bf16) (s : Fin 6) (r : Fin 128) (c : Fin 512) : ldX x s (ix3 0 r c) = x (ix3 s r c) := by
  unfold ldX; rw [View.ld_unit]; pointwise
theorem ldT_at (x : Vec Ideal S6x128x128 .f32) (s : Fin 6) (r : Fin 128) (c : Fin 128) : ldT x s (ix3 0 r c) = x (ix3 s r c) := by
  unfold ldT; rw [View.ld_unit]; pointwise
theorem ldS_at (x : Vec Ideal S6x128x256 .f32) (s : Fin 6) (r : Fin 128) (c : Fin 256) : ldS x s (ix3 0 r c) = x (ix3 s r c) := by
  unfold ldS; rw [View.ld_unit]; pointwise
theorem ldR_eq (x : Vec Ideal S1x128 .f32) : ldR x = x := View.ld_unit_zero (by funext a; fin_cases a <;> rfl) _ x

/-- The reset states are zero. -/
theorem z0_at (s : Fin 6) (r : Fin 128) (c : Fin 256) : z0 (ix3 s r c) = (0 : EReal) := by
  have e : z0 = k0_pay2 (F := Ideal) := View.canon_unit_zero (by funext a; fin_cases a <;> rfl) _ _
  rw [e]; pointwise [k0_pay2]

end Cert.Ssd
-- ==== Proof.SsdKernel.lean ====
module

public import proofs.«01_k».proof.Proof.SsdFwd

/-! The forward call over all its chunks: its result holds every token's output. -/

@[expose] public section

noncomputable section

namespace Cert.Ssd

open Cert.KernelIdeal Cert.KernelIdeal.Gen Idealize.ShloMosaic Idealize.ShloMosaic.TcCoe Idealize.SL.Sem

/-- A sequence's inputs by token number. -/
def xN (x : Fin 8192 → Fin 512 → ℝ) (t : ℕ) (k : Fin 512) : ℝ := if h : t < 8192 then x ⟨t, h⟩ k else 0
/-- A sequence's steps by token number. -/
def dN (T : Fin 8192 → Fin 128 → ℝ) (D : Fin 128 → ℝ) (t : ℕ) (i : Fin 128) : ℝ := if h : t < 8192 then spR (T ⟨t, h⟩ i + D i) else 0

/-- The grid's index maps: point `t` holds chunk `t` of every sequence. -/
theorem idx_facts : ∀ t : Fin cfg0.N, win0_0.index t = ![0, t.val, 0] ∧ win0_1.index t = ![0, t.val, 0]
    ∧ win0_2.index t = ![0, 0] ∧ win0_3.index t = ![0, 0] :=
  (by decide +kernel : ∀ t : Fin grid0.N, _)

/-- The chunk's last row. -/
theorem last_at (v : FVec Ideal S128x128 .f32) (i : Fin 128) : extractStridedSlice S1x128 ![127, 0] v slices_S128x128_o127_0_S1x128 (ix2 0 i) = v (ix2 127 i) := by
  pointwise
theorem lastW_at (v : FVec Ideal S128x256 .f32) (i : Fin 256) : extractStridedSlice S1x256 ![127, 0] v slices_S128x256_o127_0_S1x256 (ix2 0 i) = v (ix2 127 i) := by
  pointwise

theorem hz1 : ((Equiv.refl (Fin 128)) 127).val = 127 := rfl
section
variable {m : ℕ} {X : ℕ → Fin 512 → ℝ} {DT : ℕ → Fin 128 → ℝ} {T : Fin 128 → Fin 128 → ℝ} {D A : Fin 128 → ℝ}
 {xb : FVec Ideal S1x128x512 .bf16} {sm : FVec Ideal S1x128x128 .f32} {dtb a : FVec Ideal S1x128 .f32} {st : FVec Ideal S1x128x256 .f32}
/-- A sequence's state after the chunk. -/
theorem sF_at
    (hx : ∀ r c, xb (ix3 0 r c) = (X (m + (Equiv.refl (Fin 128)) r) c : EReal)) (ht : ∀ r i, sm (ix3 0 r i) = (T r i : EReal)) (hd : ∀ i, dtb (ix2 0 i) = (D i : EReal))
    (hdt : ∀ r i, spR (T r i + D i) = DT (m + (Equiv.refl (Fin 128)) r) i) (ha : ∀ i, a (ix2 0 i) = (A i : EReal)) (hs : ∀ n c, st (ix3 0 n c) = (st128 0 X DT A m n c : EReal))
    (n : Fin 128) (c : Fin 256) : sF xb sm dtb a st (ix2 n c) = (st128 0 X DT A (m + 128) n c : EReal) := by
  have := sv_block (b := 0) (Equiv.refl _) (l := fun v => extractStridedSlice S1x128 ![127, 0] v slices_S128x128_o127_0_S1x128)
      (lw := fun v => extractStridedSlice S1x256 ![127, 0] v slices_S128x256_o127_0_S1x256) (z := 127) inclF_eq (exm_eq 0) hz1
      last_at lastW_at hx ht hd hdt ha hs n c
  exact this
end

variable (m : (ℓ : Loc nD τ sig) → Buf (Elt Ideal) ℓ) (c : Dev nD)

theorem iblk0 (t : Fin cfg0.N) (s : Fin 6) (r : Fin 128) (k : Fin 512) (h : t.val * 128 + r.val < 8192) :
    (iblk m c 0 t : Vec Ideal S6x128x512 .bf16) (ix3 s r k) = (m ((c : Thread nD τ).loc main_arg0) : Vec Ideal S6x8192x512 .bf16) (ix3 s ⟨t.val * 128 + r.val, h⟩ k) := by
  obtain ⟨e0, e1, e2, e3⟩ := idx_facts t
  show V m c main_arg0 (((cfg0.win 0).blk t).view.emb (ix3 s r k)) = _
  rw [V_main_arg0]
  refine congrArg (m ((c : Thread nD τ).loc main_arg0)) ?_
  funext a; apply Fin.ext
  match a with
  | ⟨0, _⟩ => show win0_0.index t (0 : Fin 3) * 6 + 1 * s.val = s.val; rw [e0]; show 0 * 6 + 1 * s.val = _; omega
  | ⟨1, _⟩ => show win0_0.index t (1 : Fin 3) * 128 + 1 * r.val = t.val * 128 + r.val; rw [e0]; show t.val * 128 + 1 * r.val = _; omega
  | ⟨2, _⟩ => show win0_0.index t (2 : Fin 3) * 512 + 1 * k.val = k.val; rw [e0]; show 0 * 512 + 1 * k.val = _; omega

theorem iblk1 (t : Fin cfg0.N) (s : Fin 6) (r k : Fin 128) (h : t.val * 128 + r.val < 8192) :
    (iblk m c 1 t : Vec Ideal S6x128x128 .f32) (ix3 s r k) = (m ((c : Thread nD τ).loc main_arg1) : Vec Ideal S6x8192x128 .f32) (ix3 s ⟨t.val * 128 + r.val, h⟩ k) := by
  obtain ⟨e0, e1, e2, e3⟩ := idx_facts t
  show V m c main_arg1 (((cfg0.win 1).blk t).view.emb (ix3 s r k)) = _
  rw [V_main_arg1]
  refine congrArg (m ((c : Thread nD τ).loc main_arg1)) ?_
  funext a; apply Fin.ext
  match a with
  | ⟨0, _⟩ => show win0_1.index t (0 : Fin 3) * 6 + 1 * s.val = s.val; rw [e1]; show 0 * 6 + 1 * s.val = _; omega
  | ⟨1, _⟩ => show win0_1.index t (1 : Fin 3) * 128 + 1 * r.val = t.val * 128 + r.val; rw [e1]; show t.val * 128 + 1 * r.val = _; omega
  | ⟨2, _⟩ => show win0_1.index t (2 : Fin 3) * 128 + 1 * k.val = k.val; rw [e1]; show 0 * 128 + 1 * k.val = _; omega

theorem iblk2 (t : Fin cfg0.N) (k : Fin 128) :
    (iblk m c 2 t : Vec Ideal S1x128 .f32) (ix2 0 k) = (m ((c : Thread nD τ).loc main_arg2) : Vec Ideal S1x128 .f32) (ix2 0 k) := by
  obtain ⟨e0, e1, e2, e3⟩ := idx_facts t
  show V m c main_arg2 (((cfg0.win 2).blk t).view.emb (ix2 0 k)) = _
  rw [V_main_arg2]
  refine congrArg (m ((c : Thread nD τ).loc main_arg2)) ?_
  funext a; apply Fin.ext
  match a with
  | ⟨0, _⟩ => show win0_2.index t (0 : Fin 2) * 1 + 1 * 0 = 0; rw [e2]; rfl
  | ⟨1, _⟩ => show win0_2.index t (1 : Fin 2) * 128 + 1 * k.val = k.val; rw [e2]; show 0 * 128 + 1 * k.val = _; omega

theorem iblk3 (t : Fin cfg0.N) (k : Fin 128) :
    (iblk m c 3 t : Vec Ideal S1x128 .f32) (ix2 0 k) = (m ((c : Thread nD τ).loc main_arg3) : Vec Ideal S1x128 .f32) (ix2 0 k) := by
  obtain ⟨e0, e1, e2, e3⟩ := idx_facts t
  show V m c main_arg3 (((cfg0.win 3).blk t).view.emb (ix2 0 k)) = _
  rw [V_main_arg3]
  refine congrArg (m ((c : Thread nD τ).loc main_arg3)) ?_
  funext a; apply Fin.ext
  match a with
  | ⟨0, _⟩ => show win0_3.index t (0 : Fin 2) * 1 + 1 * 0 = 0; rw [e3]; rfl
  | ⟨1, _⟩ => show win0_3.index t (1 : Fin 2) * 128 + 1 * k.val = k.val; rw [e3]; show 0 * 128 + 1 * k.val = _; omega

/-- The argument arrays hold real numbers. -/
structure Real4 (a0 : Vec Ideal S6x8192x512 .bf16) (a1 : Vec Ideal S6x8192x128 .f32) (a2 a3 : Vec Ideal S1x128 .f32)
    (x : Fin 6 → Fin 8192 → Fin 512 → ℝ) (T : Fin 6 → Fin 8192 → Fin 128 → ℝ) (D A : Fin 128 → ℝ) : Prop where
  hx : ∀ s t k, a0 (ix3 s t k) = (x s t k : EReal)
  hT : ∀ s t k, a1 (ix3 s t k) = (T s t k : EReal)
  hD : ∀ k, a2 (ix2 0 k) = (D k : EReal)
  hA : ∀ k, a3 (ix2 0 k) = (A k : EReal)

/-- The reset state is the state before the first token. -/
theorem st128_zero (b : Fin 2) (X : ℕ → Fin 512 → ℝ) (DT : ℕ → Fin 128 → ℝ) (A : Fin 128 → ℝ) (n : Fin 128) (k : Fin 256) : st128 b X DT A 0 n k = 0 := by
  unfold st128 HS hrec; split <;> rfl

variable {x : Fin 6 → Fin 8192 → Fin 512 → ℝ} {T : Fin 6 → Fin 8192 → Fin 128 → ℝ} {D A : Fin 128 → ℝ}

/-- One chunk's outputs and new state, from blocks that hold the chunk's tokens and a state that is the chunk's start. -/
theorem blk_F (n : ℕ) (hn : n < 64) (x0 : Vec Ideal S6x128x512 .bf16) (x1 : Vec Ideal S6x128x128 .f32) (x2 x3 : Vec Ideal S1x128 .f32) (S : Vec Ideal S6x128x256 .f32)
    (h0 : ∀ s (r : Fin 128) k, x0 (ix3 s r k) = (x s ⟨n * 128 + r.val, by omega⟩ k : EReal))
    (h1 : ∀ s (r : Fin 128) k, x1 (ix3 s r k) = (T s ⟨n * 128 + r.val, by omega⟩ k : EReal))
    (h2 : ∀ k, x2 (ix2 0 k) = (D k : EReal)) (h3 : ∀ k, x3 (ix2 0 k) = (A k : EReal))
    (hS : ∀ s r k, S (ix3 s r k) = (st128 0 (xN (x s)) (dN (T s) D) A (n * 128) r k : EReal)) (s : Fin 6) (r : Fin 128) (k : Fin 256) :
    yF (ldX x0 s) (ldT x1 s) (ldR x2) (ldR x3) (ldS S s) (ix2 r k) = (yS 0 (xN (x s)) (dN (T s) D) A (n * 128 + r.val) k : EReal)
    ∧ sF (ldX x0 s) (ldT x1 s) (ldR x2) (ldR x3) (ldS S s) (ix2 r k) = (st128 0 (xN (x s)) (dN (T s) D) A ((n + 1) * 128) r k : EReal) := by
  have hx : ∀ r k, ldX x0 s (ix3 0 r k) = (xN (x s) (n * 128 + (Equiv.refl (Fin 128) r).val) k : EReal) := fun r k => by
    rw [ldX_at, h0, xN, dif_pos]; rfl
  have ht : ∀ r k, ldT x1 s (ix3 0 r k) = (T s ⟨n * 128 + r.val, by omega⟩ k : EReal) := fun r k => by rw [ldT_at, h1]
  have hd : ∀ k, ldR x2 (ix2 0 k) = (D k : EReal) := fun k => by rw [ldR_eq, h2]
  have ha : ∀ k, ldR x3 (ix2 0 k) = (A k : EReal) := fun k => by rw [ldR_eq, h3]
  have hdt : ∀ (r : Fin 128) k, spR (T s ⟨n * 128 + r.val, by omega⟩ k + D k) = dN (T s) D (n * 128 + (Equiv.refl (Fin 128) r).val) k := fun r k => by
    rw [dN, dif_pos]; rfl
  have hs : ∀ r k, ldS S s (ix3 0 r k) = (st128 0 (xN (x s)) (dN (T s) D) A (n * 128) r k : EReal) := fun r k => by rw [ldS_at, hS]
  constructor
  · exact yv_block (b := 0) (Equiv.refl _) (col := colF) inclF_eq strictF_eq (exm_eq 0) neg_eq colF_at hx ht hd hdt ha hs r k
  · rw [show (n + 1) * 128 = n * 128 + 128 by ring]
    exact sF_at hx ht hd hdt ha hs r k

section
variable (i : grid0.Coords)
  (arg2 : Memref sig .tc .vmem S6x128x512 .bf16) (harg2 : arg2.IsWhole) (arg3 : Memref sig .tc .vmem S6x128x128 .f32) (harg3 : arg3.IsWhole)
  (arg4 : Memref sig .tc .vmem S1x128 .f32) (harg4 : arg4.IsWhole) (arg5 : Memref sig .tc .vmem S1x128 .f32) (harg5 : arg5.IsWhole)
  (arg6 : Memref sig .tc .vmem S6x128x256 .f32) (harg6 : arg6.IsWhole) (arg7 : Memref sig .tc .vmem S6x128x256 .f32) (harg7 : arg7.IsWhole)
  (x0 : Vec Ideal S6x128x512 .bf16) (x1 : Vec Ideal S6x128x128 .f32) (x2 x3 : Vec Ideal S1x128 .f32) (xs0 : Vec Ideal S6x128x256 .f32)

/-- What the body leaves in the output block and in the state, at the first point and at a later one. -/
theorem outA (hc0 : cond0_0 i) : out0_A_4 (F := Ideal) c i arg2 harg2 arg3 harg3 arg4 harg4 arg5 harg5 arg6 harg6 arg7 harg7 hc0 x0 x1 x2 x3
    = View.canon (pcs (fun s => yF (ldX x0 s) (ldT x1 s) (ldR x2) (ldR x3) (ldS z0 s)) ++ []) := by
  unfold out0_A_4
  rw [View.read_writes_junk_eq_canon, run_A_y, List.append_nil]

theorem soutA (hc0 : cond0_0 i) : sout0_A_0 (F := Ideal) c i arg2 harg2 arg3 harg3 arg4 harg4 arg5 harg5 arg6 harg6 arg7 harg7 hc0 x0 x1 x2 x3
    = View.canon (pcs (fun s => sF (ldX x0 s) (ldT x1 s) (ldR x2) (ldR x3) (ldS z0 s)) ++ [pz]) := by
  unfold sout0_A_0
  rw [View.read_writes_junk_eq_canon, run_A_s]

theorem outB (hc0 : ¬cond0_0 i) : out0_B_4 (F := Ideal) c i arg2 harg2 arg3 harg3 arg4 harg4 arg5 harg5 arg6 harg6 arg7 harg7 hc0 x0 x1 x2 x3 xs0
    = View.canon (pcs (fun s => yF (ldX x0 s) (ldT x1 s) (ldR x2) (ldR x3) (ldS xs0 s)) ++ []) := by
  unfold out0_B_4
  rw [View.read_writes_junk_eq_canon, run_B_y, List.append_nil]

theorem soutB (hc0 : ¬cond0_0 i) : sout0_B_0 (F := Ideal) c i arg2 harg2 arg3 harg3 arg4 harg4 arg5 harg5 arg6 harg6 arg7 harg7 hc0 x0 x1 x2 x3 xs0
    = View.canon (pcs (fun s => sF (ldX x0 s) (ldT x1 s) (ldR x2) (ldR x3) (ldS xs0 s)) ++ []) := by
  unfold sout0_B_0
  rw [View.read_writes_junk_eq_canon, run_B_s, List.append_nil]

end

/-- What a grid point leaves, from a state that is its chunk's start: the chunk's outputs and the next chunk's start. -/
theorem point (H : Real4 (m ((c : Thread nD τ).loc main_arg0)) (m ((c : Thread nD τ).loc main_arg1)) (m ((c : Thread nD τ).loc main_arg2)) (m ((c : Thread nD τ).loc main_arg3)) x T D A)
    (t : Fin cfg0.N) (acc : Vec Ideal S6x128x256 .f32 × Vec Ideal S6x128x256 .f32)
    (hacc : t.val ≠ 0 → ∀ s r k, acc.2 (ix3 s r k) = (st128 0 (xN (x s)) (dN (T s) D) A (t.val * 128) r k : EReal)) (s : Fin 6) (r : Fin 128) (k : Fin 256) :
    (Value.stAt0 m c t.val t.isLt acc).1 (ix3 s r k) = (yS 0 (xN (x s)) (dN (T s) D) A (t.val * 128 + r.val) k : EReal)
    ∧ (Value.stAt0 m c t.val t.isLt acc).2 (ix3 s r k) = (st128 0 (xN (x s)) (dN (T s) D) A ((t.val + 1) * 128) r k : EReal) := by
  have htN : t.val < 64 := lt_of_lt_of_eq t.isLt N_0
  have B := fun (S : Vec Ideal S6x128x256 .f32) hS => blk_F (x := x) (T := T) (D := D) (A := A) t.val htN (iblk m c 0 t) (iblk m c 1 t) (iblk m c 2 t) (iblk m c 3 t) S
    (fun s r k => (iblk0 m c t s r k (by omega)).trans (H.hx _ _ _)) (fun s r k => (iblk1 m c t s r k (by omega)).trans (H.hT _ _ _))
    (fun k => (iblk2 m c t k).trans (H.hD k)) (fun k => (iblk3 m c t k).trans (H.hA k)) hS s r k
  by_cases h0 : t.val % 64 = 0
  · have ht0 : t.val = 0 := by omega
    have := B z0 (fun s r k => by rw [z0_at, ht0, zero_mul, st128_zero]; exact EReal.coe_zero.symm)
    rw [Value.stAt0_A m c t acc h0, outA, soutA]
    dsimp only
    rw [canon_pcs, canon_pcs]
    exact this
  · have := B acc.2 (hacc (by omega))
    rw [Value.stAt0_B m c t acc h0, outB, soutB]
    dsimp only
    rw [canon_pcs, canon_pcs]
    exact this

/-- The fold over the chunks: after point `n`, the chunk's outputs and the next chunk's start. -/
theorem fold (H : Real4 (m ((c : Thread nD τ).loc main_arg0)) (m ((c : Thread nD τ).loc main_arg1)) (m ((c : Thread nD τ).loc main_arg2)) (m ((c : Thread nD τ).loc main_arg3)) x T D A)
    (n : ℕ) (hn : 0 + n < cfg0.N) (s : Fin 6) (r : Fin 128) (k : Fin 256) :
    (Pipeline.accAt (fun n h => Value.stAt0 m c n h Value.junk0) (Value.stAt0 m c) 0 n hn).1 (ix3 s r k) = (yS 0 (xN (x s)) (dN (T s) D) A (n * 128 + r.val) k : EReal)
    ∧ (Pipeline.accAt (fun n h => Value.stAt0 m c n h Value.junk0) (Value.stAt0 m c) 0 n hn).2 (ix3 s r k) = (st128 0 (xN (x s)) (dN (T s) D) A ((n + 1) * 128) r k : EReal) := by
  rw [← Value.outsAt0_sweep m c n (by omega)]
  induction n generalizing s r k with
  | zero =>
    rw [Value.outsAt0_zero]
    exact point m c H ⟨0, by omega⟩ _ (fun h => absurd rfl h) s r k
  | succ n ih =>
    rw [Value.outsAt0_succ]
    exact point m c H ⟨n + 1, by omega⟩ _ (fun _ s r k => (ih (by omega) s r k).2) s r k

/-- The call's result: every token's output. -/
theorem G_up (H : Real4 (m ((c : Thread nD τ).loc main_arg0)) (m ((c : Thread nD τ).loc main_arg1)) (m ((c : Thread nD τ).loc main_arg2)) (m ((c : Thread nD τ).loc main_arg3)) x T D A)
    (s : Fin 6) (t : Fin 8192) (k : Fin 256) :
    (Value.G4 m c : Vec Ideal S6x8192x256 .f32) (ix3 s t k) = (yS 0 (xN (x s)) (dN (T s) D) A t.val k : EReal) := by
  have hp : Value.pt4Of (ix3 s t k : S6x8192x256.Idx) = t.val / 128 := by
    show 64 * (s.val / 6 - 0) + 1 * (t.val / 128 - 0) + 1 * (k.val / 256 - 0) = _
    omega
  have hl : Value.loc4Of (ix3 s t k : S6x8192x256.Idx) = ix3 s (⟨t.val % 128, by omega⟩ : Fin 128) k := by
    funext a; apply Fin.ext
    match a with
    | ⟨0, _⟩ => show s.val % 6 = s.val; omega
    | ⟨1, _⟩ => rfl
    | ⟨2, _⟩ => show k.val % 256 = k.val; omega
  have hN : cfg0.N = 64 := N_0
  unfold Value.G4
  rw [dif_pos (by rw [hp]; omega), hl, Value.fold0_congr m c _ _ (t.val / 128) (by omega) hp, (fold m c H _ _ s _ k).1]
  congr 2
  show t.val / 128 * 128 + t.val % 128 = _
  omega

end Cert.Ssd
-- ==== Proof.SsdRefValue.lean ====
module

public import proofs.«01_k».proof.Proof.SsdRefLoop
public import proofs.«01_k».proof.Proof.SsdKernel
public import proofs.«01_k».proof.Proof.Gen.ReferenceIdeal.Run

/-! What the forward scan's reference leaves in its result, for arguments of real numbers. -/

@[expose] public section

noncomputable section

namespace Cert.Ssd.Ref

open Cert.ReferenceIdeal Cert.ReferenceIdeal.Gen Cert.ReferenceIdeal.Value Idealize.ShloMosaic Idealize.ShloMosaic.TcCoe Idealize.ShloMosaic.StableHlo

variable (m : (ℓ : Loc nD τ sig) → Buf (Elt Ideal) ℓ) (c : Dev nD)

/-- The carried buffers after `n` trips. -/
abbrev V (n : ℕ) : Valuation τ sig (Elt Ideal) := STEP^[n] (entryContents preI m c)

/-- A buffer that every trip keeps holds what it holds at the loop's entry. -/
theorem keep (r : DevRef τ sig) (h : ∀ V0 : Valuation τ sig (Elt Ideal), STEP V0 r = V0 r) (n : ℕ) : V m c n r = entryContents preI m c r := by
  induction n with
  | zero => rfl
  | succ n ih => rw [V, Function.iterate_succ_apply', h]; exact ih

/-- One more trip. -/
theorem onward (n : ℕ) : V m c (n + 1) = STEP (V m c n) := Function.iterate_succ_apply' _ _ _

/-- The counter counts the trips. -/
theorem ctr (n : ℕ) : V m c n (Proc.devRef .tc main_v33_6) = fun _ => BitVec.ofNat 32 n := by
  induction n with
  | zero =>
    show entryContents preI m c (Proc.devRef .tc main_v33_6) = _
    simp only [entryContents, afterL_cons, afterL_nil]; after_reads_simp; rfl
  | succ n ih =>
    rw [onward, STEP_main_v33_6]
    unfold step_main_v33_6
    rw [ih]
    funext i
    show BitVec.ofNat 32 n + 1#32 = BitVec.ofNat 32 (n + 1)
    simp only [BitVec.ofNat_add]

/-- What one trip makes of the state. -/
theorem step_S (V0 : Valuation τ sig (Elt Ideal)) : step_main_v33_7 V0
    = sR (pick (V0 (Proc.devRef .tc main_v33_2)) (V0 (Proc.devRef .tc main_v33_6))) (xdt (pick (V0 (Proc.devRef .tc main_v33_0)) (V0 (Proc.devRef .tc main_v33_6))) (pickD (V0 (Proc.devRef .tc main_v33_1)) (V0 (Proc.devRef .tc main_v33_6))))
      (V0 (Proc.devRef .tc main_v33_7)) (cum (rate (pickD (V0 (Proc.devRef .tc main_v33_1)) (V0 (Proc.devRef .tc main_v33_6))) (V0 (Proc.devRef .tc main_v33_4)))) := rfl

/-- What one trip makes of the outputs. -/
theorem step_Y (V0 : Valuation τ sig (Elt Ideal)) : step_main_v33_8 V0
    = put (V0 (Proc.devRef .tc main_v33_8)) (V0 (Proc.devRef .tc main_v33_6)) (yR (pick (V0 (Proc.devRef .tc main_v33_3)) (V0 (Proc.devRef .tc main_v33_6)))
      (pick (V0 (Proc.devRef .tc main_v33_2)) (V0 (Proc.devRef .tc main_v33_6))) (xdt (pick (V0 (Proc.devRef .tc main_v33_0)) (V0 (Proc.devRef .tc main_v33_6))) (pickD (V0 (Proc.devRef .tc main_v33_1)) (V0 (Proc.devRef .tc main_v33_6))))
      (V0 (Proc.devRef .tc main_v33_7)) (cum (rate (pickD (V0 (Proc.devRef .tc main_v33_1)) (V0 (Proc.devRef .tc main_v33_6))) (V0 (Proc.devRef .tc main_v33_4)))) (V0 (Proc.devRef .tc main_v33_5))) := by
  have h40 : res_main_while0b_v40 V0 = pick (V0 (Proc.devRef .tc main_v33_3)) (V0 (Proc.devRef .tc main_v33_6)) := rfl
  have h39 : res_main_while0b_v39 V0 = pick (V0 (Proc.devRef .tc main_v33_2)) (V0 (Proc.devRef .tc main_v33_6)) := rfl
  have h46 : res_main_while0b_v46 V0 = cum (rate (pickD (V0 (Proc.devRef .tc main_v33_1)) (V0 (Proc.devRef .tc main_v33_6))) (V0 (Proc.devRef .tc main_v33_4))) := rfl
  have h57 : res_main_while0b_v57 V0 = xdt (pick (V0 (Proc.devRef .tc main_v33_0)) (V0 (Proc.devRef .tc main_v33_6))) (pickD (V0 (Proc.devRef .tc main_v33_1)) (V0 (Proc.devRef .tc main_v33_6))) := rfl
  unfold step_main_v33_8
  rw [h40, h39, h46, h57]
  generalize cum _ = g
  generalize xdt _ _ = xd
  generalize pick (V0 (Proc.devRef .tc main_v33_3)) _ = C
  generalize pick _ _ = B
  rfl

/-- An argument's array. -/
abbrev arg (r : Ref sig .tc) := m ((c : Thread nD τ).loc r)

set_option maxRecDepth 65536 in
set_option maxHeartbeats 400000 in
/-- The loop's inputs at its entry, as functions of the arguments. -/
theorem entry :
    entryContents preI m c (Proc.devRef .tc main_v33_0) = Step.A_main_v24 (arg m c main_arg0) (arg m c main_arg1) (arg m c main_arg2) (arg m c main_arg3)
    ∧ entryContents preI m c (Proc.devRef .tc main_v33_1) = Step.A_main_v27 (arg m c main_arg0) (arg m c main_arg1) (arg m c main_arg2) (arg m c main_arg3)
    ∧ entryContents preI m c (Proc.devRef .tc main_v33_2) = Step.A_main_v29 (arg m c main_arg0) (arg m c main_arg1) (arg m c main_arg2) (arg m c main_arg3)
    ∧ entryContents preI m c (Proc.devRef .tc main_v33_3) = Step.A_main_v31 (arg m c main_arg0) (arg m c main_arg1) (arg m c main_arg2) (arg m c main_arg3)
    ∧ entryContents preI m c (Proc.devRef .tc main_v33_4) = Step.A_main_v19 (arg m c main_arg0) (arg m c main_arg1) (arg m c main_arg2) (arg m c main_arg3)
    ∧ entryContents preI m c (Proc.devRef .tc main_v33_5) = Step.K_main_v21 (F := Ideal)
    ∧ entryContents preI m c (Proc.devRef .tc main_v33_7) = Step.K_main_v22 (F := Ideal) := by
  refine ⟨?_, ?_, ?_, ?_, ?_, ?_, ?_⟩ <;> (simp only [entryContents, afterL_cons, afterL_nil]; after_reads_simp) <;> rfl

section
open Cert.ReferenceIdeal.Step
variable {a0 : FVec Ideal S6x8192x512 .bf16} {a1 : FVec Ideal S6x8192x128 .f32} {a2 a3 : FVec Ideal S1x128 .f32}
  {x : Fin 6 → Fin 8192 → Fin 512 → ℝ} {T : Fin 6 → Fin 8192 → Fin 128 → ℝ} {D A : Fin 128 → ℝ}

/-- For arguments of real numbers the loop's inputs are the tokens by chunks. -/
theorem chunks (H : Real4 a0 a1 a2 a3 x T D A) :
    Chunks 0 (fun s => xN (x s)) (fun s => dN (T s) D) A (A_main_v24 (F := Ideal) a0 a1 a2 a3) (A_main_v27 (F := Ideal) a0 a1 a2 a3) (A_main_v29 (F := Ideal) a0 a1 a2 a3)
      (A_main_v31 (F := Ideal) a0 a1 a2 a3) (A_main_v19 (F := Ideal) a0 a1 a2 a3) (K_main_v21 (F := Ideal)) where
  hx n s h r p := (x_at a0 a1 a2 a3 n s h r p).trans ((H.hx _ _ _).trans (congrArg _ (by rw [xN, dif_pos (by omega)])))
  hB n s h r k p := (B_at a0 a1 a2 a3 n s h r k p).trans ((H.hx _ _ _).trans (congrArg _ (by rw [xN, dif_pos (by omega)])))
  hC n s h r k p := (C_at a0 a1 a2 a3 n s h r k p).trans ((H.hx _ _ _).trans (congrArg _ (by rw [xN, dif_pos (by omega)])))
  ha h := (a_at a0 a1 a2 a3 h).trans (H.hA _)
  hm := m_at
  hd n s h r := by
    rw [d_at, H.hT, H.hD, ← EReal.coe_add, sp_up, dN, dif_pos (by omega)]

end

variable {x : Fin 6 → Fin 8192 → Fin 512 → ℝ} {T : Fin 6 → Fin 8192 → Fin 128 → ℝ} {D A : Fin 128 → ℝ}

/-- The reference's result is the scan. -/
theorem out_up (H : Real4 (arg m c main_arg0) (arg m c main_arg1) (arg m c main_arg2) (arg m c main_arg3) x T D A) (s : Fin 6) (t : Fin 8192) (k : Fin 256) :
    (out_main_v36 (V m c 128) : FVec Ideal S6x8192x256 .f32) (ix3 s t k) = (yS 0 (xN (x s)) (dN (T s) D) A t.val k : EReal) := by
  obtain ⟨e0, e1, e2, e3, e4, e5, e7⟩ := entry m c
  have k0 := fun n => (keep m c _ STEP_main_v33_0 n).trans e0
  have k1 := fun n => (keep m c _ STEP_main_v33_1 n).trans e1
  have k2 := fun n => (keep m c _ STEP_main_v33_2 n).trans e2
  have k3 := fun n => (keep m c _ STEP_main_v33_3 n).trans e3
  have k4 := fun n => (keep m c _ STEP_main_v33_4 n).trans e4
  have k5 := fun n => (keep m c _ STEP_main_v33_5 n).trans e5
  have L := (loop (chunks H) (fun n => V m c n (Proc.devRef .tc main_v33_7)) (fun n => V m c n (Proc.devRef .tc main_v33_8))
    (fun s h k p => by
      show V m c 0 (Proc.devRef .tc main_v33_7) _ = _
      rw [show V m c 0 (Proc.devRef .tc main_v33_7) = _ from e7]
      pointwise [Step.K_main_v22, Step.K_main_cst])
    (fun n _ => by
      show V m c (n + 1) (Proc.devRef .tc main_v33_7) = _
      rw [onward, STEP_main_v33_7, step_S, ctr m c n, k0 n, k1 n, k2 n, k4 n]
      rfl)
    (fun n _ => by
      show V m c (n + 1) (Proc.devRef .tc main_v33_8) = _
      rw [onward, STEP_main_v33_8, step_Y, ctr m c n, k0 n, k1 n, k2 n, k3 n, k4 n, k5 n]
      rfl)
    128 (le_refl _)).2
  refine (back (V m c 128 (Proc.devRef .tc main_v33_8)) s t k).trans ((L _ (by show t.val / 64 < 128; omega) _ _ _ _).trans ?_)
  have ht : 64 * (t.val / 64) + t.val % 64 = t.val := by omega
  have hk : cc (⟨k.val / 64, by omega⟩ : Fin 4) (⟨k.val % 64, by omega⟩ : Fin 64) = k := Fin.ext (by show 64 * (k.val / 64) + k.val % 64 = k.val; omega)
  rw [hk]
  show ((yS 0 (xN (x s)) (dN (T s) D) A (64 * (t.val / 64) + t.val % 64) k : ℝ) : EReal) = _
  rw [ht]

end Cert.Ssd.Ref
-- ==== Proof.SsdPre.lean ====
module

public import proofs.«01_k».proof.Proof.SsdKernel
public import proofs.«01_k».proof.Defs
public import Idealize.ShloMosaic.Lib.ReduceAll

/-! Arguments whose absolute values are below infinity are real numbers. -/

@[expose] public section

noncomputable section

namespace Cert.Ssd

open Idealize.ShloMosaic Idealize.ShloMosaic.TcCoe

/-- The test of one value. -/
abbrev isFin (v : EReal) : BitVec 1 := FloatOps.cmpf (F := Ideal) (φ := .f32) .olt (FloatOps.absf (F := Ideal) (φ := .f32) v) (FloatOps.ofBits (F := Ideal) .f32 0x7F800000#32)

/-- A value whose absolute value is below infinity is a real number. -/
theorem real_of_lt (v : EReal) (h : isFin v = 1#1) : v = ((EReal.toReal v : ℝ) : EReal) := by
  refine (EReal.coe_toReal ?_ ?_).symm
  · rintro rfl
    revert h
    pointwise [isFin]
    rw [show (FloatOps.absf (F := Ideal) (φ := .f32) (⊤ : EReal) : EReal) = ⊤ from max_eq_left le_top, decide_eq_false not_top_lt]
    decide
  · rintro rfl
    revert h
    pointwise [isFin]
    rw [show (FloatOps.absf (F := Ideal) (φ := .f32) (⊥ : EReal) : EReal) = ⊤ from max_eq_right bot_le, decide_eq_false not_top_lt]
    decide

variable [Cert.Pre_finite.Facts]
open Cert.Pre_finite

/-- The shape of one value has one index. -/
theorem one_idx : Subsingleton S_.Idx := ⟨fun a b => funext fun i => i.elim0⟩

/-- The precondition says that every entry of the four arguments is below infinity. -/
theorem pre_all (a0 : FVec Ideal S6x8192x512 .bf16) (a1 : FVec Ideal S6x8192x128 .f32) (a2 a3 : FVec Ideal S1x128 .f32)
    (h : Cert.Pre_finite.fn (F := Ideal) a0 a1 a2 a3 = fun _ => 1#1) :
    (∀ i, isFin (a0 i) = 1#1) ∧ (∀ i, isFin (a1 i) = 1#1) ∧ (∀ i, isFin (a2 i) = 1#1) ∧ ∀ i, isFin (a3 i) = 1#1 := by
  haveI := one_idx
  have h' := congrFun h (Shape.Idx.first Facts.h_S_)
  simp only [Cert.Pre_finite.fn, Cert.Pre_finite.fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => Host.reduce_andi_all _ _ _ _ _ h0 i, fun i => Host.reduce_andi_all _ _ _ _ _ h1 i, fun i => Host.reduce_andi_all _ _ _ _ _ h2 i, fun i => Host.reduce_andi_all _ _ _ _ _ h3 i⟩

/-- Arguments of the precondition are real numbers. -/
theorem real4 (a0 : FVec Ideal S6x8192x512 .bf16) (a1 : FVec Ideal S6x8192x128 .f32) (a2 a3 : FVec Ideal S1x128 .f32)
    (h : Cert.Pre_finite.fn (F := Ideal) a0 a1 a2 a3 = fun _ => 1#1) :
    Real4 a0 a1 a2 a3 (fun s t k => EReal.toReal (a0 (ix3 s t k))) (fun s t k => EReal.toReal (a1 (ix3 s t k))) (fun k => EReal.toReal (a2 (ix2 0 k))) (fun k => EReal.toReal (a3 (ix2 0 k))) := by
  obtain ⟨h0, h1, h2, h3⟩ := pre_all a0 a1 a2 a3 h
  exact ⟨fun s t k => real_of_lt _ (h0 _), fun s t k => real_of_lt _ (h1 _), fun k => real_of_lt _ (h2 _), fun k => real_of_lt _ (h3 _)⟩

end Cert.Ssd
-- ==== Proof.SsdValue.lean ====
module

public import proofs.«01_k».proof.Proof.SsdRefValue
public import proofs.«01_k».proof.Proof.SsdPre
public import proofs.«01_k».proof.Proof.Gen.KernelIdeal.Value

/-! The forward scan: the call and its reference leave the same result. -/

@[expose] public section

noncomputable section

namespace Cert.Ssd

open Idealize.ShloMosaic Idealize.ShloMosaic.TcCoe Idealize.SL.Sem

instance preFacts : Cert.Pre_finite.Facts := by
  constructor <;> decide +kernel

/-- The forward scan's call computes what its reference computes, for arguments of finite values. -/
theorem claim : Cert.algebraic_KernelIdeal_ReferenceIdeal_pre_finite (hKernelIdeal := Cert.KernelIdeal.Gen.facts) (hReferenceIdeal := Cert.ReferenceIdeal.Gen.facts) (hPre_finite := preFacts) := by
  intro m g m' g' hpre hagree
  refine ⟨fun c => Cert.KernelIdeal.Value.G4 m c, Cert.KernelIdeal.Value.run m g,
    (θ_run _ _ _).mono (fun r h c => ⟨(h c).1.trans ?_, (h c).2⟩) (Cert.ReferenceIdeal.Value.run m' g')⟩
  obtain ⟨h0, h1, h2, h3⟩ := hagree c
  obtain ⟨x, T, D, A, H⟩ : ∃ x T D A, Real4 (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) x T D A :=
    ⟨_, _, _, _, real4 _ _ _ _ (hpre c)⟩
  have H' := H
  rw [← h0, ← h1, ← h2, ← h3] at H'
  funext i
  have e : i = ix3 (i 0) (i 1) (i 2) := by
    funext a; match a with
    | ⟨0, _⟩ => rfl
    | ⟨1, _⟩ => rfl
    | ⟨2, _⟩ => rfl
  rw [e]
  exact (Ref.out_up m' c H' (i 0) (i 1) (i 2)).trans (G_up m c H (i 0) (i 1) (i 2)).symm

end Cert.Ssd
-- ==== Proof.InpBlock.lean ====
module

public import proofs.«01_k».proof.Proof.FfnBlock
public import proofs.«01_k».proof.Proof.SsdReal
public import proofs.«01_k».proof.Proof.Gen.Kernel7Ideal.Value
public import Idealize.ShloMosaic.Lib.Pipeline.CanonAppend

/-! The input projections' kernel body, read one token at a time: normalise the row, project it, and for two of the
results filter each channel over three neighbouring tokens, the outer two taken from the neighbouring blocks. -/

@[expose] public section

noncomputable section

namespace Cert.Inp

open Cert.Kernel7Ideal Cert.Kernel7Ideal.Gen Idealize.ShloMosaic
open Cert.Ffn (nrow)

/-- One projected channel of one token: the normalised row against a weight column. -/
def pr (row nw w : Fin 1024 → EReal) : EReal := ∑ k, nrow row nw k * w k

/-- The filter at one token: bias, previous, own and next channel value. -/
def tap (b w0 w1 w2 p q n : EReal) : EReal := b + p * w0 + q * w1 + n * w2

/-- The gate `v * logistic v`. -/
def sw (v : EReal) : EReal := v * Ideal.logistic v

/-- A choice by an equality of two small words is a choice by the numbers' equality. -/
theorem pick {α : Type} (n k : ℕ) (hn : n < 1024) (hk : k < 1024) (a b : α) :
    Scalar.select (IntOp.cmpi .eq (BitVec.ofNat 32 n) (BitVec.ofNat 32 k)) a b = if n = k then a else b := by
  rw [Cert.Ssd.eq_ofNat _ _ (by omega) (by omega), Cert.Ssd.sel_if]

/-- The first half's normalised rows. -/
theorem rows_apply (w : Vec Ideal S1x1024 .f32) (x : Vec Ideal S1x512x1024 .f32) (r : Fin 512) (k : Fin 1024) :
    (k0_pay5 w x (ix2 r k) : EReal) = nrow (fun k => x (ix3 0 r k)) (fun k => w (ix2 0 k)) k := by
  pointwise [k0_pay5, k0_pay4, nrow]

/-- The neighbouring blocks' normalised rows. -/
theorem halo_apply (w : Vec Ideal S1x1024 .f32) (a b : Vec Ideal S1x8x1024 .f32) (r : Fin 16) (k : Fin 1024) :
    (k0_pay9 (k0_pay4 w) (k0_pay7 a b) (k0_pay8 a b) (ix2 r k) : EReal) = nrow (fun k => k0_pay7 a b (ix2 r k)) (fun k => w (ix2 0 k)) k := by
  unfold k0_pay8
  generalize k0_pay7 a b = y
  pointwise [k0_pay9, k0_pay4, nrow]

/-- The last row of the block before. -/
theorem halo_before (a b : Vec Ideal S1x8x1024 .f32) (k : Fin 1024) : (k0_pay7 a b (ix2 7 k) : EReal) = a (ix3 0 7 k) := by
  pointwise [k0_pay7]

/-- The first row of the block after. -/
theorem halo_after (a b : Vec Ideal S1x8x1024 .f32) (k : Fin 1024) : (k0_pay7 a b (ix2 8 k) : EReal) = b (ix3 0 0 k) := by
  pointwise [k0_pay7]

/-- The norm's weights are read whole. -/
theorem nw_ld (x3 : Vec Ideal S1x1024 .f32) : View.ld x3 r0_0 = x3 := View.ld_unit_zero (by funext a; fin_cases a <;> rfl) _ _

/-- The first 512 rows of a block, normalised. -/
theorem lo_apply (x3 : Vec Ideal S1x1024 .f32) (x0 : Vec Ideal S1x1024x1024 .f32) (r : Fin 512) (k : Fin 1024) :
    (k0_pay5 x3 (View.ld x0 r0_1) (ix2 r k) : EReal) = nrow (fun k => x0 (ix3 0 ⟨r.val, by omega⟩ k)) (fun k => x3 (ix2 0 k)) k := by
  rw [rows_apply, View.ld_unit]
  refine congrArg (fun f => nrow f _ k) (funext fun k => ?_)
  pointwise

/-- The last 512 rows of a block, normalised. -/
theorem hi_apply (x3 : Vec Ideal S1x1024 .f32) (x0 : Vec Ideal S1x1024x1024 .f32) (r : Fin 512) (k : Fin 1024) :
    (k0_pay6 x3 (View.ld x0 r0_2) (ix2 r k) : EReal) = nrow (fun k => x0 (ix3 0 ⟨512 + r.val, by omega⟩ k)) (fun k => x3 (ix2 0 k)) k := by
  refine (rows_apply x3 (View.ld x0 r0_2) r k).trans ?_
  rw [View.ld_unit]
  refine congrArg (fun f => nrow f _ k) (funext fun k => ?_)
  pointwise

/-- The value one token before, in a block: the first token's comes from the block before, unless there is none. -/
def bk (q : (Fin 1024 → EReal) → EReal) (j : ℕ) (x0 : Fin 1024 → Fin 1024 → EReal) (z : Fin 1024 → EReal) (r : Fin 1024) : EReal :=
  if r.val = 0 then (if j = 0 then 0 else q z) else q (x0 ⟨r.val - 1, by omega⟩)

/-- The value one token after, in a block. -/
def fw (q : (Fin 1024 → EReal) → EReal) (j : ℕ) (x0 : Fin 1024 → Fin 1024 → EReal) (z : Fin 1024 → EReal) (r : Fin 1024) : EReal :=
  if h : r.val = 1023 then (if j = 7 then 0 else q z) else q (x0 ⟨r.val + 1, by omega⟩)

section Rows
variable {u v : FVec Ideal S512x1024 .bf16} {X : Fin 1024 → Fin 1024 → EReal} {nw : Fin 1024 → EReal}
  (hu : ∀ (r : Fin 512) (k : Fin 1024), (u (ix2 r k) : EReal) = nrow (X ⟨r.val, by omega⟩) nw k)
  (hv : ∀ (r : Fin 512) (k : Fin 1024), (v (ix2 r k) : EReal) = nrow (X ⟨512 + r.val, by omega⟩) nw k)
include hu hv

/-- The channels-first projection of a block. -/
theorem chan_apply (w : Vec Ideal S768x1024 .bf16) (c : Fin 768) (r : Fin 1024) :
    (k0_pay10 u v w w (ix2 c r) : EReal) = pr (X r) nw (fun k => w (ix2 c k)) := by
  have e : (k0_pay10 u v w w (ix2 c r) : EReal) = if h : r.val < 512 then ∑ k, w (ix2 c k) * u (ix2 ⟨r.val, h⟩ k) else ∑ k, w (ix2 c k) * v (ix2 ⟨r.val - 512, by omega⟩ k) := by
    pointwise [k0_pay10]
  rw [e, pr]
  split
  · next h => exact Finset.sum_congr rfl fun k _ => by rw [hu, mul_comm]
  · next h =>
    have hr : (⟨512 + (r.val - 512), by omega⟩ : Fin 1024) = r := Fin.ext (by simp only; omega)
    exact Finset.sum_congr rfl fun k _ => by rw [hv, mul_comm, hr]

/-- The tokens-first projection of a block. -/
theorem tok_apply (w : Vec Ideal S1024x512 .bf16) (r : Fin 1024) (c : Fin 512) :
    (k0_pay15 u v w (ix2 r c) : EReal) = pr (X r) nw (fun k => w (ix2 k c)) := by
  have e : (k0_pay15 u v w (ix2 r c) : EReal) = if h : r.val < 512 then ∑ k : Fin 1024, u (ix2 ⟨r.val, h⟩ k) * w (ix2 k c) else ∑ k : Fin 1024, v (ix2 ⟨r.val - 512, by omega⟩ k) * w (ix2 k c) := by
    pointwise [k0_pay15]
  rw [e, pr]
  split
  · next h => exact Finset.sum_congr rfl fun k _ => by rw [hu]
  · next h =>
    have hr : (⟨512 + (r.val - 512), by omega⟩ : Fin 1024) = r := Fin.ext (by simp only; omega)
    exact Finset.sum_congr rfl fun k _ => by rw [hv, hr]

section Halo
variable {n : FVec Ideal S1x1024 .f32} {x y : FVec Ideal S16x1024 .f32} {za zb : Fin 1024 → EReal} (ha : ∀ k, (k0_pay9 n x y (ix2 7 k) : EReal) = nrow za nw k)
  (hb : ∀ k, (k0_pay9 n x y (ix2 8 k) : EReal) = nrow zb nw k)
include ha hb

/-- The filtered channels, channels first. -/
theorem chan_tap (w : Vec Ideal S768x1024 .bf16) (w' : Vec Ideal S1024x768 .bf16) (hw : ∀ c k, (w (ix2 c k) : EReal) = w' (ix2 k c)) (f : Vec Ideal S768x4 .f32)
    (j : ℕ) (hj : j < 8) (c : Fin 768) (r : Fin 1024) :
    (k0_pay14 (k0_pay10 u v w w) (k0_pay12 (BitVec.ofNat 32 j) n x y w') (iota .tc S1x1024 32 [1] iota_S1x1024_d1_w32)
      (k0_pay13 (BitVec.ofNat 32 j) n u v x y w w w') f (ix3 0 c r) : EReal)
    = tap (f (ix2 c 3)) (f (ix2 c 0)) (f (ix2 c 1)) (f (ix2 c 2)) (bk (fun z => pr z nw (fun k => w' (ix2 k c))) j X za r) (pr (X r) nw (fun k => w' (ix2 k c)))
      (fw (fun z => pr z nw (fun k => w' (ix2 k c))) j X zb r) := by
  have hP := chan_apply hu hv w c
  have h7 : (k0_pay11 n x y w' (ix2 c 7) : EReal) = pr za nw (fun k => w' (ix2 k c)) := by
    have e : (k0_pay11 n x y w' (ix2 c 7) : EReal) = ∑ k : Fin 1024, k0_pay9 n x y (ix2 7 k) * w' (ix2 k c) := by
      unfold k0_pay11; generalize k0_pay9 n x y = z; pointwise
    rw [e, pr]; exact Finset.sum_congr rfl fun k _ => by rw [ha]
  have h8 : (k0_pay11 n x y w' (ix2 c 8) : EReal) = pr zb nw (fun k => w' (ix2 k c)) := by
    have e : (k0_pay11 n x y w' (ix2 c 8) : EReal) = ∑ k : Fin 1024, k0_pay9 n x y (ix2 8 k) * w' (ix2 k c) := by
      unfold k0_pay11; generalize k0_pay9 n x y = z; pointwise
    rw [e, pr]; exact Finset.sum_congr rfl fun k _ => by rw [hb]
  have hB : (k0_pay13 (BitVec.ofNat 32 j) n u v x y w w w' (ix2 c r) : EReal) = bk (fun z => pr z nw (fun k => w' (ix2 k c))) j X za r := by
    have e : (k0_pay13 (BitVec.ofNat 32 j) n u v x y w w w' (ix2 c r) : EReal) = Scalar.select (IntOp.cmpi .eq (BitVec.ofNat 32 r.val) (BitVec.ofNat 32 0))
        (Scalar.select (IntOp.cmpi .eq (BitVec.ofNat 32 j) (BitVec.ofNat 32 0)) 0 (k0_pay11 n x y w' (ix2 c 7))) (k0_pay10 u v w w (ix2 c ⟨(r.val + 1024 - 1) % 1024, by omega⟩)) := by
      unfold k0_pay13; generalize k0_pay10 u v w w = P; generalize k0_pay11 n x y w' = Q; pointwise; rfl
    rw [e, pick _ _ r.isLt (by omega), pick _ _ (by omega) (by omega), h7, hP, bk]
    simp only [hw]
    split
    · rfl
    · next h => exact congrArg (fun s => pr (X s) nw _) (Fin.ext (by simp only; omega))
  have hN : (k0_pay12 (BitVec.ofNat 32 j) n x y w' (ix2 c 0) : EReal) = if j = 7 then 0 else pr zb nw (fun k => w' (ix2 k c)) := by
    have e : (k0_pay12 (BitVec.ofNat 32 j) n x y w' (ix2 c 0) : EReal) = Scalar.select (IntOp.cmpi .eq (BitVec.ofNat 32 j) (BitVec.ofNat 32 7)) 0 (k0_pay11 n x y w' (ix2 c 8)) := by
      unfold k0_pay12; generalize k0_pay11 n x y w' = Q; pointwise; rfl
    rw [e, pick _ _ (by omega) (by omega), h8]
  have e : ∀ (P : FVec Ideal S768x1024 .f32) (N : FVec Ideal S768x1 .f32) (B : FVec Ideal S768x1024 .f32),
      (k0_pay14 P N (iota .tc S1x1024 32 [1] iota_S1x1024_d1_w32) B f (ix3 0 c r) : EReal) = tap (f (ix2 c 3)) (f (ix2 c 0)) (f (ix2 c 1)) (f (ix2 c 2)) (B (ix2 c r)) (P (ix2 c r))
        (Scalar.select (IntOp.cmpi .eq (BitVec.ofNat 32 r.val) (BitVec.ofNat 32 1023)) (N (ix2 c 0)) (P (ix2 c ⟨(r.val + 1024 - 1023) % 1024, by omega⟩))) := by
    intro P N B; pointwise [k0_pay14, tap]
  rw [e, hB, hP, hP, hN, pick _ _ r.isLt (by omega), fw]
  simp only [hw]
  refine congrArg (tap _ _ _ _ _ _) ?_
  by_cases h : r.val = 1023
  · rw [if_pos h, dif_pos h]
  · rw [if_neg h, dif_neg h]
    exact congrArg (fun s => pr (X s) nw _) (Fin.ext (by simp only; omega))

/-- The filtered channels, tokens first, through the gate `v * logistic v`. -/
theorem tok_tap (w : Vec Ideal S1024x512 .bf16) (f : Vec Ideal S3x512 .f32) (b : Vec Ideal S1x512 .f32) (j : ℕ) (hj : j < 8) (r : Fin 1024) (c : Fin 512) :
    (k0_pay21 (k0_pay15 u v w) (k0_pay17 (k0_pay9 n x y) (Scalar.cmpi .eq (BitVec.ofNat 32 j) 0#32) w) (k0_pay18 (k0_pay9 n x y) (Scalar.cmpi .eq (BitVec.ofNat 32 j) 7#32) w)
      (iota .tc S1024x1 32 [0] iota_S1024x1_d0_w32) (k0_pay19 u v w) k0_pay20 f b (ix3 0 r c) : EReal)
    = sw (tap (b (ix2 0 c)) (f (ix2 0 c)) (f (ix2 1 c)) (f (ix2 2 c)) (bk (fun z => pr z nw (fun k => w (ix2 k c))) j X za r) (pr (X r) nw (fun k => w (ix2 k c)))
      (fw (fun z => pr z nw (fun k => w (ix2 k c))) j X zb r)) := by
  have hP := fun s => tok_apply hu hv w s c
  have h7 : (∑ k : Fin 1024, k0_pay9 n x y (ix2 7 k) * w (ix2 k c) : EReal) = pr za nw (fun k => w (ix2 k c)) := Finset.sum_congr rfl fun k _ => by rw [ha]
  have h8 : (∑ k : Fin 1024, k0_pay9 n x y (ix2 8 k) * w (ix2 k c) : EReal) = pr zb nw (fun k => w (ix2 k c)) := Finset.sum_congr rfl fun k _ => by rw [hb]
  have hB : (k0_pay19 u v w (ix2 r c) : EReal) = k0_pay15 u v w (ix2 ⟨(r.val + 1024 - 1) % 1024, by omega⟩ c) := by
    unfold k0_pay19; generalize k0_pay15 u v w = P; pointwise
  have e : ∀ P B : FVec Ideal S1024x512 .f32,
      (k0_pay21 P (k0_pay17 (k0_pay9 n x y) (Scalar.cmpi .eq (BitVec.ofNat 32 j) 0#32) w) (k0_pay18 (k0_pay9 n x y) (Scalar.cmpi .eq (BitVec.ofNat 32 j) 7#32) w)
        (iota .tc S1024x1 32 [0] iota_S1024x1_d0_w32) B k0_pay20 f b (ix3 0 r c) : EReal)
      = sw (tap (b (ix2 0 c)) (f (ix2 0 c)) (f (ix2 1 c)) (f (ix2 2 c))
        (Scalar.select (IntOp.cmpi .eq (BitVec.ofNat 32 r.val) (BitVec.ofNat 32 0)) (Scalar.select (IntOp.cmpi .eq (BitVec.ofNat 32 j) (BitVec.ofNat 32 0)) 0
          (∑ k : Fin 1024, k0_pay9 n x y (ix2 7 k) * w (ix2 k c))) (B (ix2 r c)))
        (P (ix2 r c))
        (Scalar.select (IntOp.cmpi .eq (BitVec.ofNat 32 r.val) (BitVec.ofNat 32 1023)) (Scalar.select (IntOp.cmpi .eq (BitVec.ofNat 32 j) (BitVec.ofNat 32 7)) 0
          (∑ k : Fin 1024, k0_pay9 n x y (ix2 8 k) * w (ix2 k c))) (P (ix2 ⟨(r.val + 1024 - 1023) % 1024, by omega⟩ c)))) := by
    intro P B
    generalize k0_pay9 n x y = z
    pointwise [k0_pay21, k0_pay17, k0_pay18, k0_pay20, k0_pay16, sw, tap]
    rfl
  rw [e, hB, h7, h8, hP, hP, hP, pick _ _ r.isLt (by omega), pick _ _ r.isLt (by omega), pick _ _ (by omega) (by omega), pick _ _ (by omega) (by omega), bk, fw]
  refine congrArg sw ?_
  congr 1
  · split
    · rfl
    · next h => exact congrArg (fun s => pr (X s) nw _) (Fin.ext (by simp only; omega))
  · by_cases h : r.val = 1023
    · rw [if_pos h, dif_pos h]
    · rw [if_neg h, dif_neg h]
      exact congrArg (fun s => pr (X s) nw _) (Fin.ext (by simp only; omega))

end Halo

end Rows

/-- A window's column of the joined weights. -/
theorem cols_ld {W : ℕ} (x7 : Vec Ideal S1024x2944 .bf16) (o : ℕ) (inb : ∀ a, (![0, o] : Fin 2 → ℕ) a + (⟨2, ![1024, W]⟩ : Shape).size a ≤ S1024x2944.size a) (k : Fin 1024) (c : Fin W)
    (h : o + c.val < 2944) : ((View.ld x7 (Rect.unit (s := S1024x2944) ![0, o] (⟨2, ![1024, W]⟩ : Shape).size inb) : Vec Ideal ⟨2, ![1024, W]⟩ .bf16) (ix2 k c) : EReal) = x7 (ix2 k ⟨o + c.val, h⟩) := by
  rw [View.ld_unit]
  pointwise

/-- Two stored halves are one block. -/
theorem stack {W : ℕ} {t : EltTy} (P1 P0 : Vec Ideal ⟨3, ![1, 512, W]⟩ t) (g : Fin 1024 → Fin W → Elt Ideal t)
    (i1 : ∀ a, (![0, 512, 0] : Fin 3 → ℕ) a + (⟨3, ![1, 512, W]⟩ : Shape).size a ≤ (⟨3, ![1, 1024, W]⟩ : Shape).size a)
    (i0 : ∀ a, (![0, 0, 0] : Fin 3 → ℕ) a + (⟨3, ![1, 512, W]⟩ : Shape).size a ≤ (⟨3, ![1, 1024, W]⟩ : Shape).size a)
    (h1 : ∀ (r : Fin 512) (c : Fin W), P1 (ix3 0 r c) = g ⟨512 + r.val, by omega⟩ c) (h0 : ∀ (r : Fin 512) (c : Fin W), P0 (ix3 0 r c) = g ⟨r.val, by omega⟩ c)
    (hc : ∀ y : (⟨3, ![1, 1024, W]⟩ : Shape).Idx, ∃ pc ∈ ([⟨Rect.unit (s := ⟨3, ![1, 1024, W]⟩) ![0, 512, 0] (⟨3, ![1, 512, W]⟩ : Shape).size i1, P1⟩,
      ⟨Rect.unit (s := ⟨3, ![1, 1024, W]⟩) ![0, 0, 0] (⟨3, ![1, 512, W]⟩ : Shape).size i0, P0⟩] : List (View.Piece (Elt Ideal) ⟨3, ![1, 1024, W]⟩ t)), y ∈ pc.1.set) (r : Fin 1024) (c : Fin W) :
    View.canon ([⟨Rect.unit (s := ⟨3, ![1, 1024, W]⟩) ![0, 512, 0] (⟨3, ![1, 512, W]⟩ : Shape).size i1, P1⟩,
      ⟨Rect.unit (s := ⟨3, ![1, 1024, W]⟩) ![0, 0, 0] (⟨3, ![1, 512, W]⟩ : Shape).size i0, P0⟩] : List (View.Piece (Elt Ideal) ⟨3, ![1, 1024, W]⟩ t)) (ix3 0 r c) = g r c := by
  have hG : ∀ (o : ℕ) (inb : ∀ a, (![0, o, 0] : Fin 3 → ℕ) a + (⟨3, ![1, 512, W]⟩ : Shape).size a ≤ (⟨3, ![1, 1024, W]⟩ : Shape).size a) (ho : o + 512 ≤ 1024) (P : Vec Ideal ⟨3, ![1, 512, W]⟩ t),
      (∀ (r : Fin 512) (c : Fin W), P (ix3 0 r c) = g ⟨o + r.val, by omega⟩ c) →
      ∀ y, P y = (fun i : (⟨3, ![1, 1024, W]⟩ : Shape).Idx => g (i 1) (i 2)) ((Rect.unit (s := ⟨3, ![1, 1024, W]⟩) ![0, o, 0] (⟨3, ![1, 512, W]⟩ : Shape).size inb).emb y) := by
    intro o inb ho P hP y
    obtain ⟨a, r, p, rfl⟩ : ∃ (a : Fin 1) (r : Fin 512) (p : Fin W), y = ix3 a r p := ⟨_, _, _, eq_ix3 y⟩
    obtain rfl : a = 0 := Subsingleton.elim _ _
    have e1 : ((Rect.unit (s := ⟨3, ![1, 1024, W]⟩) ![0, o, 0] (⟨3, ![1, 512, W]⟩ : Shape).size inb).emb (ix3 0 r p)) 1 = (⟨o + r.val, by omega⟩ : Fin 1024) := Fin.ext (by show o + 1 * r.val = o + r.val; omega)
    have e2 : ((Rect.unit (s := ⟨3, ![1, 1024, W]⟩) ![0, o, 0] (⟨3, ![1, 512, W]⟩ : Shape).size inb).emb (ix3 0 r p)) 2 = p := Fin.ext (by show 0 + 1 * p.val = p.val; omega)
    show P _ = g (((Rect.unit (s := ⟨3, ![1, 1024, W]⟩) ![0, o, 0] (⟨3, ![1, 512, W]⟩ : Shape).size inb).emb (ix3 0 r p)) 1) (((Rect.unit (s := ⟨3, ![1, 1024, W]⟩) ![0, o, 0] (⟨3, ![1, 512, W]⟩ : Shape).size inb).emb (ix3 0 r p)) 2)
    rw [hP, e1, e2]
  refine (View.canon_append_of_pieces (fun i : (⟨3, ![1, 1024, W]⟩ : Shape).Idx => g (i 1) (i 2)) [] [_, _] ?_ (ix3 0 r c) (hc _)).trans rfl
  intro pc hpc
  simp only [List.mem_cons, List.not_mem_nil, or_false] at hpc
  rcases hpc with rfl | rfl
  · exact hG 512 i1 (by norm_num) _ h1
  · exact hG 0 i0 (by norm_num) _ fun r c => (h0 r c).trans (congrArg (fun s => g s c) (Fin.ext (by simp)))

/-- A product with 256 columns of weights, entrywise. -/
theorem p256 (h : FVec Ideal S512x1024 .bf16) (w : Vec Ideal S1024x256 .bf16) (r : Fin 512) (c : Fin 256) : (k0_pay22 h w (ix3 0 r c) : EReal) = ∑ k : Fin 1024, h (ix2 r k) * w (ix2 k c) := by
  pointwise [k0_pay22]

/-- A product with 128 columns of weights, entrywise. -/
theorem p128 (h : FVec Ideal S512x1024 .bf16) (w : Vec Ideal S1024x128 .bf16) (r : Fin 512) (c : Fin 128) : (k0_pay24 h w (ix3 0 r c) : EReal) = ∑ k : Fin 1024, h (ix2 r k) * w (ix2 k c) := by
  pointwise [k0_pay24]

/-- A product with 512 columns of weights, entrywise. -/
theorem p512 (h : FVec Ideal S512x1024 .bf16) (w : Vec Ideal S1024x512 .bf16) (r : Fin 512) (c : Fin 512) : (k0_pay35 h w (ix3 0 r c) : EReal) = ∑ k : Fin 1024, h (ix2 r k) * w (ix2 k c) := by
  pointwise [k0_pay35]

/-- A block of one of the unfiltered results: the rows against some columns of the joined weights. -/
def plain (x0 : Vec Ideal S1x1024x1024 .f32) (x3 : Vec Ideal S1x1024 .f32) (x7 : Vec Ideal S1024x2944 .bf16) (o W : ℕ) (ho : o + W ≤ 2944) (r : Fin 1024) (c : Fin W) : EReal :=
  pr (fun k => x0 (ix3 0 r k)) (fun k => x3 (ix2 0 k)) (fun k => x7 (ix2 k ⟨o + c.val, by omega⟩))

/-- What a first half and a last half store, when each is its rows times the columns. -/
theorem halves {W : ℕ} (x0 : Vec Ideal S1x1024x1024 .f32) (x3 : Vec Ideal S1x1024 .f32) (x7 : Vec Ideal S1024x2944 .bf16) (o : ℕ) (ho : o + W ≤ 2944)
    (inb : ∀ a, (![0, o] : Fin 2 → ℕ) a + (⟨2, ![1024, W]⟩ : Shape).size a ≤ S1024x2944.size a) (r : Fin 512) (c : Fin W) :
    (∑ k : Fin 1024, k0_pay6 x3 (View.ld x0 r0_2) (ix2 r k) * (View.ld x7 (Rect.unit (s := S1024x2944) ![0, o] (⟨2, ![1024, W]⟩ : Shape).size inb) : Vec Ideal ⟨2, ![1024, W]⟩ .bf16) (ix2 k c) : EReal)
      = plain x0 x3 x7 o W ho ⟨512 + r.val, by omega⟩ c
    ∧ (∑ k : Fin 1024, k0_pay5 x3 (View.ld x0 r0_1) (ix2 r k) * (View.ld x7 (Rect.unit (s := S1024x2944) ![0, o] (⟨2, ![1024, W]⟩ : Shape).size inb) : Vec Ideal ⟨2, ![1024, W]⟩ .bf16) (ix2 k c) : EReal)
      = plain x0 x3 x7 o W ho ⟨r.val, by omega⟩ c := by
  unfold plain pr
  constructor <;> refine Finset.sum_congr rfl fun k _ => ?_
  · rw [hi_apply, cols_ld x7 o inb k c (by omega)]
  · rw [lo_apply, cols_ld x7 o inb k c (by omega)]

section Out
variable (i : grid0.Coords) (x0 : Vec Ideal S1x1024x1024 .f32) (x1 x2 : Vec Ideal S1x8x1024 .f32) (x3 : Vec Ideal S1x1024 .f32) (x4 : Vec Ideal S768x1024 .bf16) (x5 : Vec Ideal S1024x768 .bf16)
  (x6 : Vec Ideal S768x4 .f32) (x7 : Vec Ideal S1024x2944 .bf16) (x8 : Vec Ideal S3x512 .f32) (x9 : Vec Ideal S1x512 .f32)

/-- The block written to the window 12: its columns of the product, for each row. -/
theorem out12 (r : Fin 1024) (c : Fin 256) : (out0_12 i x0 x1 x2 x3 x4 x5 x6 x7 x8 x9 (ix3 0 r c) : EReal) = plain x0 x3 x7 512 256 (by norm_num) r c := by
  unfold_out out0_12
  rw [nw_ld]
  exact stack (t := .bf16) _ _ (plain x0 x3 x7 512 256 (by norm_num)) _ _ (fun r c => (p256 _ _ r c).trans (halves x0 x3 x7 512 _ _ r c).1) (fun r c => (p256 _ _ r c).trans (halves x0 x3 x7 512 _ _ r c).2)
    (cover0_12 _ _) r c

/-- The block written to the window 13: its columns of the product, for each row. -/
theorem out13 (r : Fin 1024) (c : Fin 128) : (out0_13 i x0 x1 x2 x3 x4 x5 x6 x7 x8 x9 (ix3 0 r c) : EReal) = plain x0 x3 x7 768 128 (by norm_num) r c := by
  unfold_out out0_13
  rw [nw_ld]
  exact stack (t := .f32) _ _ (plain x0 x3 x7 768 128 (by norm_num)) _ _ (fun r c => (p128 _ _ r c).trans (halves x0 x3 x7 768 _ _ r c).1) (fun r c => (p128 _ _ r c).trans (halves x0 x3 x7 768 _ _ r c).2)
    (cover0_13 _ _) r c

/-- The block written to the window 18: its columns of the product, for each row. -/
theorem out18 (r : Fin 1024) (c : Fin 512) : (out0_18 i x0 x1 x2 x3 x4 x5 x6 x7 x8 x9 (ix3 0 r c) : EReal) = plain x0 x3 x7 1920 512 (by norm_num) r c := by
  unfold_out out0_18
  rw [nw_ld]
  exact stack (t := .f32) _ _ (plain x0 x3 x7 1920 512 (by norm_num)) _ _ (fun r c => (p512 _ _ r c).trans (halves x0 x3 x7 1920 _ _ r c).1) (fun r c => (p512 _ _ r c).trans (halves x0 x3 x7 1920 _ _ r c).2)
    (cover0_18 _ _) r c

/-- The block written to the window 14: its columns of the product, for each row. -/
theorem out14 (r : Fin 1024) (c : Fin 256) : (out0_14 i x0 x1 x2 x3 x4 x5 x6 x7 x8 x9 (ix3 0 r c) : EReal) = plain x0 x3 x7 896 256 (by norm_num) r c := by
  unfold_out out0_14
  rw [nw_ld]
  exact stack (t := .bf16) _ _ (plain x0 x3 x7 896 256 (by norm_num)) _ _ (fun r c => (p256 _ _ r c).trans (halves x0 x3 x7 896 _ _ r c).1) (fun r c => (p256 _ _ r c).trans (halves x0 x3 x7 896 _ _ r c).2)
    (cover0_14 _ _) r c

/-- The block written to the window 15: its columns of the product, for each row. -/
theorem out15 (r : Fin 1024) (c : Fin 256) : (out0_15 i x0 x1 x2 x3 x4 x5 x6 x7 x8 x9 (ix3 0 r c) : EReal) = plain x0 x3 x7 1152 256 (by norm_num) r c := by
  unfold_out out0_15
  rw [nw_ld]
  exact stack (t := .bf16) _ _ (plain x0 x3 x7 1152 256 (by norm_num)) _ _ (fun r c => (p256 _ _ r c).trans (halves x0 x3 x7 1152 _ _ r c).1) (fun r c => (p256 _ _ r c).trans (halves x0 x3 x7 1152 _ _ r c).2)
    (cover0_15 _ _) r c

/-- The block written to the window 16: its columns of the product, for each row. -/
theorem out16 (r : Fin 1024) (c : Fin 256) : (out0_16 i x0 x1 x2 x3 x4 x5 x6 x7 x8 x9 (ix3 0 r c) : EReal) = plain x0 x3 x7 1408 256 (by norm_num) r c := by
  unfold_out out0_16
  rw [nw_ld]
  exact stack (t := .bf16) _ _ (plain x0 x3 x7 1408 256 (by norm_num)) _ _ (fun r c => (p256 _ _ r c).trans (halves x0 x3 x7 1408 _ _ r c).1) (fun r c => (p256 _ _ r c).trans (halves x0 x3 x7 1408 _ _ r c).2)
    (cover0_16 _ _) r c

/-- The block written to the window 17: its columns of the product, for each row. -/
theorem out17 (r : Fin 1024) (c : Fin 256) : (out0_17 i x0 x1 x2 x3 x4 x5 x6 x7 x8 x9 (ix3 0 r c) : EReal) = plain x0 x3 x7 1664 256 (by norm_num) r c := by
  unfold_out out0_17
  rw [nw_ld]
  exact stack (t := .bf16) _ _ (plain x0 x3 x7 1664 256 (by norm_num)) _ _ (fun r c => (p256 _ _ r c).trans (halves x0 x3 x7 1664 _ _ r c).1) (fun r c => (p256 _ _ r c).trans (halves x0 x3 x7 1664 _ _ r c).2)
    (cover0_17 _ _) r c

/-- The block written to the window 19: its columns of the product, for each row. -/
theorem out19 (r : Fin 1024) (c : Fin 256) : (out0_19 i x0 x1 x2 x3 x4 x5 x6 x7 x8 x9 (ix3 0 r c) : EReal) = plain x0 x3 x7 2432 256 (by norm_num) r c := by
  unfold_out out0_19
  rw [nw_ld]
  exact stack (t := .bf16) _ _ (plain x0 x3 x7 2432 256 (by norm_num)) _ _ (fun r c => (p256 _ _ r c).trans (halves x0 x3 x7 2432 _ _ r c).1) (fun r c => (p256 _ _ r c).trans (halves x0 x3 x7 2432 _ _ r c).2)
    (cover0_19 _ _) r c

/-- The block written to the window 20: its columns of the product, for each row. -/
theorem out20 (r : Fin 1024) (c : Fin 256) : (out0_20 i x0 x1 x2 x3 x4 x5 x6 x7 x8 x9 (ix3 0 r c) : EReal) = plain x0 x3 x7 2688 256 (by norm_num) r c := by
  unfold_out out0_20
  rw [nw_ld]
  exact stack (t := .bf16) _ _ (plain x0 x3 x7 2688 256 (by norm_num)) _ _ (fun r c => (p256 _ _ r c).trans (halves x0 x3 x7 2688 _ _ r c).1) (fun r c => (p256 _ _ r c).trans (halves x0 x3 x7 2688 _ _ r c).2)
    (cover0_20 _ _) r c

/-- A projected channel as a function of the row. -/
def q5 (c : Fin 768) (z : Fin 1024 → EReal) : EReal := pr z (fun k => x3 (ix2 0 k)) (fun k => x5 (ix2 k c))

/-- The filtered channel `c` before its filter, for one row of the input. -/
def q7 (c : Fin 512) (z : Fin 1024 → EReal) : EReal := pr z (fun k => x3 (ix2 0 k)) (fun k => x7 (ix2 k ⟨c.val, by omega⟩))

/-- The normalized row before the block. -/
theorem halo7 (k : Fin 1024) : (k0_pay9 (k0_pay4 x3) (k0_pay7 x1 x2) (k0_pay8 x1 x2) (ix2 7 k) : EReal) = nrow (fun k => x1 (ix3 0 7 k)) (fun k => x3 (ix2 0 k)) k := by
  rw [halo_apply]; simp only [halo_before]

/-- The normalized row after the block. -/
theorem halo8 (k : Fin 1024) : (k0_pay9 (k0_pay4 x3) (k0_pay7 x1 x2) (k0_pay8 x1 x2) (ix2 8 k) : EReal) = nrow (fun k => x2 (ix3 0 0 k)) (fun k => x3 (ix2 0 k)) k := by
  rw [halo_apply]; simp only [halo_after]

/-- The block of the first result: filtered channels, channels before tokens. -/
theorem out10 (hw : ∀ c k, (x4 (ix2 c k) : EReal) = x5 (ix2 k c)) (c : Fin 768) (r : Fin 1024) : (out0_10 i x0 x1 x2 x3 x4 x5 x6 x7 x8 x9 (ix3 0 c r) : EReal)
    = tap (x6 (ix2 c 3)) (x6 (ix2 c 0)) (x6 (ix2 c 1)) (x6 (ix2 c 2)) (bk (q5 x3 x5 c) (i 1).val (fun r k => x0 (ix3 0 r k)) (fun k => x1 (ix3 0 7 k)) r) (q5 x3 x5 c (fun k => x0 (ix3 0 r k)))
      (fw (q5 x3 x5 c) (i 1).val (fun r k => x0 (ix3 0 r k)) (fun k => x2 (ix3 0 0 k)) r) := by
  have h4 : View.ld x4 r0_4 = x4 := View.ld_unit_zero (by funext a; fin_cases a <;> rfl) _ _
  have h5 : View.ld x5 r0_5 = x5 := View.ld_unit_zero (by funext a; fin_cases a <;> rfl) _ _
  have h6 : View.ld x6 r0_6 = x6 := View.ld_unit_zero (by funext a; fin_cases a <;> rfl) _ _
  have hx : ∀ x : Vec Ideal S1x8x1024 .f32, View.ld x r0_3 = x := fun x => View.ld_unit_zero (by funext a; fin_cases a <;> rfl) _ _
  unfold_out out0_10
  rw [nw_ld, h4, h5, h6, hx, hx, View.canon_unit_zero (by funext a; fin_cases a <;> rfl)]
  exact chan_tap (X := fun r k => x0 (ix3 0 r k)) (lo_apply x3 x0) (hi_apply x3 x0) (halo7 x1 x2 x3) (halo8 x1 x2 x3) x4 x5 hw x6 (i 1).val (i 1).isLt c r

/-- The block of the second result: filtered and activated channels, tokens before channels. -/
theorem out11 (r : Fin 1024) (c : Fin 512) : (out0_11 i x0 x1 x2 x3 x4 x5 x6 x7 x8 x9 (ix3 0 r c) : EReal)
    = sw (tap (x9 (ix2 0 c)) (x8 (ix2 0 c)) (x8 (ix2 1 c)) (x8 (ix2 2 c)) (bk (q7 x3 x7 c) (i 1).val (fun r k => x0 (ix3 0 r k)) (fun k => x1 (ix3 0 7 k)) r) (q7 x3 x7 c (fun k => x0 (ix3 0 r k)))
      (fw (q7 x3 x7 c) (i 1).val (fun r k => x0 (ix3 0 r k)) (fun k => x2 (ix3 0 0 k)) r)) := by
  have h8 : View.ld x8 r0_9 = x8 := View.ld_unit_zero (by funext a; fin_cases a <;> rfl) _ _
  have h9 : View.ld x9 r0_10 = x9 := View.ld_unit_zero (by funext a; fin_cases a <;> rfl) _ _
  have hx : ∀ x : Vec Ideal S1x8x1024 .f32, View.ld x r0_3 = x := fun x => View.ld_unit_zero (by funext a; fin_cases a <;> rfl) _ _
  have h7 : (fun k => (View.ld x7 r0_8 (ix2 k c) : EReal)) = fun k => x7 (ix2 k ⟨c.val, by omega⟩) := funext fun k =>
    (cols_ld (W := 512) x7 0 _ k c (by omega)).trans (congrArg x7 (congrArg (ix2 k) (Fin.ext (by simp))))
  unfold_out out0_11
  rw [nw_ld, h8, h9, hx, hx, View.canon_unit_zero (by funext a; fin_cases a <;> rfl)]
  refine (tok_tap (X := fun r k => x0 (ix3 0 r k)) (lo_apply x3 x0) (hi_apply x3 x0) (halo7 x1 x2 x3) (halo8 x1 x2 x3) _ x8 x9 (i 1).val (i 1).isLt r c).trans ?_
  rw [h7]
  rfl

end Out

end Cert.Inp

end
-- ==== Proof.InpRef.lean ====
module

public import proofs.«01_k».proof.Proof.InpBlock
public import proofs.«01_k».proof.Proof.Gen.Reference7Ideal.Read

/-! The input projections' reference, read at an index: the same functions of the token's row and its neighbours' as the kernel's body. -/

@[expose] public section

noncomputable section

namespace Cert.Inp

open Cert.Reference7Ideal Cert.Reference7Ideal.Gen Cert.Reference7Ideal.Read Idealize.ShloMosaic
open Cert.Ffn (nrow)

/-- The value one token before; nothing stands before the first. -/
def gb (q : (Fin 1024 → EReal) → EReal) (X : Fin 8192 → Fin 1024 → EReal) (t : Fin 8192) : EReal :=
  if t.val = 0 then 0 else q (X ⟨t.val - 1, by omega⟩)

/-- The value one token after; nothing stands after the last. -/
def gf (q : (Fin 1024 → EReal) → EReal) (X : Fin 8192 → Fin 1024 → EReal) (t : Fin 8192) : EReal :=
  if h : t.val = 8191 then 0 else q (X ⟨t.val + 1, by omega⟩)

variable (x0 : (⟨S6x8192x1024, .f32⟩ : BufTy).Contents (Elt Ideal)) (x1 : (⟨S1024, .f32⟩ : BufTy).Contents (Elt Ideal))
  (x2 : (⟨S1024x768, .bf16⟩ : BufTy).Contents (Elt Ideal)) (x3 : (⟨S768x4, .f32⟩ : BufTy).Contents (Elt Ideal)) (x4 : (⟨S1024x2944, .bf16⟩ : BufTy).Contents (Elt Ideal))
  (x5 : (⟨S3x512, .f32⟩ : BufTy).Contents (Elt Ideal)) (x6 : (⟨S1x512, .f32⟩ : BufTy).Contents (Elt Ideal))

/-- The reference's normalisation. -/
theorem ref_nrm (b : Fin 6) (t : Fin 8192) (d : Fin 1024) :
    (val_main_v12 (F := Ideal) x0 x1 (ix3 b t d) : EReal) = nrow (fun k => x0 (ix3 b t k)) (fun k => x1 (ix1 k)) d := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, nrow]

/-- A channel of the first projection, as a function of the row. -/
def rq5 (c : Fin 768) (z : Fin 1024 → EReal) : EReal := pr z (fun k => x1 (ix1 k)) (fun k => x2 (ix2 k c))

/-- A channel of the joined projection, as a function of the row. -/
def rq7 (c : Fin 2944) (z : Fin 1024 → EReal) : EReal := pr z (fun k => x1 (ix1 k)) (fun k => x4 (ix2 k c))

/-- The first projection of the reference. -/
theorem ref_hy (b : Fin 6) (t : Fin 8192) (c : Fin 768) : val_main_v14 (F := Ideal) x0 x1 x2 (ix3 b t c) = rq5 x1 x2 c (fun k => x0 (ix3 b t k)) := by
  rw [val_main_v14_apply, rq5, pr]
  refine Finset.sum_congr rfl fun d _ => ?_
  have e1 : lidx_main_v14 (ix3 b t c) d = ix3 b t d := by funext a; fin_cases a <;> rfl
  have e2 : ridx_main_v14 (ix3 b t c) d = ix2 d c := by funext a; fin_cases a <;> rfl
  rw [e1, e2, ref_nrm]; rfl

/-- The joined projection of the reference. -/
theorem ref_p (b : Fin 6) (t : Fin 8192) (c : Fin 2944) : val_main_v44 (F := Ideal) x0 x1 x4 (ix3 b t c) = rq7 x1 x4 c (fun k => x0 (ix3 b t k)) := by
  rw [val_main_v44_apply, rq7, pr]
  refine Finset.sum_congr rfl fun d _ => ?_
  have e1 : lidx_main_v44 (ix3 b t c) d = ix3 b t d := by funext a; fin_cases a <;> rfl
  have e2 : ridx_main_v44 (ix3 b t c) d = ix2 d c := by funext a; fin_cases a <;> rfl
  rw [e1, e2, ref_nrm]; rfl

/-- The padding is zero. -/
theorem pad_zero : (FloatOps.sitofp (F := Ideal) .f32 0#32 : EReal) = 0 := by
  show ((((0#32 : BitVec 32).toInt : ℤ) : ℝ) : EReal) = 0
  simp

/-- A sequence padded by one zero at each end, read at the three shifts. -/
theorem pad_reads {G : Fin 8192 → EReal} {Y : Fin 8194 → EReal} (h : ∀ s, Y s = if h : 1 ≤ s.val ∧ s.val - 1 < 8192 then G ⟨s.val - 1, h.2⟩ else 0) (t : Fin 8192) :
    (Y ⟨t.val, by omega⟩ = if t.val = 0 then 0 else G ⟨t.val - 1, by omega⟩) ∧ Y ⟨1 + t.val, by omega⟩ = G t
    ∧ Y ⟨2 + t.val, by omega⟩ = if h : t.val = 8191 then 0 else G ⟨t.val + 1, by omega⟩ := by
  refine ⟨?_, ?_, ?_⟩
  · rw [h]
    by_cases e : t.val = 0
    · rw [if_pos e, dif_neg (by simp only; omega)]
    · rw [if_neg e, dif_pos (by simp only; omega)]
  · rw [h, dif_pos (by simp only; omega)]
    exact congrArg G (Fin.ext (by simp))
  · rw [h]
    by_cases e : t.val = 8191
    · rw [dif_pos e, dif_neg (by simp only; omega)]
    · rw [dif_neg e, dif_pos (by simp only; omega)]
      exact congrArg G (Fin.ext (by simp only; omega))

/-- The first projection, filtered, channels first. -/
theorem ref_conv_hy (b : Fin 6) (t : Fin 8192) (c : Fin 768) : (val_main_v82 (F := Ideal) x0 x1 x2 x3 (ix3 b c t) : EReal)
    = tap (x3 (ix2 c 3)) (x3 (ix2 c 0)) (x3 (ix2 c 1)) (x3 (ix2 c 2)) (gb (rq5 x1 x2 c) (fun t k => x0 (ix3 b t k)) t) (rq5 x1 x2 c (fun k => x0 (ix3 b t k)))
      (gf (rq5 x1 x2 c) (fun t k => x0 (ix3 b t k)) t) := by
  have hp : ∀ s : Fin 8194, (val_main_v19 (F := Ideal) x0 x1 x2 (ix3 b s c) : EReal) = if h : 1 ≤ s.val ∧ s.val - 1 < 8192 then
      (fun t : Fin 8192 => rq5 x1 x2 c (fun k => x0 (ix3 b t k))) ⟨s.val - 1, h.2⟩ else 0 := by
    intro s
    simp only [← ref_hy]
    rw [← pad_zero]
    unfold val_main_v19
    generalize val_main_v14 (F := Ideal) x0 x1 x2 = y
    pointwise [val_main_call0_v0, val_main_c]
  obtain ⟨a1, a2, a3⟩ := pad_reads (G := fun t => rq5 x1 x2 c (fun k => x0 (ix3 b t k))) (Y := fun s => val_main_v19 (F := Ideal) x0 x1 x2 (ix3 b s c)) hp t
  obtain ⟨y, hy⟩ : ∃ y, y = val_main_v19 (F := Ideal) x0 x1 x2 := ⟨_, rfl⟩
  simp only [← hy] at a1 a2 a3
  refine Eq.trans (b := tap (x3 (ix2 c 3)) (x3 (ix2 c 0)) (x3 (ix2 c 1)) (x3 (ix2 c 2)) (y (ix3 b ⟨t.val, by omega⟩ c)) (y (ix3 b ⟨1 + t.val, by omega⟩ c)) (y (ix3 b ⟨2 + t.val, by omega⟩ c))) ?_ ?_
  · unfold val_main_v82 val_main_v81 val_main_v42 val_main_v41 val_main_v35 val_main_v34 val_main_v28 val_main_v25 val_main_v36 val_main_v29 val_main_v20
    rw [← hy]
    pointwise [val_main_v40, val_main_v39, val_main_v38, val_main_v37, val_main_v33, val_main_v32, val_main_v31, val_main_v30, val_main_v27, val_main_v26, val_main_v24, val_main_v23, val_main_v22, val_main_v21, val_main_v18, val_main_v17, val_main_v16, val_main_v15, tap]
  · rw [a1, a2, a3]; rfl

/-- The joined projection's first columns, filtered, before the gate. -/
theorem ref_pre (b : Fin 6) (t : Fin 8192) (c : Fin 512) : (val_main_v79 (F := Ideal) x0 x1 x4 x5 x6 (ix3 b t c) : EReal)
    = tap (x6 (ix2 0 c)) (x5 (ix2 0 c)) (x5 (ix2 1 c)) (x5 (ix2 2 c)) (gb (rq7 x1 x4 ⟨c.val, by omega⟩) (fun t k => x0 (ix3 b t k)) t) (rq7 x1 x4 ⟨c.val, by omega⟩ (fun k => x0 (ix3 b t k)))
      (gf (rq7 x1 x4 ⟨c.val, by omega⟩) (fun t k => x0 (ix3 b t k)) t) := by
  have hp : ∀ s : Fin 8194, (val_main_v56 (F := Ideal) x0 x1 x4 (ix3 b s c) : EReal) = if h : 1 ≤ s.val ∧ s.val - 1 < 8192 then
      (fun t : Fin 8192 => rq7 x1 x4 ⟨c.val, by omega⟩ (fun k => x0 (ix3 b t k))) ⟨s.val - 1, h.2⟩ else 0 := by
    intro s
    simp only [← ref_p]
    rw [← pad_zero]
    unfold val_main_v56 val_main_v45
    generalize val_main_v44 (F := Ideal) x0 x1 x4 = y
    pointwise [val_main_call1_v0, val_main_c_2]
  obtain ⟨a1, a2, a3⟩ := pad_reads (G := fun t => rq7 x1 x4 ⟨c.val, by omega⟩ (fun k => x0 (ix3 b t k))) (Y := fun s => val_main_v56 (F := Ideal) x0 x1 x4 (ix3 b s c)) hp t
  obtain ⟨y, hy⟩ : ∃ y, y = val_main_v56 (F := Ideal) x0 x1 x4 := ⟨_, rfl⟩
  simp only [← hy] at a1 a2 a3
  refine Eq.trans (b := tap (x6 (ix2 0 c)) (x5 (ix2 0 c)) (x5 (ix2 1 c)) (x5 (ix2 2 c)) (y (ix3 b ⟨t.val, by omega⟩ c)) (y (ix3 b ⟨1 + t.val, by omega⟩ c)) (y (ix3 b ⟨2 + t.val, by omega⟩ c))) ?_ ?_
  · unfold val_main_v79 val_main_v78 val_main_v72 val_main_v71 val_main_v65 val_main_v62 val_main_v73 val_main_v66 val_main_v57
    rw [← hy]
    pointwise [val_main_v77, val_main_v76, val_main_v75, val_main_v74, val_main_v70, val_main_v69, val_main_v68, val_main_v67, val_main_v64, val_main_v63, val_main_v61, val_main_v60, val_main_v59, val_main_v58, val_main_v55, tap]
  · rw [a1, a2, a3]; rfl

/-- The joined projection's first columns, filtered and gated. -/
theorem ref_conv_p (b : Fin 6) (t : Fin 8192) (c : Fin 512) : (val_main_v83 (F := Ideal) x0 x1 x4 x5 x6 (ix3 b t c) : EReal)
    = sw (tap (x6 (ix2 0 c)) (x5 (ix2 0 c)) (x5 (ix2 1 c)) (x5 (ix2 2 c)) (gb (rq7 x1 x4 ⟨c.val, by omega⟩) (fun t k => x0 (ix3 b t k)) t) (rq7 x1 x4 ⟨c.val, by omega⟩ (fun k => x0 (ix3 b t k)))
      (gf (rq7 x1 x4 ⟨c.val, by omega⟩) (fun t k => x0 (ix3 b t k)) t)) := by
  rw [← ref_pre]
  unfold val_main_v83 val_main_v80 val_main_call2_v5 val_main_call2_v3 val_main_call2_v1 val_main_call2_v0
  generalize val_main_v79 (F := Ideal) x0 x1 x4 x5 x6 = y
  pointwise [val_main_call2_v4, val_main_call2_v2, val_main_call2_cst_0, val_main_call2_cst, sw]
  rfl

/-- The joined projection's other columns, each result its own. -/
theorem ref_plain (b : Fin 6) (t : Fin 8192) :
    (∀ c : Fin 256, (val_main_v84 (F := Ideal) x0 x1 x4 (ix3 b t c) : EReal) = rq7 x1 x4 ⟨512 + c.val, by omega⟩ (fun k => x0 (ix3 b t k)))
    ∧ (∀ c : Fin 128, (val_main_v47 (F := Ideal) x0 x1 x4 (ix3 b t c) : EReal) = rq7 x1 x4 ⟨768 + c.val, by omega⟩ (fun k => x0 (ix3 b t k)))
    ∧ (∀ c : Fin 256, (val_main_v85 (F := Ideal) x0 x1 x4 (ix3 b t c) : EReal) = rq7 x1 x4 ⟨896 + c.val, by omega⟩ (fun k => x0 (ix3 b t k)))
    ∧ (∀ c : Fin 256, (val_main_v86 (F := Ideal) x0 x1 x4 (ix3 b t c) : EReal) = rq7 x1 x4 ⟨1152 + c.val, by omega⟩ (fun k => x0 (ix3 b t k)))
    ∧ (∀ c : Fin 256, (val_main_v87 (F := Ideal) x0 x1 x4 (ix3 b t c) : EReal) = rq7 x1 x4 ⟨1408 + c.val, by omega⟩ (fun k => x0 (ix3 b t k)))
    ∧ (∀ c : Fin 256, (val_main_v88 (F := Ideal) x0 x1 x4 (ix3 b t c) : EReal) = rq7 x1 x4 ⟨1664 + c.val, by omega⟩ (fun k => x0 (ix3 b t k)))
    ∧ (∀ c : Fin 512, (val_main_v52 (F := Ideal) x0 x1 x4 (ix3 b t c) : EReal) = rq7 x1 x4 ⟨1920 + c.val, by omega⟩ (fun k => x0 (ix3 b t k)))
    ∧ (∀ c : Fin 256, (val_main_v89 (F := Ideal) x0 x1 x4 (ix3 b t c) : EReal) = rq7 x1 x4 ⟨2432 + c.val, by omega⟩ (fun k => x0 (ix3 b t k)))
    ∧ (∀ c : Fin 256, (val_main_v90 (F := Ideal) x0 x1 x4 (ix3 b t c) : EReal) = rq7 x1 x4 ⟨2688 + c.val, by omega⟩ (fun k => x0 (ix3 b t k))) := by
  simp only [← ref_p]
  unfold val_main_v84 val_main_v85 val_main_v86 val_main_v87 val_main_v88 val_main_v89 val_main_v90 val_main_v46 val_main_v47 val_main_v48 val_main_v49 val_main_v50 val_main_v51 val_main_v52
    val_main_v53 val_main_v54
  generalize val_main_v44 (F := Ideal) x0 x1 x4 = y
  refine ⟨fun c => ?_, fun c => ?_, fun c => ?_, fun c => ?_, fun c => ?_, fun c => ?_, fun c => ?_, fun c => ?_, fun c => ?_⟩ <;> pointwise

end Cert.Inp

end
-- ==== Proof.InpValue.lean ====
module

public import proofs.«01_k».proof.Proof.InpRef
public import proofs.«01_k».proof.Defs

/-! The input projections' call computes its reference: the run's eleven last arrays and the joint claim. -/

@[expose] public section

noncomputable section

namespace Cert.Inp

open Cert.Kernel7Ideal Cert.Kernel7Ideal.Gen Idealize.ShloMosaic Idealize.ShloMosaic.TcCoe Idealize.SL.Sem

/-- One of the unfiltered results: every token's row against some columns of the joined weights. -/
def resP (o W : ℕ) (ho : o + W ≤ 2944) (a0 : FVec Ideal S6x8192x1024 .f32) (a1 : FVec Ideal S1024 .f32) (a4 : FVec Ideal S1024x2944 .bf16) (i : (⟨3, ![6, 8192, W]⟩ : Shape).Idx) : EReal :=
  rq7 a1 a4 ⟨o + (i 2).val, by have : (i 2).val < W := (i 2).isLt; omega⟩ (fun k => a0 (ix3 (i 0) (i 1) k))

/-- The first projection, filtered over the neighbouring tokens, channels first. -/
def resH (a0 : FVec Ideal S6x8192x1024 .f32) (a1 : FVec Ideal S1024 .f32) (a2 : FVec Ideal S1024x768 .bf16) (a3 : FVec Ideal S768x4 .f32) : FVec Ideal S6x768x8192 .bf16 :=
  fun i => tap (a3 (ix2 (i 1) 3)) (a3 (ix2 (i 1) 0)) (a3 (ix2 (i 1) 1)) (a3 (ix2 (i 1) 2)) (gb (rq5 a1 a2 (i 1)) (fun t k => a0 (ix3 (i 0) t k)) (i 2))
    (rq5 a1 a2 (i 1) (fun k => a0 (ix3 (i 0) (i 2) k))) (gf (rq5 a1 a2 (i 1)) (fun t k => a0 (ix3 (i 0) t k)) (i 2))

/-- The joined projection's first columns, filtered over the neighbouring tokens and gated. -/
def resX (a0 : FVec Ideal S6x8192x1024 .f32) (a1 : FVec Ideal S1024 .f32) (a4 : FVec Ideal S1024x2944 .bf16) (a5 : FVec Ideal S3x512 .f32) (a6 : FVec Ideal S1x512 .f32) : FVec Ideal S6x8192x512 .bf16 :=
  fun i => sw (tap (a6 (ix2 0 (i 2))) (a5 (ix2 0 (i 2))) (a5 (ix2 1 (i 2))) (a5 (ix2 2 (i 2)))
    (gb (rq7 a1 a4 ⟨(i 2).val, lt_trans (i 2).isLt (by decide)⟩) (fun t k => a0 (ix3 (i 0) t k)) (i 1))
    (rq7 a1 a4 ⟨(i 2).val, lt_trans (i 2).isLt (by decide)⟩ (fun k => a0 (ix3 (i 0) (i 1) k)))
    (gf (rq7 a1 a4 ⟨(i 2).val, lt_trans (i 2).isLt (by decide)⟩) (fun t k => a0 (ix3 (i 0) t k)) (i 1)))

variable (m : (ℓ : Loc nD τ sig) → Buf (Elt Ideal) ℓ) (c : Dev nD)

/-- The weight row the region reads is the argument as one row. -/
theorem V_v1 : V m c main_v1 = shapeCast S1x1024 (m ((c : Thread nD τ).loc main_arg1)) shapeCasts_S1024_S1x1024 := by
  show StableHlo.after hostOps0 (fun b => m (c, b)) (Proc.devRef .tc main_v1) = _
  simp only [hostOps0]; after_reads_simp; rfl

/-- The channels-first weights the region reads are the argument transposed. -/
theorem V_v0 : V m c main_v0 = transpose S768x1024 [1, 0] (m ((c : Thread nD τ).loc main_arg2)) transposes_S1024x768_S768x1024_1_0 := by
  show StableHlo.after hostOps0 (fun b => m (c, b)) (Proc.devRef .tc main_v0) = _
  simp only [hostOps0]; after_reads_simp

/-- The grid's index maps: point `t` holds sequence `t / 8` and rows `t % 8` of the tokens, and the eight rows before and after them; the weights are whole. -/
theorem idx_in : ∀ t : Fin cfg0.N, win0_0.index t = ![t.val / 8, t.val % 8, 0] ∧ win0_1.index t = ![t.val / 8, t.val % 8 * 128 - 1, 0]
    ∧ win0_2.index t = ![t.val / 8, min ((t.val % 8 + 1) * 128) 1023, 0] ∧ (grid0.coords t 1).val = t.val % 8 :=
  (by decide +kernel : ∀ t : Fin grid0.N, _)

/-- The weights' windows never move. -/
theorem idx_w : ∀ t : Fin cfg0.N, win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The results' windows: tokens are the rows, except of the first. -/
theorem idx_out : ∀ t : Fin cfg0.N, win0_10.index t = ![t.val / 8, 0, t.val % 8] ∧ win0_11.index t = ![t.val / 8, t.val % 8, 0] ∧ win0_12.index t = ![t.val / 8, t.val % 8, 0]
    ∧ win0_13.index t = ![t.val / 8, t.val % 8, 0] ∧ win0_14.index t = ![t.val / 8, t.val % 8, 0] ∧ win0_15.index t = ![t.val / 8, t.val % 8, 0] ∧ win0_16.index t = ![t.val / 8, t.val % 8, 0]
    ∧ win0_17.index t = ![t.val / 8, t.val % 8, 0] ∧ win0_18.index t = ![t.val / 8, t.val % 8, 0] ∧ win0_19.index t = ![t.val / 8, t.val % 8, 0] ∧ win0_20.index t = ![t.val / 8, t.val % 8, 0] :=
  (by decide +kernel : ∀ t : Fin grid0.N, _)

/-- There are 48 grid points. -/
theorem pt_lt (t : Fin cfg0.N) : t.val < 48 := lt_of_lt_of_eq t.isLt N_0

/-- A token's row of the array, in the sequence of a grid point. -/
def row (t : Fin cfg0.N) (s : Fin 8192) (k : Fin 1024) : EReal := m ((c : Thread nD τ).loc main_arg0) (ix3 (⟨t.val / 8, by have := pt_lt t; omega⟩ : Fin 6) s k)

/-- A row of the block is the token's row. -/
theorem blk_row (t : Fin cfg0.N) (r k : Fin 1024) : (iblk m c 0 t (ix3 0 r k) : EReal) = row m c t ⟨t.val % 8 * 1024 + r.val, by omega⟩ k := by
  show V m c main_arg0 (((cfg0.win 0).blk t).view.emb (ix3 0 r k)) = _
  rw [V_main_arg0, row]
  have e := (idx_in t).1
  refine congrArg _ ?_
  funext a; apply Fin.ext
  match a with
  | ⟨0, _⟩ => show win0_0.index t (0 : Fin 3) * 1 + 1 * 0 = t.val / 8; rw [e]; show t.val / 8 * 1 + 1 * 0 = _; omega
  | ⟨1, _⟩ => show win0_0.index t (1 : Fin 3) * 1024 + 1 * r.val = t.val % 8 * 1024 + r.val; rw [e]; show t.val % 8 * 1024 + 1 * r.val = _; omega
  | ⟨2, _⟩ => show win0_0.index t (2 : Fin 3) * 1024 + 1 * k.val = k.val; rw [e]; show 0 * 1024 + 1 * k.val = _; omega

/-- The last of the eight rows before the block. -/
theorem blk_before (t : Fin cfg0.N) (h : t.val % 8 ≠ 0) (k : Fin 1024) : (iblk m c 1 t (ix3 0 7 k) : EReal) = row m c t ⟨t.val % 8 * 1024 - 1, by omega⟩ k := by
  show V m c main_arg0 (((cfg0.win 1).blk t).view.emb (ix3 0 7 k)) = _
  rw [V_main_arg0, row]
  have e := (idx_in t).2.1
  refine congrArg _ ?_
  funext a; apply Fin.ext
  match a with
  | ⟨0, _⟩ => show win0_1.index t (0 : Fin 3) * 1 + 1 * 0 = t.val / 8; rw [e]; show t.val / 8 * 1 + 1 * 0 = _; omega
  | ⟨1, _⟩ => show win0_1.index t (1 : Fin 3) * 8 + 1 * 7 = t.val % 8 * 1024 - 1; rw [e]; show (t.val % 8 * 128 - 1) * 8 + 1 * 7 = _; omega
  | ⟨2, _⟩ => show win0_1.index t (2 : Fin 3) * 1024 + 1 * k.val = k.val; rw [e]; show 0 * 1024 + 1 * k.val = _; omega

/-- The first of the eight rows after the block. -/
theorem blk_after (t : Fin cfg0.N) (h : t.val % 8 ≠ 7) (k : Fin 1024) : (iblk m c 2 t (ix3 0 0 k) : EReal) = row m c t ⟨(t.val % 8 + 1) * 1024, by omega⟩ k := by
  show V m c main_arg0 (((cfg0.win 2).blk t).view.emb (ix3 0 0 k)) = _
  rw [V_main_arg0, row]
  have e := (idx_in t).2.2.1
  refine congrArg _ ?_
  funext a; apply Fin.ext
  match a with
  | ⟨0, _⟩ => show win0_2.index t (0 : Fin 3) * 1 + 1 * 0 = t.val / 8; rw [e]; show t.val / 8 * 1 + 1 * 0 = _; omega
  | ⟨1, _⟩ => show win0_2.index t (1 : Fin 3) * 8 + 1 * 0 = (t.val % 8 + 1) * 1024; rw [e]; show min ((t.val % 8 + 1) * 128) 1023 * 8 + 1 * 0 = _; omega
  | ⟨2, _⟩ => show win0_2.index t (2 : Fin 3) * 1024 + 1 * k.val = k.val; rw [e]; show 0 * 1024 + 1 * k.val = _; omega

/-- An index of a window that never moves is the array's own. -/
theorem still {A B : ℕ} (ix : Fin 2 → ℕ) (hix : ix = ![0, 0]) (f : (⟨2, ![A, B]⟩ : Shape).Idx) (a : Fin A) (b : Fin B) (h0 : (f 0).val = ix 0 * A + 1 * a.val) (h1 : (f 1).val = ix 1 * B + 1 * b.val) :
    f = ix2 a b := by
  subst hix
  funext x; apply Fin.ext
  match x with
  | ⟨0, _⟩ => exact h0.trans (by show 0 * A + 1 * a.val = a.val; omega)
  | ⟨1, _⟩ => exact h1.trans (by show 0 * B + 1 * b.val = b.val; omega)

/-- The block of the norm's weights is the argument. -/
theorem blk_nw (t : Fin cfg0.N) (k : Fin 1024) : (iblk m c 3 t (ix2 0 k) : EReal) = m ((c : Thread nD τ).loc main_arg1) (ix1 k) := by
  show V m c main_v1 (((cfg0.win 3).blk t).view.emb (ix2 0 k)) = _
  rw [still (A := 1) (B := 1024) _ (idx_w t).1 (((cfg0.win 3).blk t).view.emb (ix2 0 k)) 0 k rfl rfl, V_v1]
  pointwise

/-- The transposed weights' block is the transposed argument. -/
theorem blk_w4 (t : Fin cfg0.N) (j : Fin 768) (k : Fin 1024) : (iblk m c 4 t (ix2 j k) : EReal) = m ((c : Thread nD τ).loc main_arg2) (ix2 k j) := by
  show V m c main_v0 (((cfg0.win 4).blk t).view.emb (ix2 j k)) = _
  rw [still (A := 768) (B := 1024) _ (idx_w t).2.1 (((cfg0.win 4).blk t).view.emb (ix2 j k)) j k rfl rfl, V_v0]
  pointwise

/-- The weights' block is the argument. -/
theorem blk_w5 (t : Fin cfg0.N) (k : Fin 1024) (j : Fin 768) : (iblk m c 5 t (ix2 k j) : EReal) = m ((c : Thread nD τ).loc main_arg2) (ix2 k j) := by
  show V m c main_arg2 (((cfg0.win 5).blk t).view.emb (ix2 k j)) = _
  rw [still (A := 1024) (B := 768) _ (idx_w t).2.2.1 (((cfg0.win 5).blk t).view.emb (ix2 k j)) k j rfl rfl, V_main_arg2]

/-- The block of filter and bias is the argument. -/
theorem blk_w6 (t : Fin cfg0.N) (j : Fin 768) (k : Fin 4) : (iblk m c 6 t (ix2 j k) : EReal) = m ((c : Thread nD τ).loc main_arg3) (ix2 j k) := by
  show V m c main_arg3 (((cfg0.win 6).blk t).view.emb (ix2 j k)) = _
  rw [still (A := 768) (B := 4) _ (idx_w t).2.2.2.1 (((cfg0.win 6).blk t).view.emb (ix2 j k)) j k rfl rfl, V_main_arg3]

/-- The block of the other projections' weights is the argument. -/
theorem blk_w7 (t : Fin cfg0.N) (k : Fin 1024) (j : Fin 2944) : (iblk m c 7 t (ix2 k j) : EReal) = m ((c : Thread nD τ).loc main_arg4) (ix2 k j) := by
  show V m c main_arg4 (((cfg0.win 7).blk t).view.emb (ix2 k j)) = _
  rw [still (A := 1024) (B := 2944) _ (idx_w t).2.2.2.2.1 (((cfg0.win 7).blk t).view.emb (ix2 k j)) k j rfl rfl, V_main_arg4]

/-- The block of the second filter is the argument. -/
theorem blk_w8 (t : Fin cfg0.N) (k : Fin 3) (j : Fin 512) : (iblk m c 8 t (ix2 k j) : EReal) = m ((c : Thread nD τ).loc main_arg5) (ix2 k j) := by
  show V m c main_arg5 (((cfg0.win 8).blk t).view.emb (ix2 k j)) = _
  rw [still (A := 3) (B := 512) _ (idx_w t).2.2.2.2.2.1 (((cfg0.win 8).blk t).view.emb (ix2 k j)) k j rfl rfl, V_main_arg5]

/-- The block of the second bias is the argument. -/
theorem blk_w9 (t : Fin cfg0.N) (j : Fin 512) : (iblk m c 9 t (ix2 0 j) : EReal) = m ((c : Thread nD τ).loc main_arg6) (ix2 0 j) := by
  show V m c main_arg6 (((cfg0.win 9).blk t).view.emb (ix2 0 j)) = _
  rw [still (A := 1) (B := 512) _ (idx_w t).2.2.2.2.2.2 (((cfg0.win 9).blk t).view.emb (ix2 0 j)) 0 j rfl rfl, V_main_arg6]

/-- The value one token before, over the whole sequence. -/
theorem back_pt (q : (Fin 1024 → EReal) → EReal) (t : Fin cfg0.N) (r : Fin 1024) :
    bk q (grid0.coords t 1).val (fun r k => iblk m c 0 t (ix3 0 r k)) (fun k => iblk m c 1 t (ix3 0 7 k)) r = gb q (row m c t) ⟨t.val % 8 * 1024 + r.val, by omega⟩ := by
  rw [(idx_in t).2.2.2, bk, gb]
  simp only [blk_row]
  by_cases h : r.val = 0
  · rw [if_pos h]
    by_cases g : t.val % 8 = 0
    · rw [if_pos g, if_pos (by omega)]
    · rw [if_neg g, if_neg (by omega)]
      refine congrArg q (funext fun k => ?_)
      rw [blk_before m c t g]
      exact congrArg (fun s => row m c t s k) (Fin.ext (by simp only; omega))
  · rw [if_neg h, if_neg (by omega)]
    exact congrArg (fun s => q (row m c t s)) (Fin.ext (by simp only; omega))

/-- The value one token after, over the whole sequence. -/
theorem fwd_pt (q : (Fin 1024 → EReal) → EReal) (t : Fin cfg0.N) (r : Fin 1024) :
    fw q (grid0.coords t 1).val (fun r k => iblk m c 0 t (ix3 0 r k)) (fun k => iblk m c 2 t (ix3 0 0 k)) r = gf q (row m c t) ⟨t.val % 8 * 1024 + r.val, by omega⟩ := by
  rw [(idx_in t).2.2.2, fw, gf]
  simp only [blk_row]
  by_cases h : r.val = 1023
  · rw [dif_pos h]
    by_cases g : t.val % 8 = 7
    · rw [if_pos g, dif_pos (by omega)]
    · rw [if_neg g, dif_neg (by omega)]
      refine congrArg q (funext fun k => ?_)
      rw [blk_after m c t g]
      exact congrArg (fun s => row m c t s k) (Fin.ext (by simp only; omega))
  · rw [dif_neg h, dif_neg (by omega)]
    exact congrArg (fun s => q (row m c t s)) (Fin.ext (by simp only; omega))

/-- A channel's function of a row, from the windows' blocks. -/
theorem q5_pt (t : Fin cfg0.N) (j : Fin 768) : q5 (iblk m c 3 t) (iblk m c 5 t) j = rq5 (m ((c : Thread nD τ).loc main_arg1)) (m ((c : Thread nD τ).loc main_arg2)) j := by
  funext z
  unfold q5 rq5
  simp only [blk_nw, blk_w5]

/-- The unfiltered channel of a grid point is the reference's. -/
theorem q7_pt (t : Fin cfg0.N) (j : Fin 512) : q7 (iblk m c 3 t) (iblk m c 7 t) j = rq7 (m ((c : Thread nD τ).loc main_arg1)) (m ((c : Thread nD τ).loc main_arg4)) ⟨j.val, by omega⟩ := by
  funext z
  unfold q7 rq7
  simp only [blk_nw, blk_w7]

/-- An unfiltered block's entry. -/
theorem plain_pt (o W : ℕ) (ho : o + W ≤ 2944) (t : Fin cfg0.N) (r : Fin 1024) (j : Fin W) :
    plain (iblk m c 0 t) (iblk m c 3 t) (iblk m c 7 t) o W ho r j = resP o W ho (m ((c : Thread nD τ).loc main_arg0)) (m ((c : Thread nD τ).loc main_arg1)) (m ((c : Thread nD τ).loc main_arg4))
      (ix3 (⟨t.val / 8, by have := pt_lt t; omega⟩ : Fin 6) (⟨t.val % 8 * 1024 + r.val, by omega⟩ : Fin 8192) j) := by
  unfold plain
  simp only [blk_nw, blk_w7, blk_row]
  rfl

/-- An entry of the first projection's block. -/
theorem chan_pt (t : Fin cfg0.N) (j : Fin 768) (r : Fin 1024) :
    (out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 j r) : EReal)
      = resH (m ((c : Thread nD τ).loc main_arg0)) (m ((c : Thread nD τ).loc main_arg1)) (m ((c : Thread nD τ).loc main_arg2)) (m ((c : Thread nD τ).loc main_arg3)) (ix3 (⟨t.val / 8, by have := pt_lt t; omega⟩ : Fin 6) j (⟨t.val % 8 * 1024 + r.val, by omega⟩ : Fin 8192)) := by
  refine (out10 _ _ _ _ _ _ _ _ _ _ _ (fun j k => (blk_w4 m c t j k).trans (blk_w5 m c t k j).symm) _ _).trans ?_
  rw [q5_pt, back_pt, fwd_pt]
  simp only [blk_w6, blk_row]
  rfl

/-- An entry of the gated projection's block. -/
theorem gate_pt (t : Fin cfg0.N) (r : Fin 1024) (j : Fin 512) :
    (out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 r j) : EReal)
      = resX (m ((c : Thread nD τ).loc main_arg0)) (m ((c : Thread nD τ).loc main_arg1)) (m ((c : Thread nD τ).loc main_arg4)) (m ((c : Thread nD τ).loc main_arg5)) (m ((c : Thread nD τ).loc main_arg6)) (ix3 (⟨t.val / 8, by have := pt_lt t; omega⟩ : Fin 6) (⟨t.val % 8 * 1024 + r.val, by omega⟩ : Fin 8192) j) := by
  refine (out11 _ _ _ _ _ _ _ _ _ _ _ _ _).trans ?_
  rw [q7_pt, back_pt, fwd_pt]
  simp only [blk_w8, blk_w9, blk_row]
  rfl

/-- A block's index in a result whose rows are tokens. -/
theorem tok_emb {W : ℕ} (t : Fin cfg0.N) (ix : Fin 3 → ℕ) (hix : ix = ![t.val / 8, t.val % 8, 0]) (f : (⟨3, ![6, 8192, W]⟩ : Shape).Idx) (y0 : ℕ) (r : Fin 1024) (j : Fin W) (hy : y0 < 1)
    (h0 : (f 0).val = ix 0 * 1 + 1 * y0) (h1 : (f 1).val = ix 1 * 1024 + 1 * r.val) (h2 : (f 2).val = ix 2 * W + 1 * j.val) :
    f = ix3 (⟨t.val / 8, by have := pt_lt t; omega⟩ : Fin 6) (⟨t.val % 8 * 1024 + r.val, by omega⟩ : Fin 8192) j := by
  subst hix
  funext x; apply Fin.ext
  match x with
  | ⟨0, _⟩ => exact h0.trans (by show t.val / 8 * 1 + 1 * y0 = t.val / 8; omega)
  | ⟨1, _⟩ => exact h1.trans (by show t.val % 8 * 1024 + 1 * r.val = t.val % 8 * 1024 + r.val; omega)
  | ⟨2, _⟩ => exact h2.trans (by show 0 * W + 1 * j.val = j.val; omega)

/-- An index of a block is its row and its column. -/
theorem tok_in {A B : ℕ} (f : (⟨3, ![1, A, B]⟩ : Shape).Idx) (r : Fin A) (j : Fin B) (h1 : (f 1).val = r.val) (h2 : (f 2).val = j.val) : f = ix3 0 r j := by
  funext x; apply Fin.ext
  match x with
  | ⟨0, _⟩ => exact Nat.lt_one_iff.1 (f 0).isLt
  | ⟨1, _⟩ => exact h1
  | ⟨2, _⟩ => exact h2

/-- Every index of a result whose rows are tokens is in some point's block. -/
theorem tok_cov {W : ℕ} (i : (⟨3, ![6, 8192, W]⟩ : Shape).Idx) : ∃ t : Fin cfg0.N, ∀ ix : Fin 3 → ℕ, ix = ![t.val / 8, t.val % 8, 0] →
    ∀ a : Fin 3, ix a * (![1, 1024, W] : Fin 3 → ℕ) a ≤ (i a).val ∧ (i a).val < ix a * (![1, 1024, W] : Fin 3 → ℕ) a + (![1, 1024, W] : Fin 3 → ℕ) a := by
  have h0 : (i 0).val < 6 := (i 0).isLt
  have h1 : (i 1).val < 8192 := (i 1).isLt
  have h2 : (i 2).val < W := (i 2).isLt
  have hN : cfg0.N = 48 := N_0
  obtain ⟨t, ht⟩ : ∃ t : Fin cfg0.N, t.val = (i 0).val * 8 + (i 1).val / 1024 := ⟨⟨_, by omega⟩, rfl⟩
  refine ⟨t, ?_⟩
  rintro ix rfl a
  match a with
  | ⟨0, _⟩ => show t.val / 8 * 1 ≤ (i 0).val ∧ (i 0).val < t.val / 8 * 1 + 1; omega
  | ⟨1, _⟩ => show t.val % 8 * 1024 ≤ (i 1).val ∧ (i 1).val < t.val % 8 * 1024 + 1024; omega
  | ⟨2, _⟩ => show 0 * W ≤ (i 2).val ∧ (i 2).val < 0 * W + W; omega

/-- The first projection's array after the run. -/
theorem fin10 : (dats m 0 c).arrAt 10 cfg0.N = resH (m ((c : Thread nD τ).loc main_arg0)) (m ((c : Thread nD τ).loc main_arg1)) (m ((c : Thread nD τ).loc main_arg2)) (m ((c : Thread nD τ).loc main_arg3)) := by
  refine (dats m 0 c).arrAt_eq_of_cover 10 _ (fun t _ => ?_) (fun i => ?_)
  · rw [Value.flushed10]
    funext y
    have e := (idx_out t).1
    have hy0 : (y 0).val < 1 := (y 0).isLt
    have hy2 : (y 2).val < 1024 := (y 2).isLt
    have ht := pt_lt t
    refine (congrArg (out0_10 (F := Ideal) _ _ _ _ _ _ _ _ _ _ _) (tok_in ((cfg0.win 10).xinj (grid0.coords t) y) (y 1 : Fin 768) (y 2 : Fin 1024) rfl rfl)).trans ?_
    refine (chan_pt m c t _ _).trans ?_
    refine (congrArg (resH (m ((c : Thread nD τ).loc main_arg0)) (m ((c : Thread nD τ).loc main_arg1)) (m ((c : Thread nD τ).loc main_arg2)) (m ((c : Thread nD τ).loc main_arg3)))
      (show ((cfg0.win 10).blk t).view.emb y = ix3 (⟨t.val / 8, by omega⟩ : Fin 6) (y 1 : Fin 768) (⟨t.val % 8 * 1024 + (y 2).val, by omega⟩ : Fin 8192) from ?_)).symm
    funext a; apply Fin.ext
    match a with
    | ⟨0, _⟩ => show win0_10.index t (0 : Fin 3) * 1 + 1 * (y 0).val = t.val / 8; rw [e]; show t.val / 8 * 1 + 1 * (y 0).val = _; omega
    | ⟨1, _⟩ => show win0_10.index t (1 : Fin 3) * 768 + 1 * (y 1).val = (y 1).val; rw [e]; show 0 * 768 + 1 * (y 1).val = _; omega
    | ⟨2, _⟩ => show win0_10.index t (2 : Fin 3) * 1024 + 1 * (y 2).val = t.val % 8 * 1024 + (y 2).val; rw [e]; show t.val % 8 * 1024 + 1 * (y 2).val = _; omega
  · have h0 : (i 0).val < 6 := (i 0).isLt
    have h1 : (i 1).val < 768 := (i 1).isLt
    have h2 : (i 2).val < 8192 := (i 2).isLt
    have hN : cfg0.N = 48 := N_0
    obtain ⟨t, ht⟩ : ∃ t : Fin cfg0.N, t.val = (i 0).val * 8 + (i 2).val / 1024 := ⟨⟨_, by omega⟩, rfl⟩
    have e := (idx_out t).1
    refine ⟨t, flush0_10 t, ?_⟩
    show i ∈ ((View.whole main_v2_0).slice (win0_10.rect t)).set
    rw [View.set_slice_whole, Rect.mem_set_unit]
    intro a
    match a with
    | ⟨0, _⟩ => show win0_10.index t (0 : Fin 3) * 1 ≤ (i 0).val ∧ (i 0).val < win0_10.index t (0 : Fin 3) * 1 + 1; rw [e]; show t.val / 8 * 1 ≤ _ ∧ _ < t.val / 8 * 1 + 1; omega
    | ⟨1, _⟩ => show win0_10.index t (1 : Fin 3) * 768 ≤ (i 1).val ∧ (i 1).val < win0_10.index t (1 : Fin 3) * 768 + 768; rw [e]; show 0 * 768 ≤ _ ∧ _ < 0 * 768 + 768; omega
    | ⟨2, _⟩ => show win0_10.index t (2 : Fin 3) * 1024 ≤ (i 2).val ∧ (i 2).val < win0_10.index t (2 : Fin 3) * 1024 + 1024; rw [e]; show t.val % 8 * 1024 ≤ _ ∧ _ < t.val % 8 * 1024 + 1024; omega

/-- The gated projection's array after the run. -/
theorem fin11 : (dats m 0 c).arrAt 11 cfg0.N = resX (m ((c : Thread nD τ).loc main_arg0)) (m ((c : Thread nD τ).loc main_arg1)) (m ((c : Thread nD τ).loc main_arg4)) (m ((c : Thread nD τ).loc main_arg5)) (m ((c : Thread nD τ).loc main_arg6)) := by
  refine (dats m 0 c).arrAt_eq_of_cover 11 _ (fun t _ => ?_) (fun i => ?_)
  · rw [Value.flushed11]
    funext y
    have e := idx_out t
    refine (congrArg (out0_11 (F := Ideal) _ _ _ _ _ _ _ _ _ _ _) (tok_in ((cfg0.win 11).xinj (grid0.coords t) y) (y 1 : Fin 1024) (y 2 : Fin 512) rfl rfl)).trans ?_
    refine (gate_pt m c t _ _).trans ?_
    exact (congrArg (resX (m ((c : Thread nD τ).loc main_arg0)) (m ((c : Thread nD τ).loc main_arg1)) (m ((c : Thread nD τ).loc main_arg4)) (m ((c : Thread nD τ).loc main_arg5)) (m ((c : Thread nD τ).loc main_arg6)))
      (tok_emb t _ e.2.1 (((cfg0.win 11).blk t).view.emb y) (y 0).val (y 1 : Fin 1024) (y 2 : Fin 512) (y 0).isLt rfl rfl rfl)).symm
  · obtain ⟨t, h⟩ := tok_cov (W := 512) i
    refine ⟨t, flush0_11 t, ?_⟩
    show i ∈ ((View.whole main_v2_1).slice (win0_11.rect t)).set
    rw [View.set_slice_whole, Rect.mem_set_unit]
    exact fun a => h _ (idx_out t).2.1 a

/-! The unfiltered results' arrays after the run: each window's own block, index map and columns put into the lemmas above. -/

/-- The array behind the window 12 after the last grid point: its columns of the product. -/
theorem fin12 : (dats m 0 c).arrAt 12 cfg0.N = resP 512 256 (by norm_num) (m ((c : Thread nD τ).loc main_arg0)) (m ((c : Thread nD τ).loc main_arg1)) (m ((c : Thread nD τ).loc main_arg4)) := by
  refine (dats m 0 c).arrAt_eq_of_cover 12 _ (fun t _ => ?_) (fun i => ?_)
  · rw [Value.flushed12]
    funext y
    have e := idx_out t
    refine (congrArg (out0_12 (F := Ideal) _ _ _ _ _ _ _ _ _ _ _) (tok_in ((cfg0.win 12).xinj (grid0.coords t) y) (y 1 : Fin 1024) (y 2 : Fin 256) rfl rfl)).trans ?_
    refine ((out12 _ _ _ _ _ _ _ _ _ _ _ _ _).trans (plain_pt m c 512 256 (by norm_num) t _ _)).trans ?_
    exact (congrArg (resP 512 256 _ _ _ _) (tok_emb t _ e.2.2.1 (((cfg0.win 12).blk t).view.emb y) (y 0).val (y 1 : Fin 1024) (y 2 : Fin 256) (y 0).isLt rfl rfl rfl)).symm
  · obtain ⟨t, h⟩ := tok_cov (W := 256) i
    refine ⟨t, flush0_12 t, ?_⟩
    show i ∈ ((View.whole main_v2_2).slice (win0_12.rect t)).set
    rw [View.set_slice_whole, Rect.mem_set_unit]
    exact fun a => h _ (idx_out t).2.2.1 a

/-- The array behind the window 13 after the last grid point: its columns of the product. -/
theorem fin13 : (dats m 0 c).arrAt 13 cfg0.N = resP 768 128 (by norm_num) (m ((c : Thread nD τ).loc main_arg0)) (m ((c : Thread nD τ).loc main_arg1)) (m ((c : Thread nD τ).loc main_arg4)) := by
  refine (dats m 0 c).arrAt_eq_of_cover 13 _ (fun t _ => ?_) (fun i => ?_)
  · rw [Value.flushed13]
    funext y
    have e := idx_out t
    refine (congrArg (out0_13 (F := Ideal) _ _ _ _ _ _ _ _ _ _ _) (tok_in ((cfg0.win 13).xinj (grid0.coords t) y) (y 1 : Fin 1024) (y 2 : Fin 128) rfl rfl)).trans ?_
    refine ((out13 _ _ _ _ _ _ _ _ _ _ _ _ _).trans (plain_pt m c 768 128 (by norm_num) t _ _)).trans ?_
    exact (congrArg (resP 768 128 _ _ _ _) (tok_emb t _ e.2.2.2.1 (((cfg0.win 13).blk t).view.emb y) (y 0).val (y 1 : Fin 1024) (y 2 : Fin 128) (y 0).isLt rfl rfl rfl)).symm
  · obtain ⟨t, h⟩ := tok_cov (W := 128) i
    refine ⟨t, flush0_13 t, ?_⟩
    show i ∈ ((View.whole main_v2_3).slice (win0_13.rect t)).set
    rw [View.set_slice_whole, Rect.mem_set_unit]
    exact fun a => h _ (idx_out t).2.2.2.1 a

/-- The array behind the window 14 after the last grid point: its columns of the product. -/
theorem fin14 : (dats m 0 c).arrAt 14 cfg0.N = resP 896 256 (by norm_num) (m ((c : Thread nD τ).loc main_arg0)) (m ((c : Thread nD τ).loc main_arg1)) (m ((c : Thread nD τ).loc main_arg4)) := by
  refine (dats m 0 c).arrAt_eq_of_cover 14 _ (fun t _ => ?_) (fun i => ?_)
  · rw [Value.flushed14]
    funext y
    have e := idx_out t
    refine (congrArg (out0_14 (F := Ideal) _ _ _ _ _ _ _ _ _ _ _) (tok_in ((cfg0.win 14).xinj (grid0.coords t) y) (y 1 : Fin 1024) (y 2 : Fin 256) rfl rfl)).trans ?_
    refine ((out14 _ _ _ _ _ _ _ _ _ _ _ _ _).trans (plain_pt m c 896 256 (by norm_num) t _ _)).trans ?_
    exact (congrArg (resP 896 256 _ _ _ _) (tok_emb t _ e.2.2.2.2.1 (((cfg0.win 14).blk t).view.emb y) (y 0).val (y 1 : Fin 1024) (y 2 : Fin 256) (y 0).isLt rfl rfl rfl)).symm
  · obtain ⟨t, h⟩ := tok_cov (W := 256) i
    refine ⟨t, flush0_14 t, ?_⟩
    show i ∈ ((View.whole main_v2_4).slice (win0_14.rect t)).set
    rw [View.set_slice_whole, Rect.mem_set_unit]
    exact fun a => h _ (idx_out t).2.2.2.2.1 a

/-- The array behind the window 15 after the last grid point: its columns of the product. -/
theorem fin15 : (dats m 0 c).arrAt 15 cfg0.N = resP 1152 256 (by norm_num) (m ((c : Thread nD τ).loc main_arg0)) (m ((c : Thread nD τ).loc main_arg1)) (m ((c : Thread nD τ).loc main_arg4)) := by
  refine (dats m 0 c).arrAt_eq_of_cover 15 _ (fun t _ => ?_) (fun i => ?_)
  · rw [Value.flushed15]
    funext y
    have e := idx_out t
    refine (congrArg (out0_15 (F := Ideal) _ _ _ _ _ _ _ _ _ _ _) (tok_in ((cfg0.win 15).xinj (grid0.coords t) y) (y 1 : Fin 1024) (y 2 : Fin 256) rfl rfl)).trans ?_
    refine ((out15 _ _ _ _ _ _ _ _ _ _ _ _ _).trans (plain_pt m c 1152 256 (by norm_num) t _ _)).trans ?_
    exact (congrArg (resP 1152 256 _ _ _ _) (tok_emb t _ e.2.2.2.2.2.1 (((cfg0.win 15).blk t).view.emb y) (y 0).val (y 1 : Fin 1024) (y 2 : Fin 256) (y 0).isLt rfl rfl rfl)).symm
  · obtain ⟨t, h⟩ := tok_cov (W := 256) i
    refine ⟨t, flush0_15 t, ?_⟩
    show i ∈ ((View.whole main_v2_5).slice (win0_15.rect t)).set
    rw [View.set_slice_whole, Rect.mem_set_unit]
    exact fun a => h _ (idx_out t).2.2.2.2.2.1 a

/-- The array behind the window 16 after the last grid point: its columns of the product. -/
theorem fin16 : (dats m 0 c).arrAt 16 cfg0.N = resP 1408 256 (by norm_num) (m ((c : Thread nD τ).loc main_arg0)) (m ((c : Thread nD τ).loc main_arg1)) (m ((c : Thread nD τ).loc main_arg4)) := by
  refine (dats m 0 c).arrAt_eq_of_cover 16 _ (fun t _ => ?_) (fun i => ?_)
  · rw [Value.flushed16]
    funext y
    have e := idx_out t
    refine (congrArg (out0_16 (F := Ideal) _ _ _ _ _ _ _ _ _ _ _) (tok_in ((cfg0.win 16).xinj (grid0.coords t) y) (y 1 : Fin 1024) (y 2 : Fin 256) rfl rfl)).trans ?_
    refine ((out16 _ _ _ _ _ _ _ _ _ _ _ _ _).trans (plain_pt m c 1408 256 (by norm_num) t _ _)).trans ?_
    exact (congrArg (resP 1408 256 _ _ _ _) (tok_emb t _ e.2.2.2.2.2.2.1 (((cfg0.win 16).blk t).view.emb y) (y 0).val (y 1 : Fin 1024) (y 2 : Fin 256) (y 0).isLt rfl rfl rfl)).symm
  · obtain ⟨t, h⟩ := tok_cov (W := 256) i
    refine ⟨t, flush0_16 t, ?_⟩
    show i ∈ ((View.whole main_v2_6).slice (win0_16.rect t)).set
    rw [View.set_slice_whole, Rect.mem_set_unit]
    exact fun a => h _ (idx_out t).2.2.2.2.2.2.1 a

/-- The array behind the window 17 after the last grid point: its columns of the product. -/
theorem fin17 : (dats m 0 c).arrAt 17 cfg0.N = resP 1664 256 (by norm_num) (m ((c : Thread nD τ).loc main_arg0)) (m ((c : Thread nD τ).loc main_arg1)) (m ((c : Thread nD τ).loc main_arg4)) := by
  refine (dats m 0 c).arrAt_eq_of_cover 17 _ (fun t _ => ?_) (fun i => ?_)
  · rw [Value.flushed17]
    funext y
    have e := idx_out t
    refine (congrArg (out0_17 (F := Ideal) _ _ _ _ _ _ _ _ _ _ _) (tok_in ((cfg0.win 17).xinj (grid0.coords t) y) (y 1 : Fin 1024) (y 2 : Fin 256) rfl rfl)).trans ?_
    refine ((out17 _ _ _ _ _ _ _ _ _ _ _ _ _).trans (plain_pt m c 1664 256 (by norm_num) t _ _)).trans ?_
    exact (congrArg (resP 1664 256 _ _ _ _) (tok_emb t _ e.2.2.2.2.2.2.2.1 (((cfg0.win 17).blk t).view.emb y) (y 0).val (y 1 : Fin 1024) (y 2 : Fin 256) (y 0).isLt rfl rfl rfl)).symm
  · obtain ⟨t, h⟩ := tok_cov (W := 256) i
    refine ⟨t, flush0_17 t, ?_⟩
    show i ∈ ((View.whole main_v2_7).slice (win0_17.rect t)).set
    rw [View.set_slice_whole, Rect.mem_set_unit]
    exact fun a => h _ (idx_out t).2.2.2.2.2.2.2.1 a

/-- The array behind the window 18 after the last grid point: its columns of the product. -/
theorem fin18 : (dats m 0 c).arrAt 18 cfg0.N = resP 1920 512 (by norm_num) (m ((c : Thread nD τ).loc main_arg0)) (m ((c : Thread nD τ).loc main_arg1)) (m ((c : Thread nD τ).loc main_arg4)) := by
  refine (dats m 0 c).arrAt_eq_of_cover 18 _ (fun t _ => ?_) (fun i => ?_)
  · rw [Value.flushed18]
    funext y
    have e := idx_out t
    refine (congrArg (out0_18 (F := Ideal) _ _ _ _ _ _ _ _ _ _ _) (tok_in ((cfg0.win 18).xinj (grid0.coords t) y) (y 1 : Fin 1024) (y 2 : Fin 512) rfl rfl)).trans ?_
    refine ((out18 _ _ _ _ _ _ _ _ _ _ _ _ _).trans (plain_pt m c 1920 512 (by norm_num) t _ _)).trans ?_
    exact (congrArg (resP 1920 512 _ _ _ _) (tok_emb t _ e.2.2.2.2.2.2.2.2.1 (((cfg0.win 18).blk t).view.emb y) (y 0).val (y 1 : Fin 1024) (y 2 : Fin 512) (y 0).isLt rfl rfl rfl)).symm
  · obtain ⟨t, h⟩ := tok_cov (W := 512) i
    refine ⟨t, flush0_18 t, ?_⟩
    show i ∈ ((View.whole main_v2_8).slice (win0_18.rect t)).set
    rw [View.set_slice_whole, Rect.mem_set_unit]
    exact fun a => h _ (idx_out t).2.2.2.2.2.2.2.2.1 a

/-- The array behind the window 19 after the last grid point: its columns of the product. -/
theorem fin19 : (dats m 0 c).arrAt 19 cfg0.N = resP 2432 256 (by norm_num) (m ((c : Thread nD τ).loc main_arg0)) (m ((c : Thread nD τ).loc main_arg1)) (m ((c : Thread nD τ).loc main_arg4)) := by
  refine (dats m 0 c).arrAt_eq_of_cover 19 _ (fun t _ => ?_) (fun i => ?_)
  · rw [Value.flushed19]
    funext y
    have e := idx_out t
    refine (congrArg (out0_19 (F := Ideal) _ _ _ _ _ _ _ _ _ _ _) (tok_in ((cfg0.win 19).xinj (grid0.coords t) y) (y 1 : Fin 1024) (y 2 : Fin 256) rfl rfl)).trans ?_
    refine ((out19 _ _ _ _ _ _ _ _ _ _ _ _ _).trans (plain_pt m c 2432 256 (by norm_num) t _ _)).trans ?_
    exact (congrArg (resP 2432 256 _ _ _ _) (tok_emb t _ e.2.2.2.2.2.2.2.2.2.1 (((cfg0.win 19).blk t).view.emb y) (y 0).val (y 1 : Fin 1024) (y 2 : Fin 256) (y 0).isLt rfl rfl rfl)).symm
  · obtain ⟨t, h⟩ := tok_cov (W := 256) i
    refine ⟨t, flush0_19 t, ?_⟩
    show i ∈ ((View.whole main_v2_9).slice (win0_19.rect t)).set
    rw [View.set_slice_whole, Rect.mem_set_unit]
    exact fun a => h _ (idx_out t).2.2.2.2.2.2.2.2.2.1 a

/-- The array behind the window 20 after the last grid point: its columns of the product. -/
theorem fin20 : (dats m 0 c).arrAt 20 cfg0.N = resP 2688 256 (by norm_num) (m ((c : Thread nD τ).loc main_arg0)) (m ((c : Thread nD τ).loc main_arg1)) (m ((c : Thread nD τ).loc main_arg4)) := by
  refine (dats m 0 c).arrAt_eq_of_cover 20 _ (fun t _ => ?_) (fun i => ?_)
  · rw [Value.flushed20]
    funext y
    have e := idx_out t
    refine (congrArg (out0_20 (F := Ideal) _ _ _ _ _ _ _ _ _ _ _) (tok_in ((cfg0.win 20).xinj (grid0.coords t) y) (y 1 : Fin 1024) (y 2 : Fin 256) rfl rfl)).trans ?_
    refine ((out20 _ _ _ _ _ _ _ _ _ _ _ _ _).trans (plain_pt m c 2688 256 (by norm_num) t _ _)).trans ?_
    exact (congrArg (resP 2688 256 _ _ _ _) (tok_emb t _ e.2.2.2.2.2.2.2.2.2.2 (((cfg0.win 20).blk t).view.emb y) (y 0).val (y 1 : Fin 1024) (y 2 : Fin 256) (y 0).isLt rfl rfl rfl)).symm
  · obtain ⟨t, h⟩ := tok_cov (W := 256) i
    refine ⟨t, flush0_20 t, ?_⟩
    show i ∈ ((View.whole main_v2_10).slice (win0_20.rect t)).set
    rw [View.set_slice_whole, Rect.mem_set_unit]
    exact fun a => h _ (idx_out t).2.2.2.2.2.2.2.2.2.2 a

/-- The reference's unfiltered results are the same arrays. -/
theorem ref_resP {W : ℕ} (o : ℕ) (ho : o + W ≤ 2944) (a0 : FVec Ideal S6x8192x1024 .f32) (a1 : FVec Ideal S1024 .f32) (a4 : FVec Ideal S1024x2944 .bf16)
    (v : (⟨3, ![6, 8192, W]⟩ : Shape).Idx → EReal) (h : ∀ (b : Fin 6) (t : Fin 8192) (j : Fin W), v (ix3 b t j) = rq7 a1 a4 ⟨o + j.val, by omega⟩ (fun k => a0 (ix3 b t k))) :
    v = resP o W ho a0 a1 a4 := by
  funext i
  have hi : i = ix3 (i 0 : Fin 6) (i 1 : Fin 8192) (i 2 : Fin W) := eq_ix3 i
  rw [hi]
  exact h _ _ _

open Cert.Reference7Ideal.Read in
/-- The reference's filtered results are the same arrays. -/
theorem ref_resHX (a0 : FVec Ideal S6x8192x1024 .f32) (a1 : FVec Ideal S1024 .f32) (a2 : FVec Ideal S1024x768 .bf16) (a3 : FVec Ideal S768x4 .f32) (a4 : FVec Ideal S1024x2944 .bf16)
    (a5 : FVec Ideal S3x512 .f32) (a6 : FVec Ideal S1x512 .f32) :
    val_main_v82 (F := Ideal) a0 a1 a2 a3 = resH a0 a1 a2 a3 ∧ val_main_v83 (F := Ideal) a0 a1 a4 a5 a6 = resX a0 a1 a4 a5 a6 := by
  constructor <;> funext i
  · have hi : i = ix3 (i 0 : Fin 6) (i 1 : Fin 768) (i 2 : Fin 8192) := eq_ix3 i
    rw [hi]
    exact ref_conv_hy a0 a1 a2 a3 _ _ _
  · have hi : i = ix3 (i 0 : Fin 6) (i 1 : Fin 8192) (i 2 : Fin 512) := eq_ix3 i
    rw [hi]
    exact ref_conv_p a0 a1 a4 a5 a6 _ _ _

/-- The input projections' call computes its reference over the reals, in all eleven results. -/
theorem claim : Cert.algebraic_Kernel7Ideal_Reference7Ideal (hKernel7Ideal := Cert.Kernel7Ideal.Gen.facts) (hReference7Ideal := Cert.Reference7Ideal.Gen.facts) := by
  intro m g m' g' _ hagree
  refine ⟨_, _, _, _, _, _, _, _, _, _, _, (θ_run _ _ _).mono (fun r h c => ⟨(h c).1.trans (fin10 m c), (h c).2.1.trans (fin11 m c), (h c).2.2.1.trans (fin12 m c), (h c).2.2.2.1.trans (fin13 m c),
      (h c).2.2.2.2.1.trans (fin14 m c), (h c).2.2.2.2.2.1.trans (fin15 m c), (h c).2.2.2.2.2.2.1.trans (fin16 m c), (h c).2.2.2.2.2.2.2.1.trans (fin17 m c),
      (h c).2.2.2.2.2.2.2.2.1.trans (fin18 m c), (h c).2.2.2.2.2.2.2.2.2.1.trans (fin19 m c), (h c).2.2.2.2.2.2.2.2.2.2.1.trans (fin20 m c), (h c).2.2.2.2.2.2.2.2.2.2.2⟩)
      (Cert.Kernel7Ideal.Value.run_blocks m g),
    (θ_run _ _ _).mono (fun r h c => ?_) (Cert.Reference7Ideal.Value.run m' g')⟩
  obtain ⟨h0, h1, h2, h3, h4, h5, h6⟩ := hagree c
  obtain ⟨r0, r1, r2, r3, r4, r5, r6, r7, r8, r9, r10, kept⟩ := h c
  refine ⟨r0.trans ?_, r1.trans ?_, r2.trans ?_, r3.trans ?_, r4.trans ?_, r5.trans ?_, r6.trans ?_, r7.trans ?_, r8.trans ?_, r9.trans ?_, r10.trans ?_, kept⟩
  · refine (Cert.Reference7Ideal.Read.val_main_v82_eq m' c).trans ?_
    rw [h0, h1, h2, h3]
    exact (ref_resHX _ _ _ _ (m ((c : Thread nD τ).loc main_arg4)) (m ((c : Thread nD τ).loc main_arg5)) (m ((c : Thread nD τ).loc main_arg6))).1
  · refine (Cert.Reference7Ideal.Read.val_main_v83_eq m' c).trans ?_
    rw [h0, h1, h4, h5, h6]
    exact (ref_resHX _ _ (m ((c : Thread nD τ).loc main_arg2)) (m ((c : Thread nD τ).loc main_arg3)) _ _ _).2
  · refine (Cert.Reference7Ideal.Read.val_main_v84_eq _ _ _).trans ?_
    rw [h0, h1, h4]
    exact ref_resP 512 _ _ _ _ _ fun b t => (ref_plain _ _ _ b t).1
  · refine (Cert.Reference7Ideal.Read.val_main_v47_eq _ _ _).trans ?_
    rw [h0, h1, h4]
    exact ref_resP 768 _ _ _ _ _ fun b t => (ref_plain _ _ _ b t).2.1
  · refine (Cert.Reference7Ideal.Read.val_main_v85_eq _ _ _).trans ?_
    rw [h0, h1, h4]
    exact ref_resP 896 _ _ _ _ _ fun b t => (ref_plain _ _ _ b t).2.2.1
  · refine (Cert.Reference7Ideal.Read.val_main_v86_eq _ _ _).trans ?_
    rw [h0, h1, h4]
    exact ref_resP 1152 _ _ _ _ _ fun b t => (ref_plain _ _ _ b t).2.2.2.1
  · refine (Cert.Reference7Ideal.Read.val_main_v87_eq _ _ _).trans ?_
    rw [h0, h1, h4]
    exact ref_resP 1408 _ _ _ _ _ fun b t => (ref_plain _ _ _ b t).2.2.2.2.1
  · refine (Cert.Reference7Ideal.Read.val_main_v88_eq _ _ _).trans ?_
    rw [h0, h1, h4]
    exact ref_resP 1664 _ _ _ _ _ fun b t => (ref_plain _ _ _ b t).2.2.2.2.2.1
  · refine (Cert.Reference7Ideal.Read.val_main_v52_eq _ _ _).trans ?_
    rw [h0, h1, h4]
    exact ref_resP 1920 _ _ _ _ _ fun b t => (ref_plain _ _ _ b t).2.2.2.2.2.2.1
  · refine (Cert.Reference7Ideal.Read.val_main_v89_eq _ _ _).trans ?_
    rw [h0, h1, h4]
    exact ref_resP 2432 _ _ _ _ _ fun b t => (ref_plain _ _ _ b t).2.2.2.2.2.2.2.1
  · refine (Cert.Reference7Ideal.Read.val_main_v90_eq _ _ _).trans ?_
    rw [h0, h1, h4]
    exact ref_resP 2688 _ _ _ _ _ fun b t => (ref_plain _ _ _ b t).2.2.2.2.2.2.2.2

end Cert.Inp

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.ReferenceIdeal.Step
public import proofs.«01_k».proof.Proof.Gen.Reference2Ideal.Step
public import proofs.«01_k».proof.Proof.FfnValue
public import proofs.«01_k».proof.Proof.TwoOut
public import proofs.«01_k».proof.Proof.TwoOutIdeal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.TwoInValue
public import proofs.«01_k».proof.Proof.TwoOutValue
public import proofs.«01_k».proof.Proof.MrgValue
public import proofs.«01_k».proof.Proof.SsdValue
public import proofs.«01_k».proof.Proof.InpValue
public import Idealize.ShloMosaic.Adequacy
public import Idealize.ShloMosaic.Init
public import Idealize.ShloMosaic.Lib.Quiescent

@[expose] public section

noncomputable section

namespace Cert.Proof

open Idealize.ShloMosaic Idealize.SL.Sem

/-- The forward reference's frame: its run, every argument kept and no counter left. -/
theorem frame_ri : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The backward reference's frame. -/
theorem frame_ri2 : Cert.quiescent_Reference2Ideal := fun m ρ _ =>
  (θ_run _ _ _).mono (fun r h => ⟨fun c => (h c).2, sem_eq_zero_of_no_sems (by decide) r.2⟩) (Cert.Reference2Ideal.Value.run (F := Ideal) m ρ)

/-- The feed-forward reference's frame. -/
theorem frame_ri3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The merge reference's frame. -/
theorem frame_ri4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The two-input feed-forward reference's frame. -/
theorem frame_ri6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

/-- The two-result feed-forward reference's frame. -/
theorem frame_ri5 : Cert.quiescent_Reference5Ideal := fun m ρ _ =>
  (θ_run _ _ _).mono (fun r h => ⟨fun c => (h c).2.2, sem_eq_zero_of_no_sems (by decide) r.2⟩) (Cert.Reference5Ideal.Value.run (F := Ideal) m ρ)

/-- The input projections' reference's frame. -/
theorem frame_ri7 : Cert.quiescent_Reference7Ideal := fun m ρ _ =>
  (θ_run _ _ _).mono (fun r h => ⟨fun c => (h c).2.2.2.2.2.2.2.2.2.2.2, sem_eq_zero_of_no_sems (by decide) r.2⟩) (Cert.Reference7Ideal.Value.run (F := Ideal) m ρ)

/-- Everything this certificate claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel5.Gen.facts, Cert.Kernel5Ideal.Gen.facts, Cert.Reference5Ideal.Gen.facts,
    Cert.Kernel7.Gen.facts, Cert.Kernel7Ideal.Gen.facts, Cert.Reference7Ideal.Gen.facts, Cert.Ssd.preFacts,
    fun m ρ _ => Cert.Kernel.Gen.frame m ρ, fun m ρ _ => Cert.KernelIdeal.Gen.frame m ρ, fun m ρ _ => Cert.KernelIdeal.Gen.frame m ρ, frame_ri, fun m ρ _ => frame_ri m ρ trivial,
    fun m ρ _ => Cert.Kernel2.Gen.frame m ρ, fun m ρ _ => Cert.Kernel2Ideal.Gen.frame m ρ, frame_ri2,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel6.Gen.frame m ρ, fun m ρ _ => Cert.Kernel6Ideal.Gen.frame m ρ, frame_ri6,
    fun m ρ _ => Cert.Kernel5.Gen.frame m ρ, fun m ρ _ => Cert.Kernel5Ideal.Gen.frame m ρ, frame_ri5,
    fun m ρ _ => Cert.Kernel7.Gen.frame m ρ, fun m ρ _ => Cert.Kernel7Ideal.Gen.frame m ρ, frame_ri7,
    IdealRules.named_const.statement Cert.KernelIdeal.κ "mask" .f32 0xF149F2CA#32 ⊥ rfl, Cert.Ssd.claim,
    IdealRules.named_const.statement Cert.Kernel2Ideal.κ "mask" .f32 0xF149F2CA#32 ⊥ rfl,
    trivial, Cert.Ffn.claim, trivial, Cert.Mrg.claim, trivial, Cert.Ffn.TwoIn.claim, trivial, Cert.Ffn.TwoOut.claim, trivial, Cert.Inp.claim⟩

end Cert.Proof

end
